-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Experts [hPre_grouped : Cert.Pre_grouped.Facts] (m : (ℓ : Loc Cert.Experts.nD Cert.Experts.τ Cert.Experts.sig) → Buf (Elt Bits) ℓ) : Prop :=
  ∀ c : Dev Cert.Experts.nD,
    (Cert.Pre_grouped.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_grouped.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_grouped.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_grouped : Cert.Pre_grouped.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_grouped.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_grouped.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_grouped.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_grouped [hPre_grouped : Cert.Pre_grouped.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_grouped.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_grouped.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.1 = (fun _ => 1#1)
    ∧ (Cert.Pre_grouped.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2.2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_grouped : Cert.Pre_grouped.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_grouped : Cert.Pre_grouped.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_grouped [hExpertsReferenceIdeal : Cert.ExpertsReferenceIdeal.Facts] [hPre_grouped : Cert.Pre_grouped.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_grouped m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_grouped : Cert.Pre_grouped.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v40) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v31) = v0 c
          ∧ r.2.mem ((c.tc : Thread Cert.MemoryReferenceIdeal.nD Cert.MemoryReferenceIdeal.τ).loc Cert.MemoryReferenceIdeal.main_v33) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Projection_ProjectionIdeal : Prop :=
  IdealRules.named_const.Statement Cert.ProjectionIdeal.κ "qscale" .f32 0x3E38AA3B#32 (((8 * (Real.log 2))⁻¹ : ℝ) : EReal)
  ∧ IdealRules.named_const.Statement Cert.ProjectionIdeal.κ "log2e" .f32 0x3FB8AA3B#32 (((Real.log 2)⁻¹ : ℝ) : EReal)

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)) →
    ∃ (v0 : (c : Dev Cert.ProjectionIdeal.nD) → Buf (Elt Ideal) ((c.tc : Thread Cert.ProjectionIdeal.nD Cert.ProjectionIdeal.τ).loc Cert.ProjectionIdeal.main_v35_0)) (v1 : (c : Dev Cert.ProjectionIdeal.nD) → Buf (Elt Ideal) ((c.tc : Thread Cert.ProjectionIdeal.nD Cert.ProjectionIdeal.τ).loc Cert.ProjectionIdeal.main_v35_1)) (v2 : (c : Dev Cert.ProjectionIdeal.nD) → Buf (Elt Ideal) ((c.tc : Thread Cert.ProjectionIdeal.nD Cert.ProjectionIdeal.τ).loc Cert.ProjectionIdeal.main_v35_2)) (v3 : (c : Dev Cert.ProjectionIdeal.nD) → Buf (Elt Ideal) ((c.tc : Thread Cert.ProjectionIdeal.nD Cert.ProjectionIdeal.τ).loc Cert.ProjectionIdeal.main_v35_3)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v35_0) = v0 c
          ∧ r.2.mem ((c.tc : Thread Cert.ProjectionIdeal.nD Cert.ProjectionIdeal.τ).loc Cert.ProjectionIdeal.main_v35_1) = v1 c
          ∧ r.2.mem ((c.tc : Thread Cert.ProjectionIdeal.nD Cert.ProjectionIdeal.τ).loc Cert.ProjectionIdeal.main_v35_2) = v2 c
          ∧ r.2.mem ((c.tc : Thread Cert.ProjectionIdeal.nD Cert.ProjectionIdeal.τ).loc Cert.ProjectionIdeal.main_v35_3) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v57) = v0 c
          ∧ r.2.mem ((c.tc : Thread Cert.ProjectionReferenceIdeal.nD Cert.ProjectionReferenceIdeal.τ).loc Cert.ProjectionReferenceIdeal.main_v59) = v1 c
          ∧ r.2.mem ((c.tc : Thread Cert.ProjectionReferenceIdeal.nD Cert.ProjectionReferenceIdeal.τ).loc Cert.ProjectionReferenceIdeal.main_v61) = v2 c
          ∧ r.2.mem ((c.tc : Thread Cert.ProjectionReferenceIdeal.nD Cert.ProjectionReferenceIdeal.τ).loc Cert.ProjectionReferenceIdeal.main_v65) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMemory : Cert.Memory.Facts) (hMemoryIdeal : Cert.MemoryIdeal.Facts) (hMemoryReferenceIdeal : Cert.MemoryReferenceIdeal.Facts) (hProjection : Cert.Projection.Facts) (hProjectionIdeal : Cert.ProjectionIdeal.Facts) (hProjectionReferenceIdeal : Cert.ProjectionReferenceIdeal.Facts) (hPre_finite : Cert.Pre_finite.Facts) (hPre_grouped : Cert.Pre_grouped.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_grouped := hPre_grouped)
    ∧ quiescent_ExpertsIdeal (hExpertsIdeal := hExpertsIdeal) (hPre_grouped := hPre_grouped)
    ∧ quiescent_ExpertsReferenceIdeal (hExpertsReferenceIdeal := hExpertsReferenceIdeal)
    ∧ quiescent_ExpertsReferenceIdeal_pre_grouped (hExpertsReferenceIdeal := hExpertsReferenceIdeal) (hPre_grouped := hPre_grouped)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_grouped := hPre_grouped)
    ∧ preserves_Memory_MemoryIdeal
    ∧ algebraic_MemoryIdeal_MemoryReferenceIdeal (hMemoryIdeal := hMemoryIdeal) (hMemoryReferenceIdeal := hMemoryReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite.lean ====
abbrev S16x2048x8x64 : Shape := ⟨4, ![16, 2048, 8, 64]⟩
abbrev S16x2048x8 : Shape := ⟨3, ![16, 2048, 8]⟩
abbrev S_ : Shape := ⟨0, ![]⟩

class Facts : Prop where
  bcast_S_S16x2048x8x64 : S_.BroadcastsInDim S16x2048x8x64 (![] : Fin 0 → Fin S16x2048x8x64.rank)
  bcast_S_S16x2048x8 : S_.BroadcastsInDim S16x2048x8 (![] : Fin 0 → Fin S16x2048x8.rank)

variable [Facts]

def fn {F : FTy → Type} [FloatOps F] (main_arg0 : FVec F S16x2048x8x64 .f32) (main_arg1 : FVec F S16x2048x8x64 .f32) (main_arg2 : FVec F S16x2048x8x64 .f32) (main_arg3 : FVec F S16x2048x8 .f32) : IVec S16x2048x8x64 1 × IVec S16x2048x8x64 1 × IVec S16x2048x8 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : FVec F S16x2048x8 .f32 := Host.absf main_arg3
  let main_cst_1 : FVec F S_ .f32 := constant S_ .f32 0x7F800000#32
  let main_v7 : FVec F S16x2048x8 .f32 := broadcastInDim S16x2048x8 ![] bcast_S_S16x2048x8 main_cst_1
  let main_v8 : IVec S16x2048x8 1 := cmpf .olt main_v6 main_v7
  (main_v2, main_v5, main_v8)
-- ==== Pre_grouped.lean ====
abbrev S32 : Shape := ⟨1, ![32]⟩
abbrev S176128x1024 : Shape := ⟨2, ![176128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1 : Shape := ⟨1, ![1]⟩
abbrev S_ : Shape := ⟨0, ![]⟩
abbrev S31 : Shape := ⟨1, ![31]⟩

class Facts : Prop where
  slices_S32_S1_0 : S32.Slices ![0] S1
  shapeCasts_S1_S_ : S1.ShapeCasts S_
  slices_S32_S31_1 : S32.Slices ![1] S31
  slices_S32_S31_0 : S32.Slices ![0] S31
  slices_S32_S1_31 : S32.Slices ![31] S1

variable [Facts]

def fn {F : FTy → Type} [FloatOps F] (main_arg0 : IVec S32 32) (main_arg1 : FVec F S176128x1024 .f32) (main_arg2 : FVec F S32x1024x2048 .f32) (main_arg3 : FVec F S32x2048 .f32) (main_arg4 : FVec F S32x1024x1024 .f32) (main_arg5 : FVec F S32x1024 .f32) : IVec S_ 1 × IVec S31 1 × IVec S_ 1 :=
  let main_v0 : IVec S1 32 := (extractStridedSlice S1 ![0] · slices_S32_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S31 32 := (extractStridedSlice S31 ![1] · slices_S32_S31_1) main_arg0
  let main_v4 : IVec S31 32 := (extractStridedSlice S31 ![0] · slices_S32_S31_0) main_arg0
  let main_v5 : IVec S31 1 := cmpi .sge main_v3 main_v4
  let main_v6 : IVec S1 32 := (extractStridedSlice S1 ![31] · slices_S32_S1_31) main_arg0
  let main_v7 : IVec S_ 32 := shapeCast S_ main_v6 shapeCasts_S1_S_
  let main_c_0 : IVec S_ 32 := constantI S_ 32 344#32
  let main_v8 : IVec S_ 1 := cmpi .sle main_v7 main_c_0
  (main_v2, main_v5, main_v8)
-- ==== Kernel.lean ====
abbrev S16x2048x8x64 : Shape := ⟨4, ![16, 2048, 8, 64]⟩
abbrev S16x2048x8 : Shape := ⟨3, ![16, 2048, 8]⟩
abbrev S_ : Shape := ⟨0, ![]⟩
abbrev S32768x8 : Shape := ⟨2, ![32768, 8]⟩
abbrev S8x32768 : Shape := ⟨2, ![8, 32768]⟩
abbrev S32768x512 : Shape := ⟨2, ![32768, 512]⟩
abbrev S2048x128 : Shape := ⟨2, ![2048, 128]⟩
abbrev S8x2048 : Shape := ⟨2, ![8, 2048]⟩
abbrev S2x2x512x512 : Shape := ⟨4, ![2, 2, 512, 512]⟩
abbrev S1x128 : Shape := ⟨2, ![1, 128]⟩
abbrev S512x512 : Shape := ⟨2, ![512, 512]⟩
abbrev S512x128 : Shape := ⟨2, ![512, 128]⟩
abbrev S1x512 : Shape := ⟨2, ![1, 512]⟩
abbrev S1x1x512x512 : Shape := ⟨4, ![1, 1, 512, 512]⟩
abbrev S512x1 : Shape := ⟨2, ![512, 1]⟩
abbrev S512 : Shape := ⟨1, ![512]⟩

abbrev nBuf : Space → Nat
  | .hbm => 25
  | .vmem => 11
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x8, .f32⟩
  | .hbm, ⟨9, _⟩ => ⟨S16x2048x8, .f32⟩
  | .hbm, ⟨10, _⟩ => ⟨S16x2048x8, .f32⟩
  | .hbm, ⟨11, _⟩ => ⟨S32768x8, .f32⟩
  | .hbm, ⟨12, _⟩ => ⟨S8x32768, .f32⟩
  | .hbm, ⟨13, _⟩ => ⟨S_, .f32⟩
  | .hbm, ⟨14, _⟩ => ⟨S16x2048x8x64, .f32⟩
  | .hbm, ⟨15, _⟩ => ⟨S16x2048x8x64, .f32⟩
  | .hbm, ⟨16, _⟩ => ⟨S16x2048x8x64, .f32⟩
  | .hbm, ⟨17, _⟩ => ⟨S16x2048x8x64, .f32⟩
  | .hbm, ⟨18, _⟩ => ⟨S32768x512, .f32⟩
  | .hbm, ⟨19, _⟩ => ⟨S32768x512, .bf16⟩
  | .hbm, ⟨20, _⟩ => ⟨S32768x512, .f32⟩
  | .hbm, ⟨21, _⟩ => ⟨S32768x512, .bf16⟩
  | .hbm, ⟨22, _⟩ => ⟨S32768x512, .f32⟩
  | .hbm, ⟨23, _⟩ => ⟨S32768x512, .bf16⟩
  | .hbm, ⟨24, _⟩ => ⟨S32768x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S8x2048, .f32⟩
  | .local _ .vmem, ⟨7, _⟩ => ⟨S8x2048, .f32⟩
  | .local _ .vmem, ⟨8, _⟩ => ⟨S2048x128, .bf16⟩
  | .local _ .vmem, ⟨9, _⟩ => ⟨S2048x128, .bf16⟩
  | .local _ .vmem, ⟨10, _⟩ => ⟨S2x2x512x512, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_off1 (i : grid0.Coords) (c0_i32 : BitVec 32) : Fin 2 → Nat :=
  let arg1 : BitVec 32 := BitVec.ofNat 32 (i 1).val
  let c2_i32 : BitVec 32 := 2#32
  let v4 : BitVec 32 := Scalar.muli arg1 c2_i32
  let v5 : BitVec 32 := Scalar.addi v4 c0_i32
  let v27 : Index := Scalar.indexCast v5
  let c0_7 : Index := 0#32
  ![v27.toNat, 0]
def k0_off2 (i : grid0.Coords) (c0_i32 : BitVec 32) : Fin 2 → Nat :=
  let arg1 : BitVec 32 := BitVec.ofNat 32 (i 1).val
  let c2_i32 : BitVec 32 := 2#32
  let v4 : BitVec 32 := Scalar.muli arg1 c2_i32
  let v5 : BitVec 32 := Scalar.addi v4 c0_i32
  let v148 : Index := Scalar.indexCast v5
  let c512_66 : Index := 512#32
  ![v148.toNat, 512]
def k0_off3 (i : grid0.Coords) (c0_i32 : BitVec 32) : Fin 2 → Nat :=
  let arg1 : BitVec 32 := BitVec.ofNat 32 (i 1).val
  let c2_i32 : BitVec 32 := 2#32
  let v4 : BitVec 32 := Scalar.muli arg1 c2_i32
  let v5 : BitVec 32 := Scalar.addi v4 c0_i32
  let v383 : Index := Scalar.indexCast v5
  let c1024_180 : Index := 1024#32
  ![v383.toNat, 1024]
def k0_off4 (i : grid0.Coords) (c0_i32 : BitVec 32) : Fin 2 → Nat :=
  let arg1 : BitVec 32 := BitVec.ofNat 32 (i 1).val
  let c2_i32 : BitVec 32 := 2#32
  let v4 : BitVec 32 := Scalar.muli arg1 c2_i32
  let v5 : BitVec 32 := Scalar.addi v4 c0_i32
  let v684 : Index := Scalar.indexCast v5
  let c1536_324 : Index := 1536#32
  ![v684.toNat, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x8x64 : Shape := ⟨4, ![16, 2048, 8, 64]⟩
abbrev S16x2048x8 : Shape := ⟨3, ![16, 2048, 8]⟩
abbrev S_ : Shape := ⟨0, ![]⟩
abbrev S16x8x2048 : Shape := ⟨3, ![16, 8, 2048]⟩
abbrev S16x8x2048x2048 : Shape := ⟨4, ![16, 8, 2048, 2048]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2048 : Shape := ⟨4, ![16, 8, 64, 2048]⟩
abbrev S32768x512 : Shape := ⟨2, ![32768, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8, .f32⟩
  | .hbm, ⟨4, _⟩ => ⟨S_, .f32⟩
  | .hbm, ⟨5, _⟩ => ⟨S_, .f32⟩
  | .hbm, ⟨6, _⟩ => ⟨S16x2048x8, .f32⟩
  | .hbm, ⟨7, _⟩ => ⟨S16x8x2048, .f32⟩
  | .hbm, ⟨8, _⟩ => ⟨S16x8x2048x2048, .f32⟩
  | .hbm, ⟨9, _⟩ => ⟨S_, .f32⟩
  | .hbm, ⟨10, _⟩ => ⟨S16x8x2048x2048, .f32⟩
  | .hbm, ⟨11, _⟩ => ⟨S16x8x2048x2048, .f32⟩
  | .hbm, ⟨12, _⟩ => ⟨S16x8x2048x1, .f32⟩
  | .hbm, ⟨13, _⟩ => ⟨S16x8x1x2048, .f32⟩
  | .hbm, ⟨14, _⟩ => ⟨S16x8x2048x2048, .f32⟩
  | .hbm, ⟨15, _⟩ => ⟨S16x8x2048x2048, .f32⟩
  | .hbm, ⟨16, _⟩ => ⟨S16x8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S16x8x2048x2048, .f32⟩
  | .hbm, ⟨25, _⟩ => ⟨S_, .f32⟩
  | .hbm, ⟨26, _⟩ => ⟨S_, .f32⟩
  | .hbm, ⟨27, _⟩ => ⟨S16x8x2048x2048, .i1⟩
  | .hbm, ⟨28, _⟩ => ⟨S16x8x2048x2048, .f32⟩
  | .hbm, ⟨29, _⟩ => ⟨S16x8x2048x2048, .f32⟩
  | .hbm, ⟨30, _⟩ => ⟨S_, .f32⟩
  | .hbm, ⟨31, _⟩ => ⟨S16x8x2048, .f32⟩
  | .hbm, ⟨32, _⟩ => ⟨S_, .f32⟩
  | .hbm, ⟨33, _⟩ => ⟨S16x8x2048, .f32⟩
  | .hbm, ⟨34, _⟩ => ⟨S16x8x2048, .f32⟩
  | .hbm, ⟨35, _⟩ => ⟨S16x8x2048x1, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S16x8x2048, .f32⟩
  | .hbm, ⟨41, _⟩ => ⟨S16x8x2048x1, .f32⟩
  | .hbm, ⟨42, _⟩ => ⟨S16x8x2048x2048, .f32⟩
  | .hbm, ⟨43, _⟩ => ⟨S16x8x2048x2048, .f32⟩
  | .hbm, ⟨44, _⟩ => ⟨S16x8x64x2048, .f32⟩
  | .hbm, ⟨45, _⟩ => ⟨S16x2048x8x64, .f32⟩
  | .hbm, ⟨46, _⟩ => ⟨S32768x512, .f32⟩
  | .hbm, ⟨47, _⟩ => ⟨S32768x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Experts.lean ====
abbrev S32 : Shape := ⟨1, ![32]⟩
abbrev S176128x1024 : Shape := ⟨2, ![176128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S2x512x1024 : Shape := ⟨3, ![2, 512, 1024]⟩
abbrev S512x1024 : Shape := ⟨2, ![512, 1024]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 13
  | .smem => 1
  | _ => 0

abbrev bufTy : (tb : Table) → Fin (tcTables nBuf tb) → BufTy
  | .hbm, ⟨0, _⟩ => ⟨S176128x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S176128x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .bf16⟩
  | .local _ .vmem, ⟨9, _⟩ => ⟨S1024x1024, .bf16⟩
  | .local _ .vmem, ⟨10, _⟩ => ⟨S2x512x1024, .f32⟩
  | .local _ .vmem, ⟨11, _⟩ => ⟨S2x512x1024, .f32⟩
  | .local _ .vmem, ⟨12, _⟩ => ⟨S512x1024, .f32⟩
  | .local _ .smem, ⟨0, _⟩ => ⟨S32, .i32⟩
  | _, _ => ⟨S176128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v2 : BitVec 32 := Scalar.subi arg0 c1_i32
  let c0_i32_0 : BitVec 32 := 0#32
  let v3 : BitVec 32 := Scalar.maxsi v2 c0_i32_0
  let v4 : Index := Scalar.indexCast v3
  ![v4.toNat]
def k0_off2 (i : grid0.Coords) : Fin 1 → Nat :=
  let arg0 : BitVec 32 := BitVec.ofNat 32 (i 0).val
  let v7 : Index := Scalar.indexCast arg0
  ![v7.toNat]
def k0_cond1 (i : grid0.Coords) : BitVec 1 :=
  let arg0 : BitVec 32 := BitVec.ofNat 32 (i 0).val
  let c0_i32_2 : BitVec 32 := 0#32
  let v9 : BitVec 1 := Scalar.cmpi .eq arg0 c0_i32_2
  let v10 : BitVec 32 := Scalar.extui v9
  let c0_i32_3 : BitVec 32 := 0#32
  let v11 : BitVec 1 := Scalar.cmpi .ne v10 c0_i32_3
  v11

@[reducible] def k0_t1_loop (v0 : BitVec 32) : Scf.Loop 32 :=
  let c344_i32 : BitVec 32 := 344#32
  let v36 : BitVec 32 := Scalar.subi c344_i32 v0
  let c1_i32_21 : BitVec 32 := 1#32
  let v38 : BitVec 32 := Scalar.divsi v36 c1_i32_21
  let v39 : BitVec 32 := Scalar.muli v38 c1_i32_21
  let v40 : BitVec 32 := Scalar.addi v0 v39
  let c1_i32_22 : BitVec 32 := 1#32
  ⟨v0, v40, c1_i32_22⟩

def k0_mult1 (v0 : BitVec 32) (k0_t1 : Fin (k0_t1_loop v0).trips) : BitVec 32 :=
  let c1_i32_22 : BitVec 32 := 1#32
  let arg16 : BitVec 32 := Scf.iv v0 c1_i32_22 k0_t1
  let c512_i32 : BitVec 32 := 512#32
  let v44 : BitVec 32 := Scalar.muli arg16 c512_i32
  v44
def k0_off3 (v0 : BitVec 32) (k0_t1 : Fin (k0_t1_loop v0).trips) : Fin 2 → Nat :=
  let c1_i32_22 : BitVec 32 := 1#32
  let arg16 : BitVec 32 := Scf.iv v0 c1_i32_22 k0_t1
  let c512_i32 : BitVec 32 := 512#32
  let v44 : BitVec 32 := Scalar.muli arg16 c512_i32
  let v45 : BitVec 32 := v44
  let c0_i32_26 : BitVec 32 := 0#32
  ![v45.toNat, 0]
@[reducible] def k0_t2_loop (v0 : BitVec 32) : Scf.Loop 32 :=
  let c344_i32 : BitVec 32 := 344#32
  let v36 : BitVec 32 := Scalar.subi c344_i32 v0
  let c1_i32_21 : BitVec 32 := 1#32
  let v38 : BitVec 32 := Scalar.divsi v36 c1_i32_21
  let v39 : BitVec 32 := Scalar.muli v38 c1_i32_21
  let v40 : BitVec 32 := Scalar.addi v0 v39
  let v37 : BitVec 32 := Scalar.addi v0 v36
  let c1_i32_23 : BitVec 32 := 1#32
  ⟨v40, v37, c1_i32_23⟩
def k0_mult2 (v0 : BitVec 32) (k0_t2 : Fin (k0_t2_loop v0).trips) : BitVec 32 :=
  let c344_i32 : BitVec 32 := 344#32
  let v36 : BitVec 32 := Scalar.subi c344_i32 v0
  let c1_i32_21 : BitVec 32 := 1#32
  let v38 : BitVec 32 := Scalar.divsi v36 c1_i32_21
  let v39 : BitVec 32 := Scalar.muli v38 c1_i32_21
  let v40 : BitVec 32 := Scalar.addi v0 v39
  let c1_i32_23 : BitVec 32 := 1#32
  let arg16 : BitVec 32 := Scf.iv v40 c1_i32_23 k0_t2
  let c512_i32 : BitVec 32 := 512#32
  let v44 : BitVec 32 := Scalar.muli arg16 c512_i32
  v44
def k0_off4 (v0 : BitVec 32) (k0_t2 : Fin (k0_t2_loop v0).trips) : Fin 2 → Nat :=
  let c344_i32 : BitVec 32 := 344#32
  let v36 : BitVec 32 := Scalar.subi c344_i32 v0
  let c1_i32_21 : BitVec 32 := 1#32
  let v38 : BitVec 32 := Scalar.divsi v36 c1_i32_21
  let v39 : BitVec 32 := Scalar.muli v38 c1_i32_21
  let v40 : BitVec 32 := Scalar.addi v0 v39
  let c1_i32_23 : BitVec 32 := 1#32
  let arg16 : BitVec 32 := Scf.iv v40 c1_i32_23 k0_t2
  let c512_i32 : BitVec 32 := 512#32
  let v44 : BitVec 32 := Scalar.muli arg16 c512_i32
  let v45 : BitVec 32 := v44
  let c0_i32_26 : BitVec 32 := 0#32
  ![v45.toNat, 0]
def k0_mult3 : BitVec 32 :=
  let c0_i32_26 : BitVec 32 := 0#32
  c0_i32_26
@[reducible] def k0_t3_loop (i : grid0.Coords) (v5 : BitVec 32) (v8 : BitVec 32) : Scf.Loop 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_15 : BitVec 32 := 1#32
  ⟨v6, v28, c1_i32_15⟩

def k0_mult4 (i : grid0.Coords) (v5 : BitVec 32) (v8 : BitVec 32) (k0_t3 : Fin (k0_t3_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c512_i32 : BitVec 32 := 512#32
  let v42 : BitVec 32 := Scalar.muli arg16 c512_i32
  v42
def k0_off5 (i : grid0.Coords) (v5 : BitVec 32) (v8 : BitVec 32) (k0_t3 : Fin (k0_t3_loop i v5 v8).trips) : Fin 1 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_29 : BitVec 32 := 2#32
  let c0_i32_30 : BitVec 32 := 0#32
  let v54 : BitVec 1 := Scalar.cmpi .eq c2_i32_29 c0_i32_30
  let c1_i32_31 : BitVec 32 := 1#32
  let v55 : BitVec 32 := Scalar.select v54 c1_i32_31 c2_i32_29
  let v56 : BitVec 32 := Scalar.remsi arg16 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  ![v63.toNat]
def k0_off6 (i : grid0.Coords) (v5 : BitVec 32) (v8 : BitVec 32) (k0_t3 : Fin (k0_t3_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi arg16 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_35 : BitVec 32 := 0#32
  let c0_i32_36 : BitVec 32 := 0#32
  ![v53.toNat, 0, 0]
def k0_off7 (i : grid0.Coords) (v5 : BitVec 32) (v8 : BitVec 32) (k0_t3 : Fin (k0_t3_loop i v5 v8).trips) : Fin 2 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c512_i32 : BitVec 32 := 512#32
  let v42 : BitVec 32 := Scalar.muli arg16 c512_i32
  let v43 : BitVec 32 := v42
  let c0_i32_37 : BitVec 32 := 0#32
  ![v43.toNat, 0]
def k0_mult5 (i : grid0.Coords) (v5 : BitVec 32) (v8 : BitVec 32) (k0_t3 : Fin (k0_t3_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c1_i32_78 : BitVec 32 := 1#32
  let v139 : BitVec 32 := Scalar.addi arg16 c1_i32_78
  let c512_i32_79 : BitVec 32 := 512#32
  let v140 : BitVec 32 := Scalar.muli v139 c512_i32_79
  v140
def k0_cond3 (i : grid0.Coords) (v0 : BitVec 32) (v5 : BitVec 32) (v8 : BitVec 32) (k0_t3 : Fin (k0_t3_loop i v5 v8).trips) : BitVec 1 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c1_i32_38 : BitVec 32 := 1#32
  let v69 : BitVec 32 := Scalar.addi arg16 c1_i32_38
  let v70 : BitVec 1 := Scalar.cmpi .slt v69 v0
  let v71 : BitVec 32 := Scalar.extui v70
  let c0_i32_39 : BitVec 32 := 0#32
  let v72 : BitVec 1 := Scalar.cmpi .ne v71 c0_i32_39
  v72

def k0_off8 (i : grid0.Coords) (v5 : BitVec 32) (v8 : BitVec 32) (k0_t3 : Fin (k0_t3_loop i v5 v8).trips) : Fin 1 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c1_i32_78 : BitVec 32 := 1#32
  let v139 : BitVec 32 := Scalar.addi arg16 c1_i32_78
  let c2_i32_86 : BitVec 32 := 2#32
  let c0_i32_87 : BitVec 32 := 0#32
  let v152 : BitVec 1 := Scalar.cmpi .eq c2_i32_86 c0_i32_87
  let c1_i32_88 : BitVec 32 := 1#32
  let v153 : BitVec 32 := Scalar.select v152 c1_i32_88 c2_i32_86
  let v154 : BitVec 32 := Scalar.remsi v139 v153
  let c0_i32_90 : BitVec 32 := 0#32
  let v156 : BitVec 1 := Scalar.cmpi .slt v154 c0_i32_90
  let c0_i32_91 : BitVec 32 := 0#32
  let v157 : BitVec 1 := Scalar.cmpi .slt v153 c0_i32_91
  let v158 : BitVec 1 := Scalar.xori v156 v157
  let c0_i32_89 : BitVec 32 := 0#32
  let v155 : BitVec 1 := Scalar.cmpi .ne v154 c0_i32_89
  let v159 : BitVec 1 := Scalar.andi v158 v155
  let v160 : BitVec 32 := Scalar.addi v154 v153
  let v161 : BitVec 32 := Scalar.select v159 v160 v154
  ![v161.toNat]
def k0_off9 (i : grid0.Coords) (v5 : BitVec 32) (v8 : BitVec 32) (k0_t3 : Fin (k0_t3_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c1_i32_78 : BitVec 32 := 1#32
  let v139 : BitVec 32 := Scalar.addi arg16 c1_i32_78
  let c2_i32_80 : BitVec 32 := 2#32
  let c0_i32_81 : BitVec 32 := 0#32
  let v142 : BitVec 1 := Scalar.cmpi .eq c2_i32_80 c0_i32_81
  let c1_i32_82 : BitVec 32 := 1#32
  let v143 : BitVec 32 := Scalar.select v142 c1_i32_82 c2_i32_80
  let v144 : BitVec 32 := Scalar.remsi v139 v143
  let c0_i32_84 : BitVec 32 := 0#32
  let v146 : BitVec 1 := Scalar.cmpi .slt v144 c0_i32_84
  let c0_i32_85 : BitVec 32 := 0#32
  let v147 : BitVec 1 := Scalar.cmpi .slt v143 c0_i32_85
  let v148 : BitVec 1 := Scalar.xori v146 v147
  let c0_i32_83 : BitVec 32 := 0#32
  let v145 : BitVec 1 := Scalar.cmpi .ne v144 c0_i32_83
  let v149 : BitVec 1 := Scalar.andi v148 v145
  let v150 : BitVec 32 := Scalar.addi v144 v143
  let v151 : BitVec 32 := Scalar.select v149 v150 v144
  let c0_i32_92 : BitVec 32 := 0#32
  let c0_i32_93 : BitVec 32 := 0#32
  ![v151.toNat, 0, 0]
def k0_off10 (i : grid0.Coords) (v5 : BitVec 32) (v8 : BitVec 32) (k0_t3 : Fin (k0_t3_loop i v5 v8).trips) : Fin 2 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c1_i32_78 : BitVec 32 := 1#32
  let v139 : BitVec 32 := Scalar.addi arg16 c1_i32_78
  let c512_i32_79 : BitVec 32 := 512#32
  let v140 : BitVec 32 := Scalar.muli v139 c512_i32_79
  let v141 : BitVec 32 := v140
  let c0_i32_94 : BitVec 32 := 0#32
  ![v141.toNat, 0]
def k0_mult6 (i : grid0.Coords) (v5 : BitVec 32) (v8 : BitVec 32) (k0_t3 : Fin (k0_t3_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_78 : BitVec 32 := 2#32
  let v139 : BitVec 32 := Scalar.subi arg16 c2_i32_78
  let c512_i32_85 : BitVec 32 := 512#32
  let v150 : BitVec 32 := Scalar.muli v139 c512_i32_85
  v150
def k0_cond4 (i : grid0.Coords) (v5 : BitVec 32) (v8 : BitVec 32) (k0_t3 : Fin (k0_t3_loop i v5 v8).trips) : BitVec 1 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_40 : BitVec 32 := 2#32
  let v73 : BitVec 1 := Scalar.cmpi .sge arg16 c2_i32_40
  let v74 : BitVec 32 := Scalar.extui v73
  let c0_i32_41 : BitVec 32 := 0#32
  let v75 : BitVec 1 := Scalar.cmpi .ne v74 c0_i32_41
  v75

def k0_off11 (i : grid0.Coords) (v5 : BitVec 32) (v8 : BitVec 32) (k0_t3 : Fin (k0_t3_loop i v5 v8).trips) : Fin 1 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_78 : BitVec 32 := 2#32
  let v139 : BitVec 32 := Scalar.subi arg16 c2_i32_78
  let c2_i32_86 : BitVec 32 := 2#32
  let c0_i32_87 : BitVec 32 := 0#32
  let v152 : BitVec 1 := Scalar.cmpi .eq c2_i32_86 c0_i32_87
  let c1_i32_88 : BitVec 32 := 1#32
  let v153 : BitVec 32 := Scalar.select v152 c1_i32_88 c2_i32_86
  let v154 : BitVec 32 := Scalar.remsi v139 v153
  let c0_i32_90 : BitVec 32 := 0#32
  let v156 : BitVec 1 := Scalar.cmpi .slt v154 c0_i32_90
  let c0_i32_91 : BitVec 32 := 0#32
  let v157 : BitVec 1 := Scalar.cmpi .slt v153 c0_i32_91
  let v158 : BitVec 1 := Scalar.xori v156 v157
  let c0_i32_89 : BitVec 32 := 0#32
  let v155 : BitVec 1 := Scalar.cmpi .ne v154 c0_i32_89
  let v159 : BitVec 1 := Scalar.andi v158 v155
  let v160 : BitVec 32 := Scalar.addi v154 v153
  let v161 : BitVec 32 := Scalar.select v159 v160 v154
  ![v161.toNat]
def k0_off12 (i : grid0.Coords) (v5 : BitVec 32) (v8 : BitVec 32) (k0_t3 : Fin (k0_t3_loop i v5 v8).trips) : Fin 2 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_78 : BitVec 32 := 2#32
  let v139 : BitVec 32 := Scalar.subi arg16 c2_i32_78
  let c512_i32_85 : BitVec 32 := 512#32
  let v150 : BitVec 32 := Scalar.muli v139 c512_i32_85
  let v151 : BitVec 32 := v150
  let c0_i32_92 : BitVec 32 := 0#32
  ![v151.toNat, 0]
def k0_off13 (i : grid0.Coords) (v5 : BitVec 32) (v8 : BitVec 32) (k0_t3 : Fin (k0_t3_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32_78 : BitVec 32 := 2#32
  let v139 : BitVec 32 := Scalar.subi arg16 c2_i32_78
  let c2_i32_79 : BitVec 32 := 2#32
  let c0_i32_80 : BitVec 32 := 0#32
  let v140 : BitVec 1 := Scalar.cmpi .eq c2_i32_79 c0_i32_80
  let c1_i32_81 : BitVec 32 := 1#32
  let v141 : BitVec 32 := Scalar.select v140 c1_i32_81 c2_i32_79
  let v142 : BitVec 32 := Scalar.remsi v139 v141
  let c0_i32_83 : BitVec 32 := 0#32
  let v144 : BitVec 1 := Scalar.cmpi .slt v142 c0_i32_83
  let c0_i32_84 : BitVec 32 := 0#32
  let v145 : BitVec 1 := Scalar.cmpi .slt v141 c0_i32_84
  let v146 : BitVec 1 := Scalar.xori v144 v145
  let c0_i32_82 : BitVec 32 := 0#32
  let v143 : BitVec 1 := Scalar.cmpi .ne v142 c0_i32_82
  let v147 : BitVec 1 := Scalar.andi v146 v143
  let v148 : BitVec 32 := Scalar.addi v142 v141
  let v149 : BitVec 32 := Scalar.select v147 v148 v142
  let c0_i32_93 : BitVec 32 := 0#32
  let c0_i32_94 : BitVec 32 := 0#32
  ![v149.toNat, 0, 0]
def k0_off14 (i : grid0.Coords) (v5 : BitVec 32) (v8 : BitVec 32) (k0_t3 : Fin (k0_t3_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c2_i32 : BitVec 32 := 2#32
  let c0_i32_18 : BitVec 32 := 0#32
  let v32 : BitVec 1 := Scalar.cmpi .eq c2_i32 c0_i32_18
  let c1_i32_19 : BitVec 32 := 1#32
  let v33 : BitVec 32 := Scalar.select v32 c1_i32_19 c2_i32
  let v34 : BitVec 32 := Scalar.remsi arg16 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let v76 : Index := Scalar.indexCast v41
  let c0_42 : Index := 0#32
  let c0_43 : Index := 0#32
  ![v76.toNat, 0, 0]
def k0_mult7 (i : grid0.Coords) (v5 : BitVec 32) (v8 : BitVec 32) (k0_t3 : Fin (k0_t3_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let c1_i32_15 : BitVec 32 := 1#32
  let arg16 : BitVec 32 := Scf.iv v6 c1_i32_15 k0_t3
  let c512_i32_68 : BitVec 32 := 512#32
  let v122 : BitVec 32 := Scalar.muli arg16 c512_i32_68
  v122
@[reducible] def k0_t4_loop (i : grid0.Coords) (v5 : BitVec 32) (v8 : BitVec 32) : Scf.Loop 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let v25 : BitVec 32 := Scalar.addi v6 v24
  let c1_i32_16 : BitVec 32 := 1#32
  ⟨v28, v25, c1_i32_16⟩
def k0_mult8 (i : grid0.Coords) (v5 : BitVec 32) (v8 : BitVec 32) (k0_t4 : Fin (k0_t4_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c512_i32 : BitVec 32 := 512#32
  let v42 : BitVec 32 := Scalar.muli arg16 c512_i32
  v42
def k0_off15 (i : grid0.Coords) (v5 : BitVec 32) (v8 : BitVec 32) (k0_t4 : Fin (k0_t4_loop i v5 v8).trips) : Fin 1 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_29 : BitVec 32 := 2#32
  let c0_i32_30 : BitVec 32 := 0#32
  let v54 : BitVec 1 := Scalar.cmpi .eq c2_i32_29 c0_i32_30
  let c1_i32_31 : BitVec 32 := 1#32
  let v55 : BitVec 32 := Scalar.select v54 c1_i32_31 c2_i32_29
  let v56 : BitVec 32 := Scalar.remsi arg16 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  ![v63.toNat]
def k0_off16 (i : grid0.Coords) (v5 : BitVec 32) (v8 : BitVec 32) (k0_t4 : Fin (k0_t4_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi arg16 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_35 : BitVec 32 := 0#32
  let c0_i32_36 : BitVec 32 := 0#32
  ![v53.toNat, 0, 0]
def k0_off17 (i : grid0.Coords) (v5 : BitVec 32) (v8 : BitVec 32) (k0_t4 : Fin (k0_t4_loop i v5 v8).trips) : Fin 2 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c512_i32 : BitVec 32 := 512#32
  let v42 : BitVec 32 := Scalar.muli arg16 c512_i32
  let v43 : BitVec 32 := v42
  let c0_i32_37 : BitVec 32 := 0#32
  ![v43.toNat, 0]
def k0_mult9 (i : grid0.Coords) (v5 : BitVec 32) (v8 : BitVec 32) (k0_t4 : Fin (k0_t4_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c1_i32_78 : BitVec 32 := 1#32
  let v139 : BitVec 32 := Scalar.addi arg16 c1_i32_78
  let c512_i32_79 : BitVec 32 := 512#32
  let v140 : BitVec 32 := Scalar.muli v139 c512_i32_79
  v140
def k0_cond5 (i : grid0.Coords) (v0 : BitVec 32) (v5 : BitVec 32) (v8 : BitVec 32) (k0_t4 : Fin (k0_t4_loop i v5 v8).trips) : BitVec 1 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c1_i32_38 : BitVec 32 := 1#32
  let v69 : BitVec 32 := Scalar.addi arg16 c1_i32_38
  let v70 : BitVec 1 := Scalar.cmpi .slt v69 v0
  let v71 : BitVec 32 := Scalar.extui v70
  let c0_i32_39 : BitVec 32 := 0#32
  let v72 : BitVec 1 := Scalar.cmpi .ne v71 c0_i32_39
  v72

def k0_off18 (i : grid0.Coords) (v5 : BitVec 32) (v8 : BitVec 32) (k0_t4 : Fin (k0_t4_loop i v5 v8).trips) : Fin 1 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c1_i32_78 : BitVec 32 := 1#32
  let v139 : BitVec 32 := Scalar.addi arg16 c1_i32_78
  let c2_i32_86 : BitVec 32 := 2#32
  let c0_i32_87 : BitVec 32 := 0#32
  let v152 : BitVec 1 := Scalar.cmpi .eq c2_i32_86 c0_i32_87
  let c1_i32_88 : BitVec 32 := 1#32
  let v153 : BitVec 32 := Scalar.select v152 c1_i32_88 c2_i32_86
  let v154 : BitVec 32 := Scalar.remsi v139 v153
  let c0_i32_90 : BitVec 32 := 0#32
  let v156 : BitVec 1 := Scalar.cmpi .slt v154 c0_i32_90
  let c0_i32_91 : BitVec 32 := 0#32
  let v157 : BitVec 1 := Scalar.cmpi .slt v153 c0_i32_91
  let v158 : BitVec 1 := Scalar.xori v156 v157
  let c0_i32_89 : BitVec 32 := 0#32
  let v155 : BitVec 1 := Scalar.cmpi .ne v154 c0_i32_89
  let v159 : BitVec 1 := Scalar.andi v158 v155
  let v160 : BitVec 32 := Scalar.addi v154 v153
  let v161 : BitVec 32 := Scalar.select v159 v160 v154
  ![v161.toNat]
def k0_off19 (i : grid0.Coords) (v5 : BitVec 32) (v8 : BitVec 32) (k0_t4 : Fin (k0_t4_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c1_i32_78 : BitVec 32 := 1#32
  let v139 : BitVec 32 := Scalar.addi arg16 c1_i32_78
  let c2_i32_80 : BitVec 32 := 2#32
  let c0_i32_81 : BitVec 32 := 0#32
  let v142 : BitVec 1 := Scalar.cmpi .eq c2_i32_80 c0_i32_81
  let c1_i32_82 : BitVec 32 := 1#32
  let v143 : BitVec 32 := Scalar.select v142 c1_i32_82 c2_i32_80
  let v144 : BitVec 32 := Scalar.remsi v139 v143
  let c0_i32_84 : BitVec 32 := 0#32
  let v146 : BitVec 1 := Scalar.cmpi .slt v144 c0_i32_84
  let c0_i32_85 : BitVec 32 := 0#32
  let v147 : BitVec 1 := Scalar.cmpi .slt v143 c0_i32_85
  let v148 : BitVec 1 := Scalar.xori v146 v147
  let c0_i32_83 : BitVec 32 := 0#32
  let v145 : BitVec 1 := Scalar.cmpi .ne v144 c0_i32_83
  let v149 : BitVec 1 := Scalar.andi v148 v145
  let v150 : BitVec 32 := Scalar.addi v144 v143
  let v151 : BitVec 32 := Scalar.select v149 v150 v144
  let c0_i32_92 : BitVec 32 := 0#32
  let c0_i32_93 : BitVec 32 := 0#32
  ![v151.toNat, 0, 0]
def k0_off20 (i : grid0.Coords) (v5 : BitVec 32) (v8 : BitVec 32) (k0_t4 : Fin (k0_t4_loop i v5 v8).trips) : Fin 2 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c1_i32_78 : BitVec 32 := 1#32
  let v139 : BitVec 32 := Scalar.addi arg16 c1_i32_78
  let c512_i32_79 : BitVec 32 := 512#32
  let v140 : BitVec 32 := Scalar.muli v139 c512_i32_79
  let v141 : BitVec 32 := v140
  let c0_i32_94 : BitVec 32 := 0#32
  ![v141.toNat, 0]
def k0_mult10 (i : grid0.Coords) (v5 : BitVec 32) (v8 : BitVec 32) (k0_t4 : Fin (k0_t4_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_78 : BitVec 32 := 2#32
  let v139 : BitVec 32 := Scalar.subi arg16 c2_i32_78
  let c512_i32_85 : BitVec 32 := 512#32
  let v150 : BitVec 32 := Scalar.muli v139 c512_i32_85
  v150
def k0_cond6 (i : grid0.Coords) (v5 : BitVec 32) (v8 : BitVec 32) (k0_t4 : Fin (k0_t4_loop i v5 v8).trips) : BitVec 1 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_40 : BitVec 32 := 2#32
  let v73 : BitVec 1 := Scalar.cmpi .sge arg16 c2_i32_40
  let v74 : BitVec 32 := Scalar.extui v73
  let c0_i32_41 : BitVec 32 := 0#32
  let v75 : BitVec 1 := Scalar.cmpi .ne v74 c0_i32_41
  v75

def k0_off21 (i : grid0.Coords) (v5 : BitVec 32) (v8 : BitVec 32) (k0_t4 : Fin (k0_t4_loop i v5 v8).trips) : Fin 1 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_78 : BitVec 32 := 2#32
  let v139 : BitVec 32 := Scalar.subi arg16 c2_i32_78
  let c2_i32_86 : BitVec 32 := 2#32
  let c0_i32_87 : BitVec 32 := 0#32
  let v152 : BitVec 1 := Scalar.cmpi .eq c2_i32_86 c0_i32_87
  let c1_i32_88 : BitVec 32 := 1#32
  let v153 : BitVec 32 := Scalar.select v152 c1_i32_88 c2_i32_86
  let v154 : BitVec 32 := Scalar.remsi v139 v153
  let c0_i32_90 : BitVec 32 := 0#32
  let v156 : BitVec 1 := Scalar.cmpi .slt v154 c0_i32_90
  let c0_i32_91 : BitVec 32 := 0#32
  let v157 : BitVec 1 := Scalar.cmpi .slt v153 c0_i32_91
  let v158 : BitVec 1 := Scalar.xori v156 v157
  let c0_i32_89 : BitVec 32 := 0#32
  let v155 : BitVec 1 := Scalar.cmpi .ne v154 c0_i32_89
  let v159 : BitVec 1 := Scalar.andi v158 v155
  let v160 : BitVec 32 := Scalar.addi v154 v153
  let v161 : BitVec 32 := Scalar.select v159 v160 v154
  ![v161.toNat]
def k0_off22 (i : grid0.Coords) (v5 : BitVec 32) (v8 : BitVec 32) (k0_t4 : Fin (k0_t4_loop i v5 v8).trips) : Fin 2 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_78 : BitVec 32 := 2#32
  let v139 : BitVec 32 := Scalar.subi arg16 c2_i32_78
  let c512_i32_85 : BitVec 32 := 512#32
  let v150 : BitVec 32 := Scalar.muli v139 c512_i32_85
  let v151 : BitVec 32 := v150
  let c0_i32_92 : BitVec 32 := 0#32
  ![v151.toNat, 0]
def k0_off23 (i : grid0.Coords) (v5 : BitVec 32) (v8 : BitVec 32) (k0_t4 : Fin (k0_t4_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32_78 : BitVec 32 := 2#32
  let v139 : BitVec 32 := Scalar.subi arg16 c2_i32_78
  let c2_i32_79 : BitVec 32 := 2#32
  let c0_i32_80 : BitVec 32 := 0#32
  let v140 : BitVec 1 := Scalar.cmpi .eq c2_i32_79 c0_i32_80
  let c1_i32_81 : BitVec 32 := 1#32
  let v141 : BitVec 32 := Scalar.select v140 c1_i32_81 c2_i32_79
  let v142 : BitVec 32 := Scalar.remsi v139 v141
  let c0_i32_83 : BitVec 32 := 0#32
  let v144 : BitVec 1 := Scalar.cmpi .slt v142 c0_i32_83
  let c0_i32_84 : BitVec 32 := 0#32
  let v145 : BitVec 1 := Scalar.cmpi .slt v141 c0_i32_84
  let v146 : BitVec 1 := Scalar.xori v144 v145
  let c0_i32_82 : BitVec 32 := 0#32
  let v143 : BitVec 1 := Scalar.cmpi .ne v142 c0_i32_82
  let v147 : BitVec 1 := Scalar.andi v146 v143
  let v148 : BitVec 32 := Scalar.addi v142 v141
  let v149 : BitVec 32 := Scalar.select v147 v148 v142
  let c0_i32_93 : BitVec 32 := 0#32
  let c0_i32_94 : BitVec 32 := 0#32
  ![v149.toNat, 0, 0]
def k0_off24 (i : grid0.Coords) (v5 : BitVec 32) (v8 : BitVec 32) (k0_t4 : Fin (k0_t4_loop i v5 v8).trips) : Fin 3 → Nat :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c2_i32 : BitVec 32 := 2#32
  let c0_i32_18 : BitVec 32 := 0#32
  let v32 : BitVec 1 := Scalar.cmpi .eq c2_i32 c0_i32_18
  let c1_i32_19 : BitVec 32 := 1#32
  let v33 : BitVec 32 := Scalar.select v32 c1_i32_19 c2_i32
  let v34 : BitVec 32 := Scalar.remsi arg16 v33
  let c0_i32_21 : BitVec 32 := 0#32
  let v36 : BitVec 1 := Scalar.cmpi .slt v34 c0_i32_21
  let c0_i32_22 : BitVec 32 := 0#32
  let v37 : BitVec 1 := Scalar.cmpi .slt v33 c0_i32_22
  let v38 : BitVec 1 := Scalar.xori v36 v37
  let c0_i32_20 : BitVec 32 := 0#32
  let v35 : BitVec 1 := Scalar.cmpi .ne v34 c0_i32_20
  let v39 : BitVec 1 := Scalar.andi v38 v35
  let v40 : BitVec 32 := Scalar.addi v34 v33
  let v41 : BitVec 32 := Scalar.select v39 v40 v34
  let v76 : Index := Scalar.indexCast v41
  let c0_42 : Index := 0#32
  let c0_43 : Index := 0#32
  ![v76.toNat, 0, 0]
def k0_mult11 (i : grid0.Coords) (v5 : BitVec 32) (v8 : BitVec 32) (k0_t4 : Fin (k0_t4_loop i v5 v8).trips) : BitVec 32 :=
  let arg0 : BitVec 32 := BitVec.ofNat 32 (i 0).val
  let c0_i32 : BitVec 32 := 0#32
  let v1 : BitVec 1 := Scalar.cmpi .eq arg0 c0_i32
  let c0_i32_1 : BitVec 32 := 0#32
  let v6 : BitVec 32 := Scalar.select v1 c0_i32_1 v5
  let v24 : BitVec 32 := Scalar.subi v8 v6
  let c1_i32_14 : BitVec 32 := 1#32
  let v26 : BitVec 32 := Scalar.divsi v24 c1_i32_14
  let v27 : BitVec 32 := Scalar.muli v26 c1_i32_14
  let v28 : BitVec 32 := Scalar.addi v6 v27
  let c1_i32_16 : BitVec 32 := 1#32
  let arg16 : BitVec 32 := Scf.iv v28 c1_i32_16 k0_t4
  let c512_i32_68 : BitVec 32 := 512#32
  let v122 : BitVec 32 := Scalar.muli arg16 c512_i32_68
  v122

def k0_chk2 (i : grid0.Coords) (v0 : BitVec 32) (v5 : BitVec 32) (v8 : BitVec 32) : Prop :=
  ((k0_t3_loop i v5 v8).OK) ∧
  (∀ k0_t3 : Fin (k0_t3_loop i v5 v8).trips, 512 ∣ (k0_mult4 i v5 v8 k0_t3).toNat) ∧
  (∀ k0_t3 : Fin (k0_t3_loop i v5 v8).trips, ∀ a, (k0_off5 i v5 v8 k0_t3) a + S1.size a ≤ S2.size a) ∧
  (∀ k0_t3 : Fin (k0_t3_loop i v5 v8).trips, ∀ a, (k0_off6 i v5 v8 k0_t3) a + S1x512x1024.size a ≤ S2x512x1024.size a) ∧
  (∀ k0_t3 : Fin (k0_t3_loop i v5 v8).trips, ∀ a, (k0_off7 i v5 v8 k0_t3) a + S512x1024.size a ≤ S176128x1024.size a) ∧
  (∀ k0_t3 : Fin (k0_t3_loop i v5 v8).trips, ∀ (k0_h3 : k0_cond3 i v0 v5 v8 k0_t3 = 1#1), 512 ∣ (k0_mult5 i v5 v8 k0_t3).toNat) ∧
  (∀ k0_t3 : Fin (k0_t3_loop i v5 v8).trips, ∀ (k0_h3 : k0_cond3 i v0 v5 v8 k0_t3 = 1#1), ∀ a, (k0_off8 i v5 v8 k0_t3) a + S1.size a ≤ S2.size a) ∧
  (∀ k0_t3 : Fin (k0_t3_loop i v5 v8).trips, ∀ (k0_h3 : k0_cond3 i v0 v5 v8 k0_t3 = 1#1), ∀ a, (k0_off9 i v5 v8 k0_t3) a + S1x512x1024.size a ≤ S2x512x1024.size a) ∧
  (∀ k0_t3 : Fin (k0_t3_loop i v5 v8).trips, ∀ (k0_h3 : k0_cond3 i v0 v5 v8 k0_t3 = 1#1), ∀ a, (k0_off10 i v5 v8 k0_t3) a + S512x1024.size a ≤ S176128x1024.size a) ∧
  (∀ k0_t3 : Fin (k0_t3_loop i v5 v8).trips, ∀ (k0_h4 : k0_cond4 i v5 v8 k0_t3 = 1#1), 512 ∣ (k0_mult6 i v5 v8 k0_t3).toNat) ∧
  (∀ k0_t3 : Fin (k0_t3_loop i v5 v8).trips, ∀ (k0_h4 : k0_cond4 i v5 v8 k0_t3 = 1#1), ∀ a, (k0_off11 i v5 v8 k0_t3) a + S1.size a ≤ S2.size a) ∧
  (∀ k0_t3 : Fin (k0_t3_loop i v5 v8).trips, ∀ (k0_h4 : k0_cond4 i v5 v8 k0_t3 = 1#1), ∀ a, (k0_off12 i v5 v8 k0_t3) a + S512x1024.size a ≤ S176128x1024.size a) ∧
  (∀ k0_t3 : Fin (k0_t3_loop i v5 v8).trips, ∀ (k0_h4 : k0_cond4 i v5 v8 k0_t3 = 1#1), ∀ a, (k0_off13 i v5 v8 k0_t3) a + S1x512x1024.size a ≤ S2x512x1024.size a) ∧
  (∀ k0_t3 : Fin (k0_t3_loop i v5 v8).trips, ∀ a, (k0_off14 i v5 v8 k0_t3) a + S1x512x1024.size a ≤ S2x512x1024.size a) ∧
  (∀ k0_t3 : Fin (k0_t3_loop i v5 v8).trips, 512 ∣ (k0_mult7 i v5 v8 k0_t3).toNat) ∧
  ((k0_t4_loop i v5 v8).OK) ∧
  (∀ k0_t4 : Fin (k0_t4_loop i v5 v8).trips, 512 ∣ (k0_mult8 i v5 v8 k0_t4).toNat) ∧
  (∀ k0_t4 : Fin (k0_t4_loop i v5 v8).trips, ∀ a, (k0_off15 i v5 v8 k0_t4) a + S1.size a ≤ S2.size a) ∧
  (∀ k0_t4 : Fin (k0_t4_loop i v5 v8).trips, ∀ a, (k0_off16 i v5 v8 k0_t4) a + S1x512x1024.size a ≤ S2x512x1024.size a) ∧
  (∀ k0_t4 : Fin (k0_t4_loop i v5 v8).trips, ∀ a, (k0_off17 i v5 v8 k0_t4) a + S512x1024.size a ≤ S176128x1024.size a) ∧
  (∀ k0_t4 : Fin (k0_t4_loop i v5 v8).trips, ∀ (k0_h5 : k0_cond5 i v0 v5 v8 k0_t4 = 1#1), 512 ∣ (k0_mult9 i v5 v8 k0_t4).toNat) ∧
  (∀ k0_t4 : Fin (k0_t4_loop i v5 v8).trips, ∀ (k0_h5 : k0_cond5 i v0 v5 v8 k0_t4 = 1#1), ∀ a, (k0_off18 i v5 v8 k0_t4) a + S1.size a ≤ S2.size a) ∧
  (∀ k0_t4 : Fin (k0_t4_loop i v5 v8).trips, ∀ (k0_h5 : k0_cond5 i v0 v5 v8 k0_t4 = 1#1), ∀ a, (k0_off19 i v5 v8 k0_t4) a + S1x512x1024.size a ≤ S2x512x1024.size a) ∧
  (∀ k0_t4 : Fin (k0_t4_loop i v5 v8).trips, ∀ (k0_h5 : k0_cond5 i v0 v5 v8 k0_t4 = 1#1), ∀ a, (k0_off20 i v5 v8 k0_t4) a + S512x1024.size a ≤ S176128x1024.size a) ∧
  (∀ k0_t4 : Fin (k0_t4_loop i v5 v8).trips, ∀ (k0_h6 : k0_cond6 i v5 v8 k0_t4 = 1#1), 512 ∣ (k0_mult10 i v5 v8 k0_t4).toNat) ∧
  (∀ k0_t4 : Fin (k0_t4_loop i v5 v8).trips, ∀ (k0_h6 : k0_cond6 i v5 v8 k0_t4 = 1#1), ∀ a, (k0_off21 i v5 v8 k0_t4) a + S1.size a ≤ S2.size a) ∧
  (∀ k0_t4 : Fin (k0_t4_loop i v5 v8).trips, ∀ (k0_h6 : k0_cond6 i v5 v8 k0_t4 = 1#1), ∀ a, (k0_off22 i v5 v8 k0_t4) a + S512x1024.size a ≤ S176128x1024.size a) ∧
  (∀ k0_t4 : Fin (k0_t4_loop i v5 v8).trips, ∀ (k0_h6 : k0_cond6 i v5 v8 k0_t4 = 1#1), ∀ a, (k0_off23 i v5 v8 k0_t4) a + S1x512x1024.size a ≤ S2x512x1024.size a) ∧
  (∀ k0_t4 : Fin (k0_t4_loop i v5 v8).trips, ∀ a, (k0_off24 i v5 v8 k0_t4) a + S1x512x1024.size a ≤ S2x512x1024.size a) ∧
  (∀ k0_t4 : Fin (k0_t4_loop i v5 v8).trips, 512 ∣ (k0_mult11 i v5 v8 k0_t4).toNat)
theorem k0_t3_ok : ∀ (i : grid0.Coords) (v0 : BitVec 32) (v5 : BitVec 32) (v8 : BitVec 32) (k0_hw2 : k0_chk2 i v0 v5 v8), (k0_t3_loop i v5 v8).OK := fun i v0 v5 v8 k0_hw2 => k0_hw2.1
theorem k0_mult4_dvd : ∀ (i : grid0.Coords) (v0 : BitVec 32) (v5 : BitVec 32) (v8 : BitVec 32) (k0_hw2 : k0_chk2 i v0 v5 v8) (k0_t3 : Fin (k0_t3_loop i v5 v8).trips), 512 ∣ (k0_mult4 i v5 v8 k0_t3).toNat := fun i v0 v5 v8 k0_hw2 k0_t3 => k0_hw2.2.1 k0_t3
theorem k0_off5_inb : ∀ (i : grid0.Coords) (v0 : BitVec 32) (v5 : BitVec 32) (v8 : BitVec 32) (k0_hw2 : k0_chk2 i v0 v5 v8) (k0_t3 : Fin (k0_t3_loop i v5 v8).trips), ∀ a, (k0_off5 i v5 v8 k0_t3) a + S1.size a ≤ S2.size a := fun i v0 v5 v8 k0_hw2 k0_t3 => k0_hw2.2.2.1 k0_t3
theorem k0_off6_inb : ∀ (i : grid0.Coords) (v0 : BitVec 32) (v5 : BitVec 32) (v8 : BitVec 32) (k0_hw2 : k0_chk2 i v0 v5 v8) (k0_t3 : Fin (k0_t3_loop i v5 v8).trips), ∀ a, (k0_off6 i v5 v8 k0_t3) a + S1x512x1024.size a ≤ S2x512x1024.size a := fun i v0 v5 v8 k0_hw2 k0_t3 => k0_hw2.2.2.2.1 k0_t3
theorem k0_off7_inb : ∀ (i : grid0.Coords) (v0 : BitVec 32) (v5 : BitVec 32) (v8 : BitVec 32) (k0_hw2 : k0_chk2 i v0 v5 v8) (k0_t3 : Fin (k0_t3_loop i v5 v8).trips), ∀ a, (k0_off7 i v5 v8 k0_t3) a + S512x1024.size a ≤ S176128x1024.size a := fun i v0 v5 v8 k0_hw2 k0_t3 => k0_hw2.2.2.2.2.1 k0_t3
theorem k0_mult5_dvd : ∀ (i : grid0.Coords) (v0 : BitVec 32) (v5 : BitVec 32) (v8 : BitVec 32) (k0_hw2 : k0_chk2 i v0 v5 v8) (k0_t3 : Fin (k0_t3_loop i v5 v8).trips), ∀ (k0_h3 : k0_cond3 i v0 v5 v8 k0_t3 = 1#1), 512 ∣ (k0_mult5 i v5 v8 k0_t3).toNat := fun i v0 v5 v8 k0_hw2 k0_t3 k0_h3 => k0_hw2.2.2.2.2.2.1 k0_t3 k0_h3
theorem k0_off8_inb : ∀ (i : grid0.Coords) (v0 : BitVec 32) (v5 : BitVec 32) (v8 : BitVec 32) (k0_hw2 : k0_chk2 i v0 v5 v8) (k0_t3 : Fin (k0_t3_loop i v5 v8).trips), ∀ (k0_h3 : k0_cond3 i v0 v5 v8 k0_t3 = 1#1), ∀ a, (k0_off8 i v5 v8 k0_t3) a + S1.size a ≤ S2.size a := fun i v0 v5 v8 k0_hw2 k0_t3 k0_h3 => k0_hw2.2.2.2.2.2.2.1 k0_t3 k0_h3
theorem k0_off9_inb : ∀ (i : grid0.Coords) (v0 : BitVec 32) (v5 : BitVec 32) (v8 : BitVec 32) (k0_hw2 : k0_chk2 i v0 v5 v8) (k0_t3 : Fin (k0_t3_loop i v5 v8).trips), ∀ (k0_h3 : k0_cond3 i v0 v5 v8 k0_t3 = 1#1), ∀ a, (k0_off9 i v5 v8 k0_t3) a + S1x512x1024.size a ≤ S2x512x1024.size a := fun i v0 v5 v8 k0_hw2 k0_t3 k0_h3 => k0_hw2.2.2.2.2.2.2.2.1 k0_t3 k0_h3
theorem k0_off10_inb : ∀ (i : grid0.Coords) (v0 : BitVec 32) (v5 : BitVec 32) (v8 : BitVec 32) (k0_hw2 : k0_chk2 i v0 v5 v8) (k0_t3 : Fin (k0_t3_loop i v5 v8).trips), ∀ (k0_h3 : k0_cond3 i v0 v5 v8 k0_t3 = 1#1), ∀ a, (k0_off10 i v5 v8 k0_t3) a + S512x1024.size a ≤ S176128x1024.size a := fun i v0 v5 v8 k0_hw2 k0_t3 k0_h3 => k0_hw2.2.2.2.2.2.2.2.2.1 k0_t3 k0_h3
theorem k0_mult6_dvd : ∀ (i : grid0.Coords) (v0 : BitVec 32) (v5 : BitVec 32) (v8 : BitVec 32) (k0_hw2 : k0_chk2 i v0 v5 v8) (k0_t3 : Fin (k0_t3_loop i v5 v8).trips), ∀ (k0_h4 : k0_cond4 i v5 v8 k0_t3 = 1#1), 512 ∣ (k0_mult6 i v5 v8 k0_t3).toNat := fun i v0 v5 v8 k0_hw2 k0_t3 k0_h4 => k0_hw2.2.2.2.2.2.2.2.2.2.1 k0_t3 k0_h4
theorem k0_off11_inb : ∀ (i : grid0.Coords) (v0 : BitVec 32) (v5 : BitVec 32) (v8 : BitVec 32) (k0_hw2 : k0_chk2 i v0 v5 v8) (k0_t3 : Fin (k0_t3_loop i v5 v8).trips), ∀ (k0_h4 : k0_cond4 i v5 v8 k0_t3 = 1#1), ∀ a, (k0_off11 i v5 v8 k0_t3) a + S1.size a ≤ S2.size a := fun i v0 v5 v8 k0_hw2 k0_t3 k0_h4 => k0_hw2.2.2.2.2.2.2.2.2.2.2.1 k0_t3 k0_h4
theorem k0_off12_inb : ∀ (i : grid0.Coords) (v0 : BitVec 32) (v5 : BitVec 32) (v8 : BitVec 32) (k0_hw2 : k0_chk2 i v0 v5 v8) (k0_t3 : Fin (k0_t3_loop i v5 v8).trips), ∀ (k0_h4 : k0_cond4 i v5 v8 k0_t3 = 1#1), ∀ a, (k0_off12 i v5 v8 k0_t3) a + S512x1024.size a ≤ S176128x1024.size a := fun i v0 v5 v8 k0_hw2 k0_t3 k0_h4 => k0_hw2.2.2.2.2.2.2.2.2.2.2.2.1 k0_t3 k0_h4
theorem k0_off13_inb : ∀ (i : grid0.Coords) (v0 : BitVec 32) (v5 : BitVec 32) (v8 : BitVec 32) (k0_hw2 : k0_chk2 i v0 v5 v8) (k0_t3 : Fin (k0_t3_loop i v5 v8).trips), ∀ (k0_h4 : k0_cond4 i v5 v8 k0_t3 = 1#1), ∀ a, (k0_off13 i v5 v8 k0_t3) a + S1x512x1024.size a ≤ S2x512x1024.size a := fun i v0 v5 v8 k0_hw2 k0_t3 k0_h4 => k0_hw2.2.2.2.2.2.2.2.2.2.2.2.2.1 k0_t3 k0_h4
theorem k0_off14_inb : ∀ (i : grid0.Coords) (v0 : BitVec 32) (v5 : BitVec 32) (v8 : BitVec 32) (k0_hw2 : k0_chk2 i v0 v5 v8) (k0_t3 : Fin (k0_t3_loop i v5 v8).trips), ∀ a, (k0_off14 i v5 v8 k0_t3) a + S1x512x1024.size a ≤ S2x512x1024.size a := fun i v0 v5 v8 k0_hw2 k0_t3 => k0_hw2.2.2.2.2.2.2.2.2.2.2.2.2.2.1 k0_t3
theorem k0_mult7_dvd : ∀ (i : grid0.Coords) (v0 : BitVec 32) (v5 : BitVec 32) (v8 : BitVec 32) (k0_hw2 : k0_chk2 i v0 v5 v8) (k0_t3 : Fin (k0_t3_loop i v5 v8).trips), 512 ∣ (k0_mult7 i v5 v8 k0_t3).toNat := fun i v0 v5 v8 k0_hw2 k0_t3 => k0_hw2.2.2.2.2.2.2.2.2.2.2.2.2.2.2.1 k0_t3
theorem k0_t4_ok : ∀ (i : grid0.Coords) (v0 : BitVec 32) (v5 : BitVec 32) (v8 : BitVec 32) (k0_hw2 : k0_chk2 i v0 v5 v8), (k0_t4_loop i v5 v8).OK := fun i v0 v5 v8 k0_hw2 => k0_hw2.2.2.2.2.2.2.2.2.2.2.2.2.2.2.2.1
theorem k0_mult8_dvd : ∀ (i : grid0.Coords) (v0 : BitVec 32) (v5 : BitVec 32) (v8 : BitVec 32) (k0_hw2 : k0_chk2 i v0 v5 v8) (k0_t4 : Fin (k0_t4_loop i v5 v8).trips), 512 ∣ (k0_mult8 i v5 v8 k0_t4).toNat := fun i v0 v5 v8 k0_hw2 k0_t4 => k0_hw2.2.2.2.2.2.2.2.2.2.2.2.2.2.2.2.2.1 k0_t4
theorem k0_off15_inb : ∀ (i : grid0.Coords) (v0 : BitVec 32) (v5 : BitVec 32) (v8 : BitVec 32) (k0_hw2 : k0_chk2 i v0 v5 v8) (k0_t4 : Fin (k0_t4_loop i v5 v8).trips), ∀ a, (k0_off15 i v5 v8 k0_t4) a + S1.size a ≤ S2.size a := fun i v0 v5 v8 k0_hw2 k0_t4 => k0_hw2.2.2.2.2.2.2.2.2.2.2.2.2.2.2.2.2.2.1 k0_t4
theorem k0_off16_inb : ∀ (i : grid0.Coords) (v0 : BitVec 32) (v5 : BitVec 32) (v8 : BitVec 32) (k0_hw2 : k0_chk2 i v0 v5 v8) (k0_t4 : Fin (k0_t4_loop i v5 v8).trips), ∀ a, (k0_off16 i v5 v8 k0_t4) a + S1x512x1024.size a ≤ S2x512x1024.size a := fun i v0 v5 v8 k0_hw2 k0_t4 => k0_hw2.2.2.2.2.2.2.2.2.2.2.2.2.2.2.2.2.2.2.1 k0_t4
theorem k0_off17_inb : ∀ (i : grid0.Coords) (v0 : BitVec 32) (v5 : BitVec 32) (v8 : BitVec 32) (k0_hw2 : k0_chk2 i v0 v5 v8) (k0_t4 : Fin (k0_t4_loop i v5 v8).trips), ∀ a, (k0_off17 i v5 v8 k0_t4) a + S512x1024.size a ≤ S176128x1024.size a := fun i v0 v5 v8 k0_hw2 k0_t4 => k0_hw2.2.2.2.2.2.2.2.2.2.2.2.2.2.2.2.2.2.2.2.1 k0_t4
theorem k0_mult9_dvd : ∀ (i : grid0.Coords) (v0 : BitVec 32) (v5 : BitVec 32) (v8 : BitVec 32) (k0_hw2 : k0_chk2 i v0 v5 v8) (k0_t4 : Fin (k0_t4_loop i v5 v8).trips), ∀ (k0_h5 : k0_cond5 i v0 v5 v8 k0_t4 = 1#1), 512 ∣ (k0_mult9 i v5 v8 k0_t4).toNat := fun i v0 v5 v8 k0_hw2 k0_t4 k0_h5 => k0_hw2.2.2.2.2.2.2.2.2.2.2.2.2.2.2.2.2.2.2.2.2.1 k0_t4 k0_h5
theorem k0_off18_inb : ∀ (i : grid0.Coords) (v0 : BitVec 32) (v5 : BitVec 32) (v8 : BitVec 32) (k0_hw2 : k0_chk2 i v0 v5 v8) (k0_t4 : Fin (k0_t4_loop i v5 v8).trips), ∀ (k0_h5 : k0_cond5 i v0 v5 v8 k0_t4 = 1#1), ∀ a, (k0_off18 i v5 v8 k0_t4) a + S1.size a ≤ S2.size a := fun i v0 v5 v8 k0_hw2 k0_t4 k0_h5 => k0_hw2.2.2.2.2.2.2.2.2.2.2.2.2.2.2.2.2.2.2.2.2.2.1 k0_t4 k0_h5
theorem k0_off19_inb : ∀ (i : grid0.Coords) (v0 : BitVec 32) (v5 : BitVec 32) (v8 : BitVec 32) (k0_hw2 : k0_chk2 i v0 v5 v8) (k0_t4 : Fin (k0_t4_loop i v5 v8).trips), ∀ (k0_h5 : k0_cond5 i v0 v5 v8 k0_t4 = 1#1), ∀ a, (k0_off19 i v5 v8 k0_t4) a + S1x512x1024.size a ≤ S2x512x1024.size a := fun i v0 v5 v8 k0_hw2 k0_t4 k0_h5 => k0_hw2.2.2.2.2.2.2.2.2.2.2.2.2.2.2.2.2.2.2.2.2.2.2.1 k0_t4 k0_h5
theorem k0_off20_inb : ∀ (i : grid0.Coords) (v0 : BitVec 32) (v5 : BitVec 32) (v8 : BitVec 32) (k0_hw2 : k0_chk2 i v0 v5 v8) (k0_t4 : Fin (k0_t4_loop i v5 v8).trips), ∀ (k0_h5 : k0_cond5 i v0 v5 v8 k0_t4 = 1#1), ∀ a, (k0_off20 i v5 v8 k0_t4) a + S512x1024.size a ≤ S176128x1024.size a := fun i v0 v5 v8 k0_hw2 k0_t4 k0_h5 => k0_hw2.2.2.2.2.2.2.2.2.2.2.2.2.2.2.2.2.2.2.2.2.2.2.2.1 k0_t4 k0_h5
theorem k0_mult10_dvd : ∀ (i : grid0.Coords) (v0 : BitVec 32) (v5 : BitVec 32) (v8 : BitVec 32) (k0_hw2 : k0_chk2 i v0 v5 v8) (k0_t4 : Fin (k0_t4_loop i v5 v8).trips), ∀ (k0_h6 : k0_cond6 i v5 v8 k0_t4 = 1#1), 512 ∣ (k0_mult10 i v5 v8 k0_t4).toNat := fun i v0 v5 v8 k0_hw2 k0_t4 k0_h6 => k0_hw2.2.2.2.2.2.2.2.2.2.2.2.2.2.2.2.2.2.2.2.2.2.2.2.2.1 k0_t4 k0_h6
theorem k0_off21_inb : ∀ (i : grid0.Coords) (v0 : BitVec 32) (v5 : BitVec 32) (v8 : BitVec 32) (k0_hw2 : k0_chk2 i v0 v5 v8) (k0_t4 : Fin (k0_t4_loop i v5 v8).trips), ∀ (k0_h6 : k0_cond6 i v5 v8 k0_t4 = 1#1), ∀ a, (k0_off21 i v5 v8 k0_t4) a + S1.size a ≤ S2.size a := fun i v0 v5 v8 k0_hw2 k0_t4 k0_h6 => k0_hw2.2.2.2.2.2.2.2.2.2.2.2.2.2.2.2.2.2.2.2.2.2.2.2.2.2.1 k0_t4 k0_h6
theorem k0_off22_inb : ∀ (i : grid0.Coords) (v0 : BitVec 32) (v5 : BitVec 32) (v8 : BitVec 32) (k0_hw2 : k0_chk2 i v0 v5 v8) (k0_t4 : Fin (k0_t4_loop i v5 v8).trips), ∀ (k0_h6 : k0_cond6 i v5 v8 k0_t4 = 1#1), ∀ a, (k0_off22 i v5 v8 k0_t4) a + S512x1024.size a ≤ S176128x1024.size a := fun i v0 v5 v8 k0_hw2 k0_t4 k0_h6 => k0_hw2.2.2.2.2.2.2.2.2.2.2.2.2.2.2.2.2.2.2.2.2.2.2.2.2.2.2.1 k0_t4 k0_h6
theorem k0_off23_inb : ∀ (i : grid0.Coords) (v0 : BitVec 32) (v5 : BitVec 32) (v8 : BitVec 32) (k0_hw2 : k0_chk2 i v0 v5 v8) (k0_t4 : Fin (k0_t4_loop i v5 v8).trips), ∀ (k0_h6 : k0_cond6 i v5 v8 k0_t4 = 1#1), ∀ a, (k0_off23 i v5 v8 k0_t4) a + S1x512x1024.size a ≤ S2x512x1024.size a := fun i v0 v5 v8 k0_hw2 k0_t4 k0_h6 => k0_hw2.2.2.2.2.2.2.2.2.2.2.2.2.2.2.2.2.2.2.2.2.2.2.2.2.2.2.2.1 k0_t4 k0_h6
theorem k0_off24_inb : ∀ (i : grid0.Coords) (v0 : BitVec 32) (v5 : BitVec 32) (v8 : BitVec 32) (k0_hw2 : k0_chk2 i v0 v5 v8) (k0_t4 : Fin (k0_t4_loop i v5 v8).trips), ∀ a, (k0_off24 i v5 v8 k0_t4) a + S1x512x1024.size a ≤ S2x512x1024.size a := fun i v0 v5 v8 k0_hw2 k0_t4 => k0_hw2.2.2.2.2.2.2.2.2.2.2.2.2.2.2.2.2.2.2.2.2.2.2.2.2.2.2.2.2.1 k0_t4
theorem k0_mult11_dvd : ∀ (i : grid0.Coords) (v0 : BitVec 32) (v5 : BitVec 32) (v8 : BitVec 32) (k0_hw2 : k0_chk2 i v0 v5 v8) (k0_t4 : Fin (k0_t4_loop i v5 v8).trips), 512 ∣ (k0_mult11 i v5 v8 k0_t4).toNat := fun i v0 v5 v8 k0_hw2 k0_t4 => k0_hw2.2.2.2.2.2.2.2.2.2.2.2.2.2.2.2.2.2.2.2.2.2.2.2.2.2.2.2.2.2 k0_t4

def k0_cond7 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_17 : BitVec 32 := 0#32
  let v31 : BitVec 1 := Scalar.cmpi .ne v30 c0_i32_17
  v31

def k0_mult12 (v0 : BitVec 32) : BitVec 32 :=
  let c2_i32_25 : BitVec 32 := 2#32
  let v43 : BitVec 32 := Scalar.subi v0 c2_i32_25
  let c512_i32 : BitVec 32 := 512#32
  let v54 : BitVec 32 := Scalar.muli v43 c512_i32
  v54
def k0_cond8 (v0 : BitVec 32) : BitVec 1 :=
  let c2_i32 : BitVec 32 := 2#32
  let v32 : BitVec 1 := Scalar.cmpi .sge v0 c2_i32
  let v33 : BitVec 32 := Scalar.extui v32
  let c0_i32_18 : BitVec 32 := 0#32
  let v34 : BitVec 1 := Scalar.cmpi .ne v33 c0_i32_18
  v34

def k0_off25 (v0 : BitVec 32) : Fin 1 → Nat :=
  let c2_i32_25 : BitVec 32 := 2#32
  let v43 : BitVec 32 := Scalar.subi v0 c2_i32_25
  let c2_i32_32 : BitVec 32 := 2#32
  let c0_i32_33 : BitVec 32 := 0#32
  let v56 : BitVec 1 := Scalar.cmpi .eq c2_i32_32 c0_i32_33
  let c1_i32_34 : BitVec 32 := 1#32
  let v57 : BitVec 32 := Scalar.select v56 c1_i32_34 c2_i32_32
  let v58 : BitVec 32 := Scalar.remsi v43 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  ![v65.toNat]
def k0_off26 (v0 : BitVec 32) : Fin 2 → Nat :=
  let c2_i32_25 : BitVec 32 := 2#32
  let v43 : BitVec 32 := Scalar.subi v0 c2_i32_25
  let c512_i32 : BitVec 32 := 512#32
  let v54 : BitVec 32 := Scalar.muli v43 c512_i32
  let v55 : BitVec 32 := v54
  let c0_i32_38 : BitVec 32 := 0#32
  ![v55.toNat, 0]
def k0_off27 (v0 : BitVec 32) : Fin 3 → Nat :=
  let c2_i32_25 : BitVec 32 := 2#32
  let v43 : BitVec 32 := Scalar.subi v0 c2_i32_25
  let c2_i32_26 : BitVec 32 := 2#32
  let c0_i32_27 : BitVec 32 := 0#32
  let v44 : BitVec 1 := Scalar.cmpi .eq c2_i32_26 c0_i32_27
  let c1_i32_28 : BitVec 32 := 1#32
  let v45 : BitVec 32 := Scalar.select v44 c1_i32_28 c2_i32_26
  let v46 : BitVec 32 := Scalar.remsi v43 v45
  let c0_i32_30 : BitVec 32 := 0#32
  let v48 : BitVec 1 := Scalar.cmpi .slt v46 c0_i32_30
  let c0_i32_31 : BitVec 32 := 0#32
  let v49 : BitVec 1 := Scalar.cmpi .slt v45 c0_i32_31
  let v50 : BitVec 1 := Scalar.xori v48 v49
  let c0_i32_29 : BitVec 32 := 0#32
  let v47 : BitVec 1 := Scalar.cmpi .ne v46 c0_i32_29
  let v51 : BitVec 1 := Scalar.andi v50 v47
  let v52 : BitVec 32 := Scalar.addi v46 v45
  let v53 : BitVec 32 := Scalar.select v51 v52 v46
  let c0_i32_39 : BitVec 32 := 0#32
  let c0_i32_40 : BitVec 32 := 0#32
  ![v53.toNat, 0, 0]
def k0_mult13 (v0 : BitVec 32) : BitVec 32 :=
  let c1_i32_25 : BitVec 32 := 1#32
  let v43 : BitVec 32 := Scalar.subi v0 c1_i32_25
  let c512_i32 : BitVec 32 := 512#32
  let v54 : BitVec 32 := Scalar.muli v43 c512_i32
  v54
def k0_cond9 (v0 : BitVec 32) : BitVec 1 :=
  let c1_i32_19 : BitVec 32 := 1#32
  let v35 : BitVec 1 := Scalar.cmpi .sge v0 c1_i32_19
  let v36 : BitVec 32 := Scalar.extui v35
  let c0_i32_20 : BitVec 32 := 0#32
  let v37 : BitVec 1 := Scalar.cmpi .ne v36 c0_i32_20
  v37

def k0_off28 (v0 : BitVec 32) : Fin 1 → Nat :=
  let c1_i32_25 : BitVec 32 := 1#32
  let v43 : BitVec 32 := Scalar.subi v0 c1_i32_25
  let c2_i32_32 : BitVec 32 := 2#32
  let c0_i32_33 : BitVec 32 := 0#32
  let v56 : BitVec 1 := Scalar.cmpi .eq c2_i32_32 c0_i32_33
  let c1_i32_34 : BitVec 32 := 1#32
  let v57 : BitVec 32 := Scalar.select v56 c1_i32_34 c2_i32_32
  let v58 : BitVec 32 := Scalar.remsi v43 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  ![v65.toNat]
def k0_off29 (v0 : BitVec 32) : Fin 2 → Nat :=
  let c1_i32_25 : BitVec 32 := 1#32
  let v43 : BitVec 32 := Scalar.subi v0 c1_i32_25
  let c512_i32 : BitVec 32 := 512#32
  let v54 : BitVec 32 := Scalar.muli v43 c512_i32
  let v55 : BitVec 32 := v54
  let c0_i32_38 : BitVec 32 := 0#32
  ![v55.toNat, 0]
def k0_off30 (v0 : BitVec 32) : Fin 3 → Nat :=
  let c1_i32_25 : BitVec 32 := 1#32
  let v43 : BitVec 32 := Scalar.subi v0 c1_i32_25
  let c2_i32_26 : BitVec 32 := 2#32
  let c0_i32_27 : BitVec 32 := 0#32
  let v44 : BitVec 1 := Scalar.cmpi .eq c2_i32_26 c0_i32_27
  let c1_i32_28 : BitVec 32 := 1#32
  let v45 : BitVec 32 := Scalar.select v44 c1_i32_28 c2_i32_26
  let v46 : BitVec 32 := Scalar.remsi v43 v45
  let c0_i32_30 : BitVec 32 := 0#32
  let v48 : BitVec 1 := Scalar.cmpi .slt v46 c0_i32_30
  let c0_i32_31 : BitVec 32 := 0#32
  let v49 : BitVec 1 := Scalar.cmpi .slt v45 c0_i32_31
  let v50 : BitVec 1 := Scalar.xori v48 v49
  let c0_i32_29 : BitVec 32 := 0#32
  let v47 : BitVec 1 := Scalar.cmpi .ne v46 c0_i32_29
  let v51 : BitVec 1 := Scalar.andi v50 v47
  let v52 : BitVec 32 := Scalar.addi v46 v45
  let v53 : BitVec 32 := Scalar.select v51 v52 v46
  let c0_i32_39 : BitVec 32 := 0#32
  let c0_i32_40 : BitVec 32 := 0#32
  ![v53.toNat, 0, 0]
@[reducible] def k0_t5_loop (v0 : BitVec 32) : Scf.Loop 32 :=
  let c344_i32 : BitVec 32 := 344#32
  let v38 : BitVec 32 := Scalar.subi c344_i32 v0
  let c1_i32_22 : BitVec 32 := 1#32
  let v40 : BitVec 32 := Scalar.divsi v38 c1_i32_22
  let v41 : BitVec 32 := Scalar.muli v40 c1_i32_22
  let v42 : BitVec 32 := Scalar.addi v0 v41
  let c1_i32_23 : BitVec 32 := 1#32
  ⟨v0, v42, c1_i32_23⟩
def k0_mult14 (v0 : BitVec 32) (k0_t5 : Fin (k0_t5_loop v0).trips) : BitVec 32 :=
  let c1_i32_23 : BitVec 32 := 1#32
  let arg16 : BitVec 32 := Scf.iv v0 c1_i32_23 k0_t5
  let c512_i32 : BitVec 32 := 512#32
  let v43 : BitVec 32 := Scalar.muli arg16 c512_i32
  v43
def k0_off31 (v0 : BitVec 32) (k0_t5 : Fin (k0_t5_loop v0).trips) : Fin 2 → Nat :=
  let c1_i32_23 : BitVec 32 := 1#32
  let arg16 : BitVec 32 := Scf.iv v0 c1_i32_23 k0_t5
  let c512_i32 : BitVec 32 := 512#32
  let v43 : BitVec 32 := Scalar.muli arg16 c512_i32
  let v44 : BitVec 32 := v43
  let c0_i32_25 : BitVec 32 := 0#32
  ![v44.toNat, 0]
@[reducible] def k0_t6_loop (v0 : BitVec 32) : Scf.Loop 32 :=
  let c344_i32 : BitVec 32 := 344#32
  let v38 : BitVec 32 := Scalar.subi c344_i32 v0
  let c1_i32_22 : BitVec 32 := 1#32
  let v40 : BitVec 32 := Scalar.divsi v38 c1_i32_22
  let v41 : BitVec 32 := Scalar.muli v40 c1_i32_22
  let v42 : BitVec 32 := Scalar.addi v0 v41
  let v39 : BitVec 32 := Scalar.addi v0 v38
  let c1_i32_24 : BitVec 32 := 1#32
  ⟨v42, v39, c1_i32_24⟩
def k0_mult15 (v0 : BitVec 32) (k0_t6 : Fin (k0_t6_loop v0).trips) : BitVec 32 :=
  let c344_i32 : BitVec 32 := 344#32
  let v38 : BitVec 32 := Scalar.subi c344_i32 v0
  let c1_i32_22 : BitVec 32 := 1#32
  let v40 : BitVec 32 := Scalar.divsi v38 c1_i32_22
  let v41 : BitVec 32 := Scalar.muli v40 c1_i32_22
  let v42 : BitVec 32 := Scalar.addi v0 v41
  let c1_i32_24 : BitVec 32 := 1#32
  let arg16 : BitVec 32 := Scf.iv v42 c1_i32_24 k0_t6
  let c512_i32 : BitVec 32 := 512#32
  let v43 : BitVec 32 := Scalar.muli arg16 c512_i32
  v43
def k0_off32 (v0 : BitVec 32) (k0_t6 : Fin (k0_t6_loop v0).trips) : Fin 2 → Nat :=
  let c344_i32 : BitVec 32 := 344#32
  let v38 : BitVec 32 := Scalar.subi c344_i32 v0
  let c1_i32_22 : BitVec 32 := 1#32
  let v40 : BitVec 32 := Scalar.divsi v38 c1_i32_22
  let v41 : BitVec 32 := Scalar.muli v40 c1_i32_22
  let v42 : BitVec 32 := Scalar.addi v0 v41
  let c1_i32_24 : BitVec 32 := 1#32
  let arg16 : BitVec 32 := Scf.iv v42 c1_i32_24 k0_t6
  let c512_i32 : BitVec 32 := 512#32
  let v43 : BitVec 32 := Scalar.muli arg16 c512_i32
  let v44 : BitVec 32 := v43
  let c0_i32_25 : BitVec 32 := 0#32
  ![v44.toNat, 0]

def k0_chk1 (i : grid0.Coords) (v0 : BitVec 32) : Prop :=
  (∀ (k0_h1 : k0_cond1 i = 1#1), (k0_t1_loop v0).OK) ∧
  (∀ k0_t1 : Fin (k0_t1_loop v0).trips, ∀ (k0_h1 : k0_cond1 i = 1#1), 512 ∣ (k0_mult1 v0 k0_t1).toNat) ∧
  (∀ k0_t1 : Fin (k0_t1_loop v0).trips, ∀ (k0_h1 : k0_cond1 i = 1#1), ∀ a, (k0_off3 v0 k0_t1) a + S512x1024.size a ≤ S176128x1024.size a) ∧
  (∀ (k0_h1 : k0_cond1 i = 1#1), (k0_t2_loop v0).OK) ∧
  (∀ k0_t2 : Fin (k0_t2_loop v0).trips, ∀ (k0_h1 : k0_cond1 i = 1#1), 512 ∣ (k0_mult2 v0 k0_t2).toNat) ∧
  (∀ k0_t2 : Fin (k0_t2_loop v0).trips, ∀ (k0_h1 : k0_cond1 i = 1#1), ∀ a, (k0_off4 v0 k0_t2) a + S512x1024.size a ≤ S176128x1024.size a) ∧
  (∀ (k0_h7 : k0_cond7 i = 1#1), ∀ (k0_h8 : k0_cond8 v0 = 1#1), 512 ∣ (k0_mult12 v0).toNat) ∧
  (∀ (k0_h7 : k0_cond7 i = 1#1), ∀ (k0_h8 : k0_cond8 v0 = 1#1), ∀ a, (k0_off25 v0) a + S1.size a ≤ S2.size a) ∧
  (∀ (k0_h7 : k0_cond7 i = 1#1), ∀ (k0_h8 : k0_cond8 v0 = 1#1), ∀ a, (k0_off26 v0) a + S512x1024.size a ≤ S176128x1024.size a) ∧
  (∀ (k0_h7 : k0_cond7 i = 1#1), ∀ (k0_h8 : k0_cond8 v0 = 1#1), ∀ a, (k0_off27 v0) a + S1x512x1024.size a ≤ S2x512x1024.size a) ∧
  (∀ (k0_h7 : k0_cond7 i = 1#1), ∀ (k0_h9 : k0_cond9 v0 = 1#1), 512 ∣ (k0_mult13 v0).toNat) ∧
  (∀ (k0_h7 : k0_cond7 i = 1#1), ∀ (k0_h9 : k0_cond9 v0 = 1#1), ∀ a, (k0_off28 v0) a + S1.size a ≤ S2.size a) ∧
  (∀ (k0_h7 : k0_cond7 i = 1#1), ∀ (k0_h9 : k0_cond9 v0 = 1#1), ∀ a, (k0_off29 v0) a + S512x1024.size a ≤ S176128x1024.size a) ∧
  (∀ (k0_h7 : k0_cond7 i = 1#1), ∀ (k0_h9 : k0_cond9 v0 = 1#1), ∀ a, (k0_off30 v0) a + S1x512x1024.size a ≤ S2x512x1024.size a) ∧
  (∀ (k0_h7 : k0_cond7 i = 1#1), (k0_t5_loop v0).OK) ∧
  (∀ k0_t5 : Fin (k0_t5_loop v0).trips, ∀ (k0_h7 : k0_cond7 i = 1#1), 512 ∣ (k0_mult14 v0 k0_t5).toNat) ∧
  (∀ k0_t5 : Fin (k0_t5_loop v0).trips, ∀ (k0_h7 : k0_cond7 i = 1#1), ∀ a, (k0_off31 v0 k0_t5) a + S512x1024.size a ≤ S176128x1024.size a) ∧
  (∀ (k0_h7 : k0_cond7 i = 1#1), (k0_t6_loop v0).OK) ∧
  (∀ k0_t6 : Fin (k0_t6_loop v0).trips, ∀ (k0_h7 : k0_cond7 i = 1#1), 512 ∣ (k0_mult15 v0 k0_t6).toNat) ∧
  (∀ k0_t6 : Fin (k0_t6_loop v0).trips, ∀ (k0_h7 : k0_cond7 i = 1#1), ∀ a, (k0_off32 v0 k0_t6) a + S512x1024.size a ≤ S176128x1024.size a)
theorem k0_t1_ok : ∀ (i : grid0.Coords) (v0 : BitVec 32) (k0_hw1 : k0_chk1 i v0), ∀ (k0_h1 : k0_cond1 i = 1#1), (k0_t1_loop v0).OK := fun i v0 k0_hw1 k0_h1 => k0_hw1.1 k0_h1
theorem k0_mult1_dvd : ∀ (i : grid0.Coords) (v0 : BitVec 32) (k0_hw1 : k0_chk1 i v0) (k0_t1 : Fin (k0_t1_loop v0).trips), ∀ (k0_h1 : k0_cond1 i = 1#1), 512 ∣ (k0_mult1 v0 k0_t1).toNat := fun i v0 k0_hw1 k0_t1 k0_h1 => k0_hw1.2.1 k0_t1 k0_h1
theorem k0_off3_inb : ∀ (i : grid0.Coords) (v0 : BitVec 32) (k0_hw1 : k0_chk1 i v0) (k0_t1 : Fin (k0_t1_loop v0).trips), ∀ (k0_h1 : k0_cond1 i = 1#1), ∀ a, (k0_off3 v0 k0_t1) a + S512x1024.size a ≤ S176128x1024.size a := fun i v0 k0_hw1 k0_t1 k0_h1 => k0_hw1.2.2.1 k0_t1 k0_h1
theorem k0_t2_ok : ∀ (i : grid0.Coords) (v0 : BitVec 32) (k0_hw1 : k0_chk1 i v0), ∀ (k0_h1 : k0_cond1 i = 1#1), (k0_t2_loop v0).OK := fun i v0 k0_hw1 k0_h1 => k0_hw1.2.2.2.1 k0_h1
theorem k0_mult2_dvd : ∀ (i : grid0.Coords) (v0 : BitVec 32) (k0_hw1 : k0_chk1 i v0) (k0_t2 : Fin (k0_t2_loop v0).trips), ∀ (k0_h1 : k0_cond1 i = 1#1), 512 ∣ (k0_mult2 v0 k0_t2).toNat := fun i v0 k0_hw1 k0_t2 k0_h1 => k0_hw1.2.2.2.2.1 k0_t2 k0_h1
theorem k0_off4_inb : ∀ (i : grid0.Coords) (v0 : BitVec 32) (k0_hw1 : k0_chk1 i v0) (k0_t2 : Fin (k0_t2_loop v0).trips), ∀ (k0_h1 : k0_cond1 i = 1#1), ∀ a, (k0_off4 v0 k0_t2) a + S512x1024.size a ≤ S176128x1024.size a := fun i v0 k0_hw1 k0_t2 k0_h1 => k0_hw1.2.2.2.2.2.1 k0_t2 k0_h1
theorem k0_mult12_dvd : ∀ (i : grid0.Coords) (v0 : BitVec 32) (k0_hw1 : k0_chk1 i v0), ∀ (k0_h7 : k0_cond7 i = 1#1), ∀ (k0_h8 : k0_cond8 v0 = 1#1), 512 ∣ (k0_mult12 v0).toNat := fun i v0 k0_hw1 k0_h7 k0_h8 => k0_hw1.2.2.2.2.2.2.1 k0_h7 k0_h8
theorem k0_off25_inb : ∀ (i : grid0.Coords) (v0 : BitVec 32) (k0_hw1 : k0_chk1 i v0), ∀ (k0_h7 : k0_cond7 i = 1#1), ∀ (k0_h8 : k0_cond8 v0 = 1#1), ∀ a, (k0_off25 v0) a + S1.size a ≤ S2.size a := fun i v0 k0_hw1 k0_h7 k0_h8 => k0_hw1.2.2.2.2.2.2.2.1 k0_h7 k0_h8
theorem k0_off26_inb : ∀ (i : grid0.Coords) (v0 : BitVec 32) (k0_hw1 : k0_chk1 i v0), ∀ (k0_h7 : k0_cond7 i = 1#1), ∀ (k0_h8 : k0_cond8 v0 = 1#1), ∀ a, (k0_off26 v0) a + S512x1024.size a ≤ S176128x1024.size a := fun i v0 k0_hw1 k0_h7 k0_h8 => k0_hw1.2.2.2.2.2.2.2.2.1 k0_h7 k0_h8
theorem k0_off27_inb : ∀ (i : grid0.Coords) (v0 : BitVec 32) (k0_hw1 : k0_chk1 i v0), ∀ (k0_h7 : k0_cond7 i = 1#1), ∀ (k0_h8 : k0_cond8 v0 = 1#1), ∀ a, (k0_off27 v0) a + S1x512x1024.size a ≤ S2x512x1024.size a := fun i v0 k0_hw1 k0_h7 k0_h8 => k0_hw1.2.2.2.2.2.2.2.2.2.1 k0_h7 k0_h8
theorem k0_mult13_dvd : ∀ (i : grid0.Coords) (v0 : BitVec 32) (k0_hw1 : k0_chk1 i v0), ∀ (k0_h7 : k0_cond7 i = 1#1), ∀ (k0_h9 : k0_cond9 v0 = 1#1), 512 ∣ (k0_mult13 v0).toNat := fun i v0 k0_hw1 k0_h7 k0_h9 => k0_hw1.2.2.2.2.2.2.2.2.2.2.1 k0_h7 k0_h9
theorem k0_off28_inb : ∀ (i : grid0.Coords) (v0 : BitVec 32) (k0_hw1 : k0_chk1 i v0), ∀ (k0_h7 : k0_cond7 i = 1#1), ∀ (k0_h9 : k0_cond9 v0 = 1#1), ∀ a, (k0_off28 v0) a + S1.size a ≤ S2.size a := fun i v0 k0_hw1 k0_h7 k0_h9 => k0_hw1.2.2.2.2.2.2.2.2.2.2.2.1 k0_h7 k0_h9
theorem k0_off29_inb : ∀ (i : grid0.Coords) (v0 : BitVec 32) (k0_hw1 : k0_chk1 i v0), ∀ (k0_h7 : k0_cond7 i = 1#1), ∀ (k0_h9 : k0_cond9 v0 = 1#1), ∀ a, (k0_off29 v0) a + S512x1024.size a ≤ S176128x1024.size a := fun i v0 k0_hw1 k0_h7 k0_h9 => k0_hw1.2.2.2.2.2.2.2.2.2.2.2.2.1 k0_h7 k0_h9
theorem k0_off30_inb : ∀ (i : grid0.Coords) (v0 : BitVec 32) (k0_hw1 : k0_chk1 i v0), ∀ (k0_h7 : k0_cond7 i = 1#1), ∀ (k0_h9 : k0_cond9 v0 = 1#1), ∀ a, (k0_off30 v0) a + S1x512x1024.size a ≤ S2x512x1024.size a := fun i v0 k0_hw1 k0_h7 k0_h9 => k0_hw1.2.2.2.2.2.2.2.2.2.2.2.2.2.1 k0_h7 k0_h9
theorem k0_t5_ok : ∀ (i : grid0.Coords) (v0 : BitVec 32) (k0_hw1 : k0_chk1 i v0), ∀ (k0_h7 : k0_cond7 i = 1#1), (k0_t5_loop v0).OK := fun i v0 k0_hw1 k0_h7 => k0_hw1.2.2.2.2.2.2.2.2.2.2.2.2.2.2.1 k0_h7
theorem k0_mult14_dvd : ∀ (i : grid0.Coords) (v0 : BitVec 32) (k0_hw1 : k0_chk1 i v0) (k0_t5 : Fin (k0_t5_loop v0).trips), ∀ (k0_h7 : k0_cond7 i = 1#1), 512 ∣ (k0_mult14 v0 k0_t5).toNat := fun i v0 k0_hw1 k0_t5 k0_h7 => k0_hw1.2.2.2.2.2.2.2.2.2.2.2.2.2.2.2.1 k0_t5 k0_h7
theorem k0_off31_inb : ∀ (i : grid0.Coords) (v0 : BitVec 32) (k0_hw1 : k0_chk1 i v0) (k0_t5 : Fin (k0_t5_loop v0).trips), ∀ (k0_h7 : k0_cond7 i = 1#1), ∀ a, (k0_off31 v0 k0_t5) a + S512x1024.size a ≤ S176128x1024.size a := fun i v0 k0_hw1 k0_t5 k0_h7 => k0_hw1.2.2.2.2.2.2.2.2.2.2.2.2.2.2.2.2.1 k0_t5 k0_h7
theorem k0_t6_ok : ∀ (i : grid0.Coords) (v0 : BitVec 32) (k0_hw1 : k0_chk1 i v0), ∀ (k0_h7 : k0_cond7 i = 1#1), (k0_t6_loop v0).OK := fun i v0 k0_hw1 k0_h7 => k0_hw1.2.2.2.2.2.2.2.2.2.2.2.2.2.2.2.2.2.1 k0_h7
theorem k0_mult15_dvd : ∀ (i : grid0.Coords) (v0 : BitVec 32) (k0_hw1 : k0_chk1 i v0) (k0_t6 : Fin (k0_t6_loop v0).trips), ∀ (k0_h7 : k0_cond7 i = 1#1), 512 ∣ (k0_mult15 v0 k0_t6).toNat := fun i v0 k0_hw1 k0_t6 k0_h7 => k0_hw1.2.2.2.2.2.2.2.2.2.2.2.2.2.2.2.2.2.2.1 k0_t6 k0_h7
theorem k0_off32_inb : ∀ (i : grid0.Coords) (v0 : BitVec 32) (k0_hw1 : k0_chk1 i v0) (k0_t6 : Fin (k0_t6_loop v0).trips), ∀ (k0_h7 : k0_cond7 i = 1#1), ∀ a, (k0_off32 v0 k0_t6) a + S512x1024.size a ≤ S176128x1024.size a := fun i v0 k0_hw1 k0_t6 k0_h7 => k0_hw1.2.2.2.2.2.2.2.2.2.2.2.2.2.2.2.2.2.2.2 k0_t6 k0_h7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S32 : Shape := ⟨1, ![32]⟩
abbrev S176128x1024 : Shape := ⟨2, ![176128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S176128 : Shape := ⟨1, ![176128]⟩
abbrev S_ : Shape := ⟨0, ![]⟩
abbrev S176128x1 : Shape := ⟨2, ![176128, 1]⟩
abbrev S1x32 : Shape := ⟨2, ![1, 32]⟩
abbrev S176128x32 : Shape := ⟨2, ![176128, 32]⟩
abbrev S32x2048x176128 : Shape := ⟨3, ![32, 2048, 176128]⟩
abbrev S32x176128x2048 : Shape := ⟨3, ![32, 176128, 2048]⟩
abbrev S32x1x2048 : Shape := ⟨3, ![32, 1, 2048]⟩
abbrev S32x176128x1024 : Shape := ⟨3, ![32, 176128, 1024]⟩
abbrev S32x1x1024 : Shape := ⟨3, ![32, 1, 1024]⟩
abbrev S32x176128 : Shape := ⟨2, ![32, 176128]⟩
abbrev S32x176128x1 : Shape := ⟨3, ![32, 176128, 1]⟩

abbrev nBuf : Space → Nat
  | .hbm => 83
  | .vmem => 0
  | .smem => 0
  | _ => 0

abbrev bufTy : (tb : Table) → Fin (tcTables nBuf tb) → BufTy
  | .hbm, ⟨0, _⟩ => ⟨S32, .i32⟩
  | .hbm, ⟨1, _⟩ => ⟨S176128x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S176128, .i32⟩
  | .hbm, ⟨7, _⟩ => ⟨S_, .i32⟩
  | .hbm, ⟨8, _⟩ => ⟨S_, .i32⟩
  | .hbm, ⟨9, _⟩ => ⟨S176128, .i32⟩
  | .hbm, ⟨10, _⟩ => ⟨S176128, .i32⟩
  | .hbm, ⟨11, _⟩ => ⟨S176128, .i32⟩
  | .hbm, ⟨12, _⟩ => ⟨S_, .i32⟩
  | .hbm, ⟨13, _⟩ => ⟨S176128, .i32⟩
  | .hbm, ⟨14, _⟩ => ⟨S176128, .i1⟩
  | .hbm, ⟨15, _⟩ => ⟨S176128, .i32⟩
  | .hbm, ⟨16, _⟩ => ⟨S176128, .i32⟩
  | .hbm, ⟨17, _⟩ => ⟨S_, .i32⟩
  | .hbm, ⟨18, _⟩ => ⟨S176128, .i32⟩
  | .hbm, ⟨19, _⟩ => ⟨S176128, .i1⟩
  | .hbm, ⟨20, _⟩ => ⟨S176128, .i1⟩
  | .hbm, ⟨21, _⟩ => ⟨S_, .i32⟩
  | .hbm, ⟨22, _⟩ => ⟨S176128, .i32⟩
  | .hbm, ⟨23, _⟩ => ⟨S176128, .i32⟩
  | .hbm, ⟨24, _⟩ => ⟨S176128, .i32⟩
  | .hbm, ⟨25, _⟩ => ⟨S176128x1, .i32⟩
  | .hbm, ⟨26, _⟩ => ⟨S1x32, .i32⟩
  | .hbm, ⟨27, _⟩ => ⟨S176128x32, .i32⟩
  | .hbm, ⟨28, _⟩ => ⟨S176128x32, .i32⟩
  | .hbm, ⟨29, _⟩ => ⟨S176128x32, .i1⟩
  | .hbm, ⟨30, _⟩ => ⟨S176128x32, .i32⟩
  | .hbm, ⟨31, _⟩ => ⟨S_, .i32⟩
  | .hbm, ⟨32, _⟩ => ⟨S176128, .i32⟩
  | .hbm, ⟨33, _⟩ => ⟨S176128x1, .i32⟩
  | .hbm, ⟨34, _⟩ => ⟨S1x32, .i32⟩
  | .hbm, ⟨35, _⟩ => ⟨S176128x32, .i32⟩
  | .hbm, ⟨36, _⟩ => ⟨S176128x32, .i32⟩
  | .hbm, ⟨37, _⟩ => ⟨S176128x32, .i1⟩
  | .hbm, ⟨38, _⟩ => ⟨S176128x32, .f32⟩
  | .hbm, ⟨39, _⟩ => ⟨S32x2048x176128, .f32⟩
  | .hbm, ⟨40, _⟩ => ⟨S32x176128x2048, .f32⟩
  | .hbm, ⟨41, _⟩ => ⟨S32x1x2048, .f32⟩
  | .hbm, ⟨42, _⟩ => ⟨S32x176128x2048, .f32⟩
  | .hbm, ⟨43, _⟩ => ⟨S32x176128x2048, .f32⟩
  | .hbm, ⟨44, _⟩ => ⟨S32x176128x1024, .f32⟩
  | .hbm, ⟨45, _⟩ => ⟨S32x176128x1024, .f32⟩
  | .hbm, ⟨46, _⟩ => ⟨S_, .f32⟩
  | .hbm, ⟨47, _⟩ => ⟨S32x176128x1024, .f32⟩
  | .hbm, ⟨48, _⟩ => ⟨S32x176128x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S32x176128x1024, .f32⟩
  | .hbm, ⟨53, _⟩ => ⟨S32x176128x1024, .f32⟩
  | .hbm, ⟨54, _⟩ => ⟨S_, .f32⟩
  | .hbm, ⟨55, _⟩ => ⟨S32x176128x1024, .f32⟩
  | .hbm, ⟨56, _⟩ => ⟨S32x176128x1024, .f32⟩
  | .hbm, ⟨57, _⟩ => ⟨S_, .f32⟩
  | .hbm, ⟨58, _⟩ => ⟨S32x176128x1024, .f32⟩
  | .hbm, ⟨59, _⟩ => ⟨S32x176128x1024, .f32⟩
  | .hbm, ⟨60, _⟩ => ⟨S32x176128x1024, .f32⟩
  | .hbm, ⟨61, _⟩ => ⟨S32x176128x1024, .f32⟩
  | .hbm, ⟨62, _⟩ => ⟨S_, .f32⟩
  | .hbm, ⟨63, _⟩ => ⟨S32x176128x1024, .f32⟩
  | .hbm, ⟨64, _⟩ => ⟨S32x176128x1024, .f32⟩
  | .hbm, ⟨65, _⟩ => ⟨S_, .f32⟩
  | .hbm, ⟨66, _⟩ => ⟨S32x176128x1024, .f32⟩
  | .hbm, ⟨67, _⟩ => ⟨S32x176128x1024, .f32⟩
  | .hbm, ⟨68, _⟩ => ⟨S32x176128x1024, .f32⟩
  | .hbm, ⟨69, _⟩ => ⟨S_, .f32⟩
  | .hbm, ⟨70, _⟩ => ⟨S32x176128x1024, .f32⟩
  | .hbm, ⟨71, _⟩ => ⟨S32x176128x1024, .f32⟩
  | .hbm, ⟨72, _⟩ => ⟨S32x176128x1024, .f32⟩
  | .hbm, ⟨73, _⟩ => ⟨S32x176128x1024, .f32⟩
  | .hbm, ⟨74, _⟩ => ⟨S32x1x1024, .f32⟩
  | .hbm, ⟨75, _⟩ => ⟨S32x176128x1024, .f32⟩
  | .hbm, ⟨76, _⟩ => ⟨S32x176128x1024, .f32⟩
  | .hbm, ⟨77, _⟩ => ⟨S32x176128, .f32⟩
  | .hbm, ⟨78, _⟩ => ⟨S32x176128x1, .f32⟩
  | .hbm, ⟨79, _⟩ => ⟨S32x176128x1024, .f32⟩
  | .hbm, ⟨80, _⟩ => ⟨S32x176128x1024, .f32⟩
  | .hbm, ⟨81, _⟩ => ⟨S_, .f32⟩
  | .hbm, ⟨82, _⟩ => ⟨S176128x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_cst_1 : Ref sig .tc := ⟨.hbm, 49, rfl⟩
abbrev main_cst_2 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v19 : Ref sig .tc := ⟨.hbm, 56, rfl⟩
abbrev main_cst_3 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_4 : Ref sig .tc := ⟨.hbm, 62, rfl⟩
abbrev main_v24 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_7 : Ref sig .tc := ⟨.hbm, 81, rfl⟩
abbrev main_v40 : Ref sig .tc := ⟨.hbm, 82, rfl⟩

abbrev nD : Nat := 1
abbrev τ : Topo := Topo.v7x

variable {F : FTy → Type} [FloatOps F]
-- ==== Memory.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S4096x1024 : Shape := ⟨2, ![4096, 1024]⟩
abbrev S1x1024 : Shape := ⟨2, ![1, 1024]⟩
abbrev S1x128 : Shape := ⟨2, ![1, 128]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 10
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4096x1024, .f32⟩
  | .hbm, ⟨5, _⟩ => ⟨S1x1024, .f32⟩
  | .hbm, ⟨6, _⟩ => ⟨S1024x1024, .bf16⟩
  | .hbm, ⟨7, _⟩ => ⟨S1x128, .f32⟩
  | .hbm, ⟨8, _⟩ => ⟨S4096x512, .bf16⟩
  | .hbm, ⟨9, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryReferenceIdeal.lean ====
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S4096x512 : Shape := ⟨2, ![4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S16x256x1024, .f32⟩
  | .hbm, ⟨21, _⟩ => ⟨S16x256x512, .f32⟩
  | .hbm, ⟨22, _⟩ => ⟨S16x256x512, .f32⟩
  | .hbm, ⟨23, _⟩ => ⟨S16x256x4x128, .f32⟩
  | .hbm, ⟨24, _⟩ => ⟨S16x256x4x128, .f32⟩
  | .hbm, ⟨25, _⟩ => ⟨S_, .f32⟩
  | .hbm, ⟨26, _⟩ => ⟨S16x256x4, .f32⟩
  | .hbm, ⟨27, _⟩ => ⟨S16x256x4x1, .f32⟩
  | .hbm, ⟨28, _⟩ => ⟨S_, .f32⟩
  | .hbm, ⟨29, _⟩ => ⟨S16x256x4x1, .f32⟩
  | .hbm, ⟨30, _⟩ => ⟨S16x256x4x1, .f32⟩
  | .hbm, ⟨31, _⟩ => ⟨S_, .f32⟩
  | .hbm, ⟨32, _⟩ => ⟨S16x256x4x1, .f32⟩
  | .hbm, ⟨33, _⟩ => ⟨S16x256x4x1, .f32⟩
  | .hbm, ⟨34, _⟩ => ⟨S16x256x4x1, .f32⟩
  | .hbm, ⟨35, _⟩ => ⟨S16x256x4x128, .f32⟩
  | .hbm, ⟨36, _⟩ => ⟨S16x256x4x128, .f32⟩
  | .hbm, ⟨37, _⟩ => ⟨S1x1x1x128, .f32⟩
  | .hbm, ⟨38, _⟩ => ⟨S16x256x4x128, .f32⟩
  | .hbm, ⟨39, _⟩ => ⟨S16x256x4x128, .f32⟩
  | .hbm, ⟨40, _⟩ => ⟨S4096x512, .f32⟩
  | .hbm, ⟨41, _⟩ => ⟨S4096x512, .bf16⟩
  | .hbm, ⟨42, _⟩ => ⟨S4096x512, .f32⟩
  | .hbm, ⟨43, _⟩ => ⟨S4096x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Projection.lean ====
abbrev S16x2048x1024 : Shape := ⟨3, ![16, 2048, 1024]⟩
abbrev S1024 : Shape := ⟨1, ![1024]⟩
abbrev S1024x6664 : Shape := ⟨2, ![1024, 6664]⟩
abbrev S8 : Shape := ⟨1, ![8]⟩
abbrev S64 : Shape := ⟨1, ![64]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S32768x1024 : Shape := ⟨2, ![32768, 1024]⟩
abbrev S1x1024 : Shape := ⟨2, ![1, 1024]⟩
abbrev S1x8 : Shape := ⟨2, ![1, 8]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x1 : Shape := ⟨2, ![512, 1]⟩
abbrev S512x512 : Shape := ⟨2, ![512, 512]⟩
abbrev S32768x512 : Shape := ⟨2, ![32768, 512]⟩
abbrev S8x32768 : Shape := ⟨2, ![8, 32768]⟩
abbrev S2048x1024 : Shape := ⟨2, ![2048, 1024]⟩
abbrev S2048x512 : Shape := ⟨2, ![2048, 512]⟩
abbrev S8x2048 : Shape := ⟨2, ![8, 2048]⟩
abbrev S8x128 : Shape := ⟨2, ![8, 128]⟩
abbrev S512x1024 : Shape := ⟨2, ![512, 1024]⟩
abbrev S512x1536 : Shape := ⟨2, ![512, 1536]⟩
abbrev S512x256 : Shape := ⟨2, ![512, 256]⟩
abbrev S512x128 : Shape := ⟨2, ![512, 128]⟩
abbrev S128x512 : Shape := ⟨2, ![128, 512]⟩
abbrev S8x512 : Shape := ⟨2, ![8, 512]⟩

abbrev nBuf : Space → Nat
  | .hbm => 83
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6664, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S1024x1536, .f32⟩
  | .hbm, ⟨7, _⟩ => ⟨S1024x1536, .bf16⟩
  | .hbm, ⟨8, _⟩ => ⟨S1024x8, .f32⟩
  | .hbm, ⟨9, _⟩ => ⟨S_, .f32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S32768x1024, .f32⟩
  | .hbm, ⟨14, _⟩ => ⟨S1x1024, .f32⟩
  | .hbm, ⟨15, _⟩ => ⟨S1x8, .f32⟩
  | .hbm, ⟨16, _⟩ => ⟨S_, .f32⟩
  | .hbm, ⟨17, _⟩ => ⟨S_, .f32⟩
  | .hbm, ⟨18, _⟩ => ⟨S1x128, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S256, .i32⟩
  | .hbm, ⟨28, _⟩ => ⟨S256x1, .i32⟩
  | .hbm, ⟨29, _⟩ => ⟨S_, .i32⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i1⟩
  | .hbm, ⟨42, _⟩ => ⟨S256x1, .i1⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S256, .i32⟩
  | .hbm, ⟨48, _⟩ => ⟨S1x256, .i32⟩
  | .hbm, ⟨49, _⟩ => ⟨S_, .i32⟩
  | .hbm, ⟨50, _⟩ => ⟨S_, .i32⟩
  | .hbm, ⟨51, _⟩ => ⟨S1x256, .i32⟩
  | .hbm, ⟨52, _⟩ => ⟨S1x256, .i32⟩
  | .hbm, ⟨53, _⟩ => ⟨S1x256, .i32⟩
  | .hbm, ⟨54, _⟩ => ⟨S_, .i32⟩
  | .hbm, ⟨55, _⟩ => ⟨S1x256, .i32⟩
  | .hbm, ⟨56, _⟩ => ⟨S1x256, .i1⟩
  | .hbm, ⟨57, _⟩ => ⟨S1x256, .i32⟩
  | .hbm, ⟨58, _⟩ => ⟨S1x256, .i32⟩
  | .hbm, ⟨59, _⟩ => ⟨S_, .i32⟩
  | .hbm, ⟨60, _⟩ => ⟨S1x256, .i32⟩
  | .hbm, ⟨61, _⟩ => ⟨S1x256, .i1⟩
  | .hbm, ⟨62, _⟩ => ⟨S1x256, .i1⟩
  | .hbm, ⟨63, _⟩ => ⟨S_, .i32⟩
  | .hbm, ⟨64, _⟩ => ⟨S1x256, .i32⟩
  | .hbm, ⟨65, _⟩ => ⟨S1x256, .i32⟩
  | .hbm, ⟨66, _⟩ => ⟨S1x256, .i32⟩
  | .hbm, ⟨67, _⟩ => ⟨S256x256, .i32⟩
  | .hbm, ⟨68, _⟩ => ⟨S256x256, .i32⟩
  | .hbm, ⟨69, _⟩ => ⟨S256x256, .i1⟩
  | .hbm, ⟨70, _⟩ => ⟨S256x256, .bf16⟩
  | .hbm, ⟨71, _⟩ => ⟨S512, .i32⟩
  | .hbm, ⟨72, _⟩ => ⟨S512x1, .i32⟩
  | .hbm, ⟨73, _⟩ => ⟨S512, .i32⟩
  | .hbm, ⟨74, _⟩ => ⟨S1x512, .i32⟩
  | .hbm, ⟨75, _⟩ => ⟨S512x512, .i32⟩
  | .hbm, ⟨76, _⟩ => ⟨S512x512, .i32⟩
  | .hbm, ⟨77, _⟩ => ⟨S512x512, .i1⟩
  | .hbm, ⟨78, _⟩ => ⟨S512x512, .bf16⟩
  | .hbm, ⟨79, _⟩ => ⟨S32768x512, .bf16⟩
  | .hbm, ⟨80, _⟩ => ⟨S32768x512, .bf16⟩
  | .hbm, ⟨81, _⟩ => ⟨S32768x512, .bf16⟩
  | .hbm, ⟨82, _⟩ => ⟨S8x32768, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S256x256, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S8x2048, .f32⟩
  | .local _ .vmem, ⟨17, _⟩ => ⟨S8x2048, .f32⟩
  | .local _ .vmem, ⟨18, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_c : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_0 : Ref sig .tc := ⟨.hbm, 63, rfl⟩
abbrev main_call3_v12 : Ref sig .tc := ⟨.hbm, 64, rfl⟩
abbrev main_call3_v13 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35_0 : Ref sig .tc := ⟨.hbm, 79, rfl⟩
abbrev main_v35_1 : Ref sig .tc := ⟨.hbm, 80, rfl⟩
abbrev main_v35_2 : Ref sig .tc := ⟨.hbm, 81, rfl⟩
abbrev main_v35_3 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjectionIdeal.lean ====
variable {F : FTy → Type} [FloatOps F] [Named F]
def κ : String → Option EReal := fun
  | "log2e" => some (((Real.log 2)⁻¹ : ℝ) : EReal)
  | "qscale" => some (((8 * (Real.log 2))⁻¹ : ℝ) : EReal)
  | _ => none
-- ==== ProjectionReferenceIdeal.lean ====
abbrev S16x2048x1024 : Shape := ⟨3, ![16, 2048, 1024]⟩
abbrev S1024 : Shape := ⟨1, ![1024]⟩
abbrev S1024x6664 : Shape := ⟨2, ![1024, 6664]⟩
abbrev S8 : Shape := ⟨1, ![8]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6664 : Shape := ⟨3, ![16, 2048, 6664]⟩
abbrev S16x2048x512 : Shape := ⟨3, ![16, 2048, 512]⟩
abbrev S16x2048x8 : Shape := ⟨3, ![16, 2048, 8]⟩
abbrev S16x2048x8x64 : Shape := ⟨4, ![16, 2048, 8, 64]⟩
abbrev S16x2048x8x1 : Shape := ⟨4, ![16, 2048, 8, 1]⟩
abbrev S1x1x1x64 : Shape := ⟨4, ![1, 1, 1, 64]⟩
abbrev S1x1x8 : Shape := ⟨3, ![1, 1, 8]⟩
abbrev S32768x512 : Shape := ⟨2, ![32768, 512]⟩
abbrev S32768x8 : Shape := ⟨2, ![32768, 8]⟩
abbrev S8x32768 : Shape := ⟨2, ![8, 32768]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6664, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x6664, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x8, .f32⟩
  | .hbm, ⟨27, _⟩ => ⟨S16x2048x8x64, .f32⟩
  | .hbm, ⟨28, _⟩ => ⟨S16x2048x8x64, .f32⟩
  | .hbm, ⟨29, _⟩ => ⟨S_, .f32⟩
  | .hbm, ⟨30, _⟩ => ⟨S16x2048x8, .f32⟩
  | .hbm, ⟨31, _⟩ => ⟨S16x2048x8x1, .f32⟩
  | .hbm, ⟨32, _⟩ => ⟨S_, .f32⟩
  | .hbm, ⟨33, _⟩ => ⟨S16x2048x8x1, .f32⟩
  | .hbm, ⟨34, _⟩ => ⟨S16x2048x8x1, .f32⟩
  | .hbm, ⟨35, _⟩ => ⟨S_, .f32⟩
  | .hbm, ⟨36, _⟩ => ⟨S16x2048x8x1, .f32⟩
  | .hbm, ⟨37, _⟩ => ⟨S16x2048x8x1, .f32⟩
  | .hbm, ⟨38, _⟩ => ⟨S16x2048x8x1, .f32⟩
  | .hbm, ⟨39, _⟩ => ⟨S16x2048x8x64, .f32⟩
  | .hbm, ⟨40, _⟩ => ⟨S16x2048x8x64, .f32⟩
  | .hbm, ⟨41, _⟩ => ⟨S1x1x1x64, .f32⟩
  | .hbm, ⟨42, _⟩ => ⟨S16x2048x8x64, .f32⟩
  | .hbm, ⟨43, _⟩ => ⟨S16x2048x8x64, .f32⟩
  | .hbm, ⟨44, _⟩ => ⟨S16x2048x8x64, .f32⟩
  | .hbm, ⟨45, _⟩ => ⟨S16x2048x8x64, .f32⟩
  | .hbm, ⟨46, _⟩ => ⟨S_, .f32⟩
  | .hbm, ⟨47, _⟩ => ⟨S16x2048x8, .f32⟩
  | .hbm, ⟨48, _⟩ => ⟨S16x2048x8x1, .f32⟩
  | .hbm, ⟨49, _⟩ => ⟨S_, .f32⟩
  | .hbm, ⟨50, _⟩ => ⟨S16x2048x8x1, .f32⟩
  | .hbm, ⟨51, _⟩ => ⟨S16x2048x8x1, .f32⟩
  | .hbm, ⟨52, _⟩ => ⟨S_, .f32⟩
  | .hbm, ⟨53, _⟩ => ⟨S16x2048x8x1, .f32⟩
  | .hbm, ⟨54, _⟩ => ⟨S16x2048x8x1, .f32⟩
  | .hbm, ⟨55, _⟩ => ⟨S16x2048x8x1, .f32⟩
  | .hbm, ⟨56, _⟩ => ⟨S16x2048x8x64, .f32⟩
  | .hbm, ⟨57, _⟩ => ⟨S16x2048x8x64, .f32⟩
  | .hbm, ⟨58, _⟩ => ⟨S1x1x1x64, .f32⟩
  | .hbm, ⟨59, _⟩ => ⟨S16x2048x8x64, .f32⟩
  | .hbm, ⟨60, _⟩ => ⟨S16x2048x8x64, .f32⟩
  | .hbm, ⟨61, _⟩ => ⟨S1x1x8, .f32⟩
  | .hbm, ⟨62, _⟩ => ⟨S16x2048x8, .f32⟩
  | .hbm, ⟨63, _⟩ => ⟨S16x2048x8, .f32⟩
  | .hbm, ⟨64, _⟩ => ⟨S16x2048x8, .f32⟩
  | .hbm, ⟨65, _⟩ => ⟨S_, .f32⟩
  | .hbm, ⟨66, _⟩ => ⟨S16x2048x8, .f32⟩
  | .hbm, ⟨67, _⟩ => ⟨S16x2048x8, .f32⟩
  | .hbm, ⟨68, _⟩ => ⟨S16x2048x8, .f32⟩
  | .hbm, ⟨69, _⟩ => ⟨S16x2048x8, .f32⟩
  | .hbm, ⟨70, _⟩ => ⟨S16x2048x8, .i1⟩
  | .hbm, ⟨71, _⟩ => ⟨S16x2048x8, .f32⟩
  | .hbm, ⟨72, _⟩ => ⟨S16x2048x8, .f32⟩
  | .hbm, ⟨73, _⟩ => ⟨S16x2048x8, .f32⟩
  | .hbm, ⟨74, _⟩ => ⟨S16x2048x8, .f32⟩
  | .hbm, ⟨75, _⟩ => ⟨S16x2048x8, .f32⟩
  | .hbm, ⟨76, _⟩ => ⟨S16x2048x8, .f32⟩
  | .hbm, ⟨77, _⟩ => ⟨S16x2048x8, .f32⟩
  | .hbm, ⟨78, _⟩ => ⟨S16x2048x8, .f32⟩
  | .hbm, ⟨79, _⟩ => ⟨S16x2048x8, .f32⟩
  | .hbm, ⟨80, _⟩ => ⟨S_, .f32⟩
  | .hbm, ⟨81, _⟩ => ⟨S_, .f32⟩
  | .hbm, ⟨82, _⟩ => ⟨S16x2048x8, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x2048x8x64, .f32⟩
  | .hbm, ⟨87, _⟩ => ⟨S16x2048x8x64, .f32⟩
  | .hbm, ⟨88, _⟩ => ⟨S16x2048x8x64, .f32⟩
  | .hbm, ⟨89, _⟩ => ⟨S16x2048x8x64, .f32⟩
  | .hbm, ⟨90, _⟩ => ⟨S32768x512, .f32⟩
  | .hbm, ⟨91, _⟩ => ⟨S32768x512, .bf16⟩
  | .hbm, ⟨92, _⟩ => ⟨S32768x512, .f32⟩
  | .hbm, ⟨93, _⟩ => ⟨S32768x512, .bf16⟩
  | .hbm, ⟨94, _⟩ => ⟨S32768x512, .f32⟩
  | .hbm, ⟨95, _⟩ => ⟨S32768x512, .bf16⟩
  | .hbm, ⟨96, _⟩ => ⟨S16x2048x8, .f32⟩
  | .hbm, ⟨97, _⟩ => ⟨S16x2048x8, .f32⟩
  | .hbm, ⟨98, _⟩ => ⟨S32768x8, .f32⟩
  | .hbm, ⟨99, _⟩ => ⟨S8x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_v0 : Ref sig .tc := ⟨.hbm, 64, rfl⟩
abbrev main_call0_call0_cst : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_call0_v5 : Ref sig .tc := ⟨.hbm, 71, rfl⟩
abbrev main_call0_call0_v6 : Ref sig .tc := ⟨.hbm, 72, rfl⟩
abbrev main_call0_call0_v7 : Ref sig .tc := ⟨.hbm, 73, rfl⟩
abbrev main_call0_call0_v8 : Ref sig .tc := ⟨.hbm, 74, rfl⟩
abbrev main_call0_call0_v9 : Ref sig .tc := ⟨.hbm, 75, rfl⟩
abbrev main_call0_call0_v10 : Ref sig .tc := ⟨.hbm, 76, rfl⟩
abbrev main_call0_call0_v11 : Ref sig .tc := ⟨.hbm, 77, rfl⟩
abbrev main_call0_v1 : Ref sig .tc := ⟨.hbm, 78, rfl⟩
abbrev main_v49 : Ref sig .tc := ⟨.hbm, 79, rfl⟩
abbrev main_call1_call0_cst : Ref sig .tc := ⟨.hbm, 80, rfl⟩
abbrev main_call1_call0_v0 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Proof.Words.lean ====
/-
  The words of the experts call read as numbers. A table of expert bounds that never decreases and ends at 344 or
  less makes every word small, so each printed offset, guard and trip count has a plain closed form in the tile's
  number, and the two side conditions the body assumes of the words it reads hold.
-/
module

public import proofs.«01_k».proof.Proof.Gen.ExpertsIdeal.Skeleton
public import proofs.«01_k».proof.Proof.Gen.ExpertsIdeal.Loops
public import proofs.«01_k».proof.Proof.Gen.ExpertsIdeal.Launch
public import Idealize.ShloMosaic.Lib.Affine
public import Idealize.ShloMosaic.Lib.Ring

@[expose] public section

namespace Cert.Proof.Grouped

open Cert.ExpertsIdeal Cert.ExpertsIdeal.Gen
open Idealize.ShloMosaic Idealize.ShloMosaic.TcCoe

/-- The first tile of the expert at a grid point: the end of the expert before it, and tile 0 at the first point. -/
abbrev first (i : grid0.Coords) (v5 : BitVec 32) : BitVec 32 :=
  Scalar.select (Scalar.cmpi .eq (BitVec.ofNat 32 (i 0).val) 0#32) 0#32 v5

/-- The schedule at a grid point: the tiles in use, the expert's first tile and its end, in order. -/
structure Sched (i : grid0.Coords) (v0 v5 v8 : BitVec 32) : Prop where
  used : v0.toNat ≤ 344
  start : (first i v5).toNat ≤ v8.toNat
  stop : v8.toNat ≤ v0.toNat

theorem toInt_small {v : BitVec 32} (h : v.toNat ≤ 1000) : v.toInt = v.toNat := by
  have hc := BitVec.toInt_eq_toNat_cond v; split at hc <;> omega

theorem isInt_small {v : BitVec 32} (h : v.toNat ≤ 1000) : Affine.IsInt v v.toNat := by
  have := Affine.word v; rwa [toInt_small h] at this

theorem sub_one_add {a b : BitVec 32} (ha : a.toNat ≤ b.toNat) (hb : b.toNat ≤ 1000) :
    Scalar.addi a (Scalar.muli (Scalar.divsi (Scalar.subi b a) 1#32) 1#32) = b := by
  have h1 : Affine.IsInt (Scalar.subi b a) ((b.toNat : Int) - a.toNat) :=
    Affine.subi (isInt_small hb) (isInt_small (by omega)) ⟨rfl, by omega, by omega⟩
  have h2 := Affine.divsi_one h1 (Affine.ofNat (e := 1) 1 ⟨rfl, by decide⟩) ⟨rfl, rfl⟩
  have h3 := Affine.muli (e := (b.toNat : Int) - a.toNat) h2 (Affine.ofNat (e := 1) 1 ⟨rfl, by decide⟩) ⟨by omega, by omega, by omega⟩
  have h4 := Affine.addi (e := (b.toNat : Int)) (isInt_small (v := a) (by omega)) h3 ⟨by omega, by omega, by omega⟩
  rw [Affine.eq_of h4 b.toNat rfl]; simp

theorem add_sub {a b : BitVec 32} : Scalar.addi a (Scalar.subi b a) = b := by
  show a + (b - a) = b
  rw [BitVec.add_comm, BitVec.sub_add_cancel]

theorem trips_small {a b : BitVec 32} (hb : b.toNat ≤ 1000) (ha : a.toNat ≤ b.toNat) : Scf.trips a b 1#32 = b.toNat - a.toNat := by
  unfold Scf.trips
  rw [toInt_small hb, toInt_small (show a.toNat ≤ 1000 by omega), show (1#32 : BitVec 32).toInt = 1 from by decide]
  omega

theorem iv_eq (a : BitVec 32) (k : ℕ) (h : a.toNat + k ≤ 1000) : Scf.iv a 1#32 k = BitVec.ofNat 32 (a.toNat + k) := by
  apply BitVec.eq_of_toNat_eq
  unfold Scf.iv
  rw [BitVec.toNat_add, BitVec.toNat_mul, BitVec.toNat_ofNat, BitVec.toNat_ofNat, BitVec.toNat_ofNat]
  omega

/-- The printed remainder by two, rounded down. -/
abbrev modw (w : BitVec 32) : BitVec 32 :=
  Scalar.select (Scalar.andi (Scalar.xori (Scalar.cmpi .slt (Scalar.remsi w (Scalar.select (Scalar.cmpi .eq 2#32 0#32) 1#32 2#32)) 0#32)
      (Scalar.cmpi .slt (Scalar.select (Scalar.cmpi .eq 2#32 0#32) 1#32 2#32) 0#32))
    (Scalar.cmpi .ne (Scalar.remsi w (Scalar.select (Scalar.cmpi .eq 2#32 0#32) 1#32 2#32)) 0#32))
    (Scalar.addi (Scalar.remsi w (Scalar.select (Scalar.cmpi .eq 2#32 0#32) 1#32 2#32)) (Scalar.select (Scalar.cmpi .eq 2#32 0#32) 1#32 2#32))
    (Scalar.remsi w (Scalar.select (Scalar.cmpi .eq 2#32 0#32) 1#32 2#32))

theorem mod_fin : ∀ n : Fin 350, (modw (BitVec.ofNat 32 n.val)).toNat = n.val % 2 := by decide +kernel
theorem mul_fin : ∀ n : Fin 350, (Scalar.muli (BitVec.ofNat 32 n.val) 512#32).toNat = n.val * 512 := by decide +kernel
theorem add_fin : ∀ n : Fin 350, Scalar.addi (BitVec.ofNat 32 n.val) 1#32 = BitVec.ofNat 32 (n.val + 1) := by decide +kernel
theorem sub_fin : ∀ n : Fin 350, 2 ≤ n.val → Scalar.subi (BitVec.ofNat 32 n.val) 2#32 = BitVec.ofNat 32 (n.val - 2) := by decide +kernel
theorem sub1_fin : ∀ n : Fin 350, 1 ≤ n.val → Scalar.subi (BitVec.ofNat 32 n.val) 1#32 = BitVec.ofNat 32 (n.val - 1) := by decide +kernel

theorem mod_word (n : ℕ) (h : n < 350) : (modw (BitVec.ofNat 32 n)).toNat = n % 2 := mod_fin ⟨n, h⟩
theorem mul_word (n : ℕ) (h : n < 350) : (Scalar.muli (BitVec.ofNat 32 n) 512#32).toNat = n * 512 := mul_fin ⟨n, h⟩
theorem add_word (n : ℕ) (h : n < 350) : Scalar.addi (BitVec.ofNat 32 n) 1#32 = BitVec.ofNat 32 (n + 1) := add_fin ⟨n, h⟩
theorem sub_word (n : ℕ) (h : n < 350) (h2 : 2 ≤ n) : Scalar.subi (BitVec.ofNat 32 n) 2#32 = BitVec.ofNat 32 (n - 2) := sub_fin ⟨n, h⟩ h2
theorem sub1_word (n : ℕ) (h : n < 350) (h2 : 1 ≤ n) : Scalar.subi (BitVec.ofNat 32 n) 1#32 = BitVec.ofNat 32 (n - 1) := sub1_fin ⟨n, h⟩ h2

theorem small_toNat (n : ℕ) (h : n ≤ 1000) : (BitVec.ofNat 32 n).toNat = n := by rw [BitVec.toNat_ofNat]; omega
theorem of_toNat (v : BitVec 32) : BitVec.ofNat 32 v.toNat = v := by simp

theorem guard_slt (a b : BitVec 32) (ha : a.toNat ≤ 1000) (hb : b.toNat ≤ 1000) :
    Scalar.cmpi .ne (Scalar.extui (Scalar.cmpi .slt a b)) 0#32 = 1#1 ↔ a.toNat < b.toNat := by
  rw [Scalar.guard_iff]; show IntOp.cmpi .slt a b = 1#1 ↔ _
  rw [IntOp.cmpi_slt, toInt_small ha, toInt_small hb]; omega
theorem guard_sge (a b : BitVec 32) (ha : a.toNat ≤ 1000) (hb : b.toNat ≤ 1000) :
    Scalar.cmpi .ne (Scalar.extui (Scalar.cmpi .sge a b)) 0#32 = 1#1 ↔ b.toNat ≤ a.toNat := by
  rw [Scalar.guard_iff]; show IntOp.cmpi .sge a b = 1#1 ↔ _
  rw [IntOp.cmpi_sge, toInt_small ha, toInt_small hb]; omega

/-! ## The block, slot and cell offsets -/

abbrev blkOff (b : Fin 344) : Fin 2 → ℕ := ![b.val * 512, 0]
abbrev slotOff (s : Fin 2) : Fin 3 → ℕ := ![s.val, 0, 0]
abbrev semOff (s : Fin 2) : Fin 1 → ℕ := ![s.val]

theorem blkOff_inb (b : Fin 344) : ∀ a, blkOff b a + S512x1024.size a ≤ S176128x1024.size a := by
  have := b.isLt; intro a; fin_cases a
  · show b.val * 512 + 512 ≤ 176128; omega
  · show 0 + 1024 ≤ 1024; omega
theorem slotOff_inb (s : Fin 2) : ∀ a, slotOff s a + S1x512x1024.size a ≤ S2x512x1024.size a := by
  have := s.isLt; intro a; fin_cases a
  · show s.val + 1 ≤ 2; omega
  · show 0 + 512 ≤ 512; omega
  · show 0 + 1024 ≤ 1024; omega
theorem semOff_inb (s : Fin 2) : ∀ a, semOff s a + S1.size a ≤ S2.size a := by
  have := s.isLt; intro a; fin_cases a; show s.val + 1 ≤ 2; omega

theorem sl_val (n : ℕ) : (Ring.sl 2 n).val = n % 2 := by simp [Ring.sl, Fin.ofNat]

theorem blk_of (w : BitVec 32) (n : ℕ) (hn : n < 344) (h : w = BitVec.ofNat 32 n) :
    (![(Scalar.muli w 512#32).toNat, 0] : Fin 2 → ℕ) = blkOff (Ring.bk 344 n) := by
  rw [h, mul_word n (by omega)]; unfold blkOff; rw [Ring.bk_val hn]
theorem slot_of (w : BitVec 32) (n : ℕ) (hn : n < 350) (h : w = BitVec.ofNat 32 n) :
    (![(modw w).toNat, 0, 0] : Fin 3 → ℕ) = slotOff (Ring.sl 2 n) := by
  rw [h, mod_word n hn]; unfold slotOff; rw [sl_val]
theorem sem_of (w : BitVec 32) (n : ℕ) (hn : n < 350) (h : w = BitVec.ofNat 32 n) :
    (![(modw w).toNat] : Fin 1 → ℕ) = semOff (Ring.sl 2 n) := by
  rw [h, mod_word n hn]; unfold semOff; rw [sl_val]
theorem mult_of (w : BitVec 32) (n : ℕ) (hn : n < 350) (h : w = BitVec.ofNat 32 n) : 512 ∣ (Scalar.muli w 512#32).toNat := by
  rw [h, mul_word n hn]; exact ⟨n, by omega⟩

/-! ## The tile loop -/

section Tiles
variable {i : grid0.Coords} {v0 v5 v8 : BitVec 32} (S : Sched i v0 v5 v8)
include S

theorem t3_ub : (k0_t3_loop i v5 v8).ub = v8 := sub_one_add S.start (by have := S.used; have := S.stop; omega)
theorem t3_trips : (k0_t3_loop i v5 v8).trips = v8.toNat - (first i v5).toNat := by
  have h := t3_ub S
  have := S.used; have := S.stop; have := S.start
  show Scf.trips (first i v5) (k0_t3_loop i v5 v8).ub 1#32 = _
  rw [h]; exact trips_small (by omega) (by omega)
theorem t4_trips : (k0_t4_loop i v5 v8).trips = 0 := by
  have h := t3_ub S
  have := S.used; have := S.stop; have := S.start
  show Scf.trips (k0_t3_loop i v5 v8).ub (Scalar.addi (first i v5) (Scalar.subi v8 (first i v5))) 1#32 = 0
  rw [h, add_sub, trips_small (by omega) (by omega)]; omega

theorem tile_lt (k : Fin (k0_t3_loop i v5 v8).trips) : (first i v5).toNat + k.val < v8.toNat := by
  have h := Nat.lt_of_lt_of_eq k.isLt (t3_trips S); omega
theorem tile_small (k : Fin (k0_t3_loop i v5 v8).trips) : (first i v5).toNat + k.val < 344 := by
  have := tile_lt S k; have := S.used; have := S.stop; omega
theorem tile_iv (k : Fin (k0_t3_loop i v5 v8).trips) : Scf.iv (first i v5) 1#32 k.val = BitVec.ofNat 32 ((first i v5).toNat + k.val) :=
  iv_eq _ _ (by have := tile_small S k; omega)
theorem tile_next (k : Fin (k0_t3_loop i v5 v8).trips) :
    Scalar.addi (Scf.iv (first i v5) 1#32 k.val) 1#32 = BitVec.ofNat 32 ((first i v5).toNat + k.val + 1) := by
  rw [tile_iv S k, add_word _ (by have := tile_small S k; omega)]

theorem cond3_iff (k : Fin (k0_t3_loop i v5 v8).trips) : k0_cond3 i v0 v5 v8 k = 1#1 ↔ (first i v5).toNat + k.val + 1 < v0.toNat := by
  show Scalar.cmpi .ne (Scalar.extui (Scalar.cmpi .slt (Scalar.addi (Scf.iv (first i v5) 1#32 k.val) 1#32) v0)) 0#32 = 1#1 ↔ _
  have := tile_small S k; have := S.used
  rw [tile_next S k, guard_slt _ _ (by rw [small_toNat _ (by omega)]; omega) (by omega), small_toNat _ (by omega)]
theorem cond4_iff (k : Fin (k0_t3_loop i v5 v8).trips) : k0_cond4 i v5 v8 k = 1#1 ↔ 2 ≤ (first i v5).toNat + k.val := by
  show Scalar.cmpi .ne (Scalar.extui (Scalar.cmpi .sge (Scf.iv (first i v5) 1#32 k.val) 2#32)) 0#32 = 1#1 ↔ _
  have := tile_small S k
  rw [tile_iv S k, guard_sge _ _ (by rw [small_toNat _ (by omega)]; omega) (by decide), small_toNat ((first i v5).toNat + k.val) (by omega)]; rfl
theorem tile_back (k : Fin (k0_t3_loop i v5 v8).trips) (h : 2 ≤ (first i v5).toNat + k.val) :
    Scalar.subi (Scf.iv (first i v5) 1#32 k.val) 2#32 = BitVec.ofNat 32 ((first i v5).toNat + k.val - 2) := by
  rw [tile_iv S k, sub_word _ (by have := tile_small S k; omega) h]

theorem off5_eq (k : Fin (k0_t3_loop i v5 v8).trips) : k0_off5 i v5 v8 k = semOff (Ring.sl 2 ((first i v5).toNat + k.val)) :=
  sem_of _ _ (by have := tile_small S k; omega) (tile_iv S k)
theorem off6_eq (k : Fin (k0_t3_loop i v5 v8).trips) : k0_off6 i v5 v8 k = slotOff (Ring.sl 2 ((first i v5).toNat + k.val)) :=
  slot_of _ _ (by have := tile_small S k; omega) (tile_iv S k)
theorem off7_eq (k : Fin (k0_t3_loop i v5 v8).trips) : k0_off7 i v5 v8 k = blkOff (Ring.bk 344 ((first i v5).toNat + k.val)) :=
  blk_of _ _ (tile_small S k) (tile_iv S k)
theorem off14_eq (k : Fin (k0_t3_loop i v5 v8).trips) : k0_off14 i v5 v8 k = slotOff (Ring.sl 2 ((first i v5).toNat + k.val)) :=
  slot_of _ _ (by have := tile_small S k; omega) (tile_iv S k)
theorem off8_eq (k : Fin (k0_t3_loop i v5 v8).trips) : k0_off8 i v5 v8 k = semOff (Ring.sl 2 ((first i v5).toNat + k.val + 1)) :=
  sem_of _ _ (by have := tile_small S k; omega) (tile_next S k)
theorem off9_eq (k : Fin (k0_t3_loop i v5 v8).trips) : k0_off9 i v5 v8 k = slotOff (Ring.sl 2 ((first i v5).toNat + k.val + 1)) :=
  slot_of _ _ (by have := tile_small S k; omega) (tile_next S k)
theorem off10_eq (k : Fin (k0_t3_loop i v5 v8).trips) (h : (first i v5).toNat + k.val + 1 < v0.toNat) :
    k0_off10 i v5 v8 k = blkOff (Ring.bk 344 ((first i v5).toNat + k.val + 1)) :=
  blk_of _ _ (by have := S.used; omega) (tile_next S k)
theorem off11_eq (k : Fin (k0_t3_loop i v5 v8).trips) (h : 2 ≤ (first i v5).toNat + k.val) :
    k0_off11 i v5 v8 k = semOff (Ring.sl 2 ((first i v5).toNat + k.val)) := by
  have e := sem_of _ _ (by have := tile_small S k; omega) (tile_back S k h)
  have e2 : Ring.sl 2 ((first i v5).toNat + k.val - 2) = Ring.sl 2 ((first i v5).toNat + k.val) := Fin.ext (by rw [sl_val, sl_val]; omega)
  rw [e2] at e; exact e
theorem off12_eq (k : Fin (k0_t3_loop i v5 v8).trips) (h : 2 ≤ (first i v5).toNat + k.val) :
    k0_off12 i v5 v8 k = blkOff (Ring.bk 344 ((first i v5).toNat + k.val - 2)) :=
  blk_of _ _ (by have := tile_small S k; omega) (tile_back S k h)
theorem off13_eq (k : Fin (k0_t3_loop i v5 v8).trips) (h : 2 ≤ (first i v5).toNat + k.val) :
    k0_off13 i v5 v8 k = slotOff (Ring.sl 2 ((first i v5).toNat + k.val)) := by
  have e := slot_of _ _ (by have := tile_small S k; omega) (tile_back S k h)
  have e2 : Ring.sl 2 ((first i v5).toNat + k.val - 2) = Ring.sl 2 ((first i v5).toNat + k.val) := Fin.ext (by rw [sl_val, sl_val]; omega)
  rw [e2] at e; exact e

theorem chk2 : k0_chk2 i v0 v5 v8 := by
  have hu := S.used; have hs := S.stop; have hf := S.start
  have no4 : ∀ k : Fin (k0_t4_loop i v5 v8).trips, False := fun k => Nat.not_lt_zero _ (Nat.lt_of_lt_of_eq k.isLt (t4_trips S))
  have i8 := isInt_small (v := v8) (by omega)
  have one : Affine.IsInt 1#32 1 := Affine.ofNat 1 ⟨rfl, by decide⟩
  unfold k0_chk2
  refine ⟨?_, fun k => mult_of _ _ (by have := tile_small S k; omega) (tile_iv S k), ?_, ?_, ?_, ?_, ?_, ?_, ?_, ?_, ?_, ?_, ?_, ?_,
    fun k => mult_of _ _ (by have := tile_small S k; omega) (tile_iv S k), ?_, ?_, ?_, ?_, ?_, ?_, ?_, ?_, ?_, ?_, ?_, ?_, ?_, ?_, ?_⟩
  · show Scf.OK (first i v5) (k0_t3_loop i v5 v8).ub 1#32
    rw [t3_ub S]
    exact Affine.ok (isInt_small (v := first i v5) (by omega)) i8 one ⟨by omega, by omega⟩
  · intro k; rw [off5_eq S k]; exact semOff_inb _
  · intro k; rw [off6_eq S k]; exact slotOff_inb _
  · intro k; rw [off7_eq S k]; exact blkOff_inb _
  · intro k h; exact mult_of _ _ (by have := tile_small S k; omega) (tile_next S k)
  · intro k h; rw [off8_eq S k]; exact semOff_inb _
  · intro k h; rw [off9_eq S k]; exact slotOff_inb _
  · intro k h; rw [off10_eq S k ((cond3_iff S k).mp h)]; exact blkOff_inb _
  · intro k h; exact mult_of _ _ (by have := tile_small S k; omega) (tile_back S k ((cond4_iff S k).mp h))
  · intro k h; rw [off11_eq S k ((cond4_iff S k).mp h)]; exact semOff_inb _
  · intro k h; rw [off12_eq S k ((cond4_iff S k).mp h)]; exact blkOff_inb _
  · intro k h; rw [off13_eq S k ((cond4_iff S k).mp h)]; exact slotOff_inb _
  · intro k; rw [off14_eq S k]; exact slotOff_inb _
  · show Scf.OK (k0_t3_loop i v5 v8).ub (Scalar.addi (first i v5) (Scalar.subi v8 (first i v5))) 1#32
    rw [t3_ub S, add_sub]; exact Affine.ok i8 i8 one ⟨by omega, by omega⟩
  all_goals intro k; exact (no4 k).elim

end Tiles

/-! ## The loops over the tiles not in use -/

section Clears
variable {v0 : BitVec 32} (hn : v0.toNat ≤ 344)
include hn

theorem clear_ub : Scalar.addi v0 (Scalar.muli (Scalar.divsi (Scalar.subi 344#32 v0) 1#32) 1#32) = 344#32 := sub_one_add hn (by decide)
theorem t1_trips : (k0_t1_loop v0).trips = 344 - v0.toNat := by
  show Scf.trips v0 (Scalar.addi v0 (Scalar.muli (Scalar.divsi (Scalar.subi 344#32 v0) 1#32) 1#32)) 1#32 = _
  rw [clear_ub hn]; exact trips_small (by decide) hn
theorem t5_trips : (k0_t5_loop v0).trips = 344 - v0.toNat := t1_trips hn
theorem t2_trips : (k0_t2_loop v0).trips = 0 := by
  show Scf.trips (Scalar.addi v0 (Scalar.muli (Scalar.divsi (Scalar.subi 344#32 v0) 1#32) 1#32)) (Scalar.addi v0 (Scalar.subi 344#32 v0)) 1#32 = 0
  rw [clear_ub hn, add_sub]; decide
theorem t6_trips : (k0_t6_loop v0).trips = 0 := t2_trips hn

theorem clear_lt (k : Fin (k0_t1_loop v0).trips) : v0.toNat + k.val < 344 := by
  have h := Nat.lt_of_lt_of_eq k.isLt (t1_trips hn); omega
theorem clear_iv (k : Fin (k0_t1_loop v0).trips) : Scf.iv v0 1#32 k.val = BitVec.ofNat 32 (v0.toNat + k.val) :=
  iv_eq _ _ (by have := clear_lt hn k; omega)
theorem off3_eq (k : Fin (k0_t1_loop v0).trips) : k0_off3 v0 k = blkOff (Ring.bk 344 (v0.toNat + k.val)) :=
  blk_of _ _ (clear_lt hn k) (clear_iv hn k)
theorem off31_eq (k : Fin (k0_t5_loop v0).trips) : k0_off31 v0 k = blkOff (Ring.bk 344 (v0.toNat + k.val)) :=
  blk_of _ _ (clear_lt hn k) (clear_iv hn k)

theorem cond8_iff : k0_cond8 v0 = 1#1 ↔ 2 ≤ v0.toNat := by
  show Scalar.cmpi .ne (Scalar.extui (Scalar.cmpi .sge v0 2#32)) 0#32 = 1#1 ↔ _
  rw [guard_sge _ _ (by omega) (by decide)]; rfl
theorem cond9_iff : k0_cond9 v0 = 1#1 ↔ 1 ≤ v0.toNat := by
  show Scalar.cmpi .ne (Scalar.extui (Scalar.cmpi .sge v0 1#32)) 0#32 = 1#1 ↔ _
  rw [guard_sge _ _ (by omega) (by decide)]; rfl
theorem last2 (h : 2 ≤ v0.toNat) : Scalar.subi v0 2#32 = BitVec.ofNat 32 (v0.toNat - 2) := by
  have := sub_word v0.toNat (by omega) h; rwa [of_toNat] at this
theorem last1 (h : 1 ≤ v0.toNat) : Scalar.subi v0 1#32 = BitVec.ofNat 32 (v0.toNat - 1) := by
  have := sub1_word v0.toNat (by omega) h; rwa [of_toNat] at this
theorem off25_eq (h : 2 ≤ v0.toNat) : k0_off25 v0 = semOff (Ring.sl 2 v0.toNat) := by
  have e := sem_of _ _ (by omega) (last2 hn h)
  rw [show Ring.sl 2 (v0.toNat - 2) = Ring.sl 2 v0.toNat from Fin.ext (by rw [sl_val, sl_val]; omega)] at e; exact e
theorem off26_eq (h : 2 ≤ v0.toNat) : k0_off26 v0 = blkOff (Ring.bk 344 (v0.toNat - 2)) := blk_of _ _ (by omega) (last2 hn h)
theorem off27_eq (h : 2 ≤ v0.toNat) : k0_off27 v0 = slotOff (Ring.sl 2 v0.toNat) := by
  have e := slot_of _ _ (by omega) (last2 hn h)
  rw [show Ring.sl 2 (v0.toNat - 2) = Ring.sl 2 v0.toNat from Fin.ext (by rw [sl_val, sl_val]; omega)] at e; exact e
theorem off28_eq (h : 1 ≤ v0.toNat) : k0_off28 v0 = semOff (Ring.sl 2 (v0.toNat + 1)) := by
  have e := sem_of _ _ (by omega) (last1 hn h)
  rw [show Ring.sl 2 (v0.toNat - 1) = Ring.sl 2 (v0.toNat + 1) from Fin.ext (by rw [sl_val, sl_val]; omega)] at e; exact e
theorem off29_eq (h : 1 ≤ v0.toNat) : k0_off29 v0 = blkOff (Ring.bk 344 (v0.toNat - 1)) := blk_of _ _ (by omega) (last1 hn h)
theorem off30_eq (h : 1 ≤ v0.toNat) : k0_off30 v0 = slotOff (Ring.sl 2 (v0.toNat + 1)) := by
  have e := slot_of _ _ (by omega) (last1 hn h)
  rw [show Ring.sl 2 (v0.toNat - 1) = Ring.sl 2 (v0.toNat + 1) from Fin.ext (by rw [sl_val, sl_val]; omega)] at e; exact e

theorem chk1 (i : grid0.Coords) : k0_chk1 i v0 := by
  have no2 : ∀ k : Fin (k0_t2_loop v0).trips, False := fun k => Nat.not_lt_zero _ (Nat.lt_of_lt_of_eq k.isLt (t2_trips hn))
  have i0 := isInt_small (v := v0) (by omega)
  have il : Affine.IsInt 344#32 344 := Affine.ofNat 344 ⟨rfl, by decide⟩
  have one : Affine.IsInt 1#32 1 := Affine.ofNat 1 ⟨rfl, by decide⟩
  have okA : (k0_t1_loop v0).OK := by
    show Scf.OK v0 (Scalar.addi v0 (Scalar.muli (Scalar.divsi (Scalar.subi 344#32 v0) 1#32) 1#32)) 1#32
    rw [clear_ub hn]; exact Affine.ok i0 il one ⟨by omega, by omega⟩
  have okB : (k0_t2_loop v0).OK := by
    show Scf.OK (Scalar.addi v0 (Scalar.muli (Scalar.divsi (Scalar.subi 344#32 v0) 1#32) 1#32)) (Scalar.addi v0 (Scalar.subi 344#32 v0)) 1#32
    rw [clear_ub hn, add_sub]; exact Affine.ok il il one ⟨by omega, by omega⟩
  unfold k0_chk1
  refine ⟨fun _ => okA, fun k _ => mult_of _ _ (by have := clear_lt hn k; omega) (clear_iv hn k), ?_, fun _ => okB, fun k => (no2 k).elim, fun k => (no2 k).elim,
    ?_, ?_, ?_, ?_, ?_, ?_, ?_, ?_, fun _ => okA, fun k _ => mult_of _ _ (by have := clear_lt hn k; omega) (clear_iv hn k), ?_, fun _ => okB,
    fun k => (no2 k).elim, fun k => (no2 k).elim⟩
  · intro k _; rw [off3_eq hn k]; exact blkOff_inb _
  · intro _ h; have h := (cond8_iff hn).mp h; exact mult_of _ _ (by omega) (last2 hn h)
  · intro _ h; rw [off25_eq hn ((cond8_iff hn).mp h)]; exact semOff_inb _
  · intro _ h; rw [off26_eq hn ((cond8_iff hn).mp h)]; exact blkOff_inb _
  · intro _ h; rw [off27_eq hn ((cond8_iff hn).mp h)]; exact slotOff_inb _
  · intro _ h; have h := (cond9_iff hn).mp h; exact mult_of _ _ (by omega) (last1 hn h)
  · intro _ h; rw [off28_eq hn ((cond9_iff hn).mp h)]; exact semOff_inb _
  · intro _ h; rw [off29_eq hn ((cond9_iff hn).mp h)]; exact blkOff_inb _
  · intro _ h; rw [off30_eq hn ((cond9_iff hn).mp h)]; exact slotOff_inb _
  · intro k _; rw [off31_eq hn k]; exact blkOff_inb _

end Clears

/-! ## The grid point -/

theorem cond1_iff : ∀ e : Fin 32, (Scalar.cmpi .ne (Scalar.extui (Scalar.cmpi .eq (BitVec.ofNat 32 e.val) 0#32)) 0#32 = 1#1) ↔ e.val = 0 := by decide
theorem cond7_iff : ∀ e : Fin 32, (Scalar.cmpi .ne (Scalar.extui (Scalar.cmpi .eq (BitVec.ofNat 32 e.val) 31#32)) 0#32 = 1#1) ↔ e.val = 31 := by decide
theorem first_zero : ∀ e : Fin 32, e.val = 0 → Scalar.cmpi .eq (BitVec.ofNat 32 e.val) 0#32 = 1#1 := by decide
theorem first_pos : ∀ e : Fin 32, e.val ≠ 0 → ¬ Scalar.cmpi .eq (BitVec.ofNat 32 e.val) 0#32 = 1#1 := by decide
theorem off1_word : ∀ e : Fin 32, (Scalar.indexCast (Scalar.maxsi (Scalar.subi (BitVec.ofNat 32 e.val) 1#32) 0#32)).toNat = e.val - 1 := by decide
theorem off2_word : ∀ e : Fin 32, (Scalar.indexCast (BitVec.ofNat 32 e.val)).toNat = e.val := by decide

end Cert.Proof.Grouped
-- ==== Proof.Pieces.lean ====
/-
  The pieces the experts call's run is stated in: the row blocks of the tokens and of the result, the slots of the two
  rings and their semaphore cells under one name each, what it is for a slot to be in flight, and the state of the two
  rings at a tile.
-/
module

public import proofs.«01_k».proof.Proof.Words
public import Idealize.ShloMosaic.Lib.Pipeline.FrameValue
public import Idealize.ShloMosaic.Lib.Tactic

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
local notation "𝕄" => MT nD τ sig Unit (Elt F) ℕ (UU nD τ) ℕ
abbrev 𝒱₀ : Variants := Variants.none

abbrev tabM : Memref sig .tc .smem S32 .i32 := Memref.whole main_arg0
abbrev xM : Memref sig .tc .hbm S176128x1024 .f32 := Memref.whole main_arg1
abbrev yM : Memref sig .tc .hbm S176128x1024 .f32 := Memref.whole main_v2
abbrev upM : Memref sig .tc .vmem S1024x2048 .bf16 := Memref.whole cc0_scratch0
abbrev dnM : Memref sig .tc .vmem S1024x1024 .bf16 := Memref.whole cc0_scratch1
abbrev xbM : Memref sig .tc .vmem S2x512x1024 .f32 := Memref.whole cc0_scratch2
abbrev ybM : Memref sig .tc .vmem S2x512x1024 .f32 := Memref.whole cc0_scratch3
abbrev zM : Memref sig .tc .vmem S512x1024 .f32 := Memref.whole cc0_scratch4

/-- Row block `b` of the tokens. -/
def xblk (b : Fin 344) : Memref sig .tc .hbm S512x1024 .f32 :=
  xM.slice (Rect.unit (s := S176128x1024) (blkOff b) S512x1024.size (blkOff_inb b)) (fun _ => rfl)
/-- Row block `b` of the result. -/
def yblk (b : Fin 344) : Memref sig .tc .hbm S512x1024 .f32 :=
  yM.slice (Rect.unit (s := S176128x1024) (blkOff b) S512x1024.size (blkOff_inb b)) (fun _ => rfl)
/-- Slot `s` of the tokens' ring. -/
def xslot (s : Fin 2) : Memref sig .tc .vmem S512x1024 .f32 :=
  (xbM.slice (Rect.unit (s := S2x512x1024) (slotOff s) S1x512x1024.size (slotOff_inb s)) (fun _ => rfl)).squeeze S512x1024 squeezes_S1x512x1024_S512x1024
/-- Slot `s` of the result's ring. -/
def yslot (s : Fin 2) : Memref sig .tc .vmem S512x1024 .f32 :=
  (ybM.slice (Rect.unit (s := S2x512x1024) (slotOff s) S1x512x1024.size (slotOff_inb s)) (fun _ => rfl)).squeeze S512x1024 squeezes_S1x512x1024_S512x1024
def xsem (s : Fin 2) : DmaSems sig S_ := (cc0_scratch5.slice (Rect.unit (s := S2) (semOff s) S1.size (semOff_inb s))).squeeze S_ squeezes_S1_S_
def ysem (s : Fin 2) : DmaSems sig S_ := (cc0_scratch6.slice (Rect.unit (s := S2) (semOff s) S1.size (semOff_inb s))).squeeze S_ squeezes_S1_S_

instance (s : Fin 2) : ClosedOff (slotOff s) := ⟨slotOff s, rfl⟩
instance (b : Fin 344) : ClosedOff (blkOff b) := ⟨blkOff b, rfl⟩

section Congr
theorem xsem_congr {off : Fin 1 → Nat} {s : Fin 2} (e : off = semOff s) (hh) :
    (cc0_scratch5.slice (Rect.unit (s := S2) off S1.size hh)).squeeze S_ squeezes_S1_S_ = xsem s :=
  congrArg (fun A : DmaSems sig S1 => A.squeeze S_ squeezes_S1_S_) (SemArray.slice_unit_congr _ e _ _)
theorem ysem_congr {off : Fin 1 → Nat} {s : Fin 2} (e : off = semOff s) (hh) :
    (cc0_scratch6.slice (Rect.unit (s := S2) off S1.size hh)).squeeze S_ squeezes_S1_S_ = ysem s :=
  congrArg (fun A : DmaSems sig S1 => A.squeeze S_ squeezes_S1_S_) (SemArray.slice_unit_congr _ e _ _)
theorem xslot_congr {off : Fin 3 → Nat} {s : Fin 2} (e : off = slotOff s) (hh hs) :
    (xbM.slice (Rect.unit (s := S2x512x1024) off S1x512x1024.size hh) hs).squeeze S512x1024 squeezes_S1x512x1024_S512x1024 = xslot s :=
  congrArg (fun M : Memref sig .tc .vmem S1x512x1024 .f32 => M.squeeze S512x1024 squeezes_S1x512x1024_S512x1024) (Memref.slice_unit_congr _ e _ _ _ _)
theorem yslot_congr {off : Fin 3 → Nat} {s : Fin 2} (e : off = slotOff s) (hh hs) :
    (ybM.slice (Rect.unit (s := S2x512x1024) off S1x512x1024.size hh) hs).squeeze S512x1024 squeezes_S1x512x1024_S512x1024 = yslot s :=
  congrArg (fun M : Memref sig .tc .vmem S1x512x1024 .f32 => M.squeeze S512x1024 squeezes_S1x512x1024_S512x1024) (Memref.slice_unit_congr _ e _ _ _ _)
theorem xblk_congr {off : Fin 2 → Nat} {b : Fin 344} (e : off = blkOff b) (hh hs) :
    xM.slice (Rect.unit (s := S176128x1024) off S512x1024.size hh) hs = xblk b := Memref.slice_unit_congr _ e _ _ _ (fun _ => rfl)
theorem yblk_congr {off : Fin 2 → Nat} {b : Fin 344} (e : off = blkOff b) (hh hs) :
    yM.slice (Rect.unit (s := S176128x1024) off S512x1024.size hh) hs = yblk b := Memref.slice_unit_congr _ e _ _ _ (fun _ => rfl)
end Congr

section Pieces
variable (c : Dev nD) (XA : Buf (Elt F) (xM.view.loc (c : Thread nD τ)))

abbrev xcellP (s : Fin 2) : sProp 𝕄 := semVal ((c : Thread nD τ), SemLoc.dma (xsem s).sem) 0
abbrev ycellP (s : Fin 2) : sProp 𝕄 := semVal ((c : Thread nD τ), SemLoc.dma (ysem s).sem) 0
abbrev xslotP (s : Fin 2) (f : Buf (Elt F) ((xslot s).view.loc (c : Thread nD τ))) : sProp 𝕄 :=
  (xslot s).view.loc (c : Thread nD τ) ↦[(xslot s).view.set]{fullShare} f
abbrev yslotP (s : Fin 2) (f : Buf (Elt F) ((yslot s).view.loc (c : Thread nD τ))) : sProp 𝕄 :=
  (yslot s).view.loc (c : Thread nD τ) ↦[(yslot s).view.set]{fullShare} f
/-- A block of the tokens held. -/
abbrev homeP (b : Fin 344) : sProp 𝕄 := (xblk b).view.loc (c : Thread nD τ) ↦[(xblk b).view.set]{fullShare} XA
/-- A block of the result held at the contents `f`. -/
abbrev resP (b : Fin 344) (f : Buf (Elt F) ((yblk b).view.loc (c : Thread nD τ))) : sProp 𝕄 :=
  (yblk b).view.loc (c : Thread nD τ) ↦[(yblk b).view.set]{fullShare} f

abbrev xload (b : Fin 344) : S512x1024.Idx → Elt F .f32 := ReadAs.same.apply ((xblk b).view.read (Elt F) XA)
abbrev xland (s : Fin 2) (b : Fin 344) (f : Buf (Elt F) ((xslot s).view.loc (c : Thread nD τ))) : Buf (Elt F) ((xslot s).view.loc (c : Thread nD τ)) :=
  (xslot s).view.writes (Elt F) f [⟨Rect.whole S512x1024, xload c XA b⟩]
/-- Slot `s` of the tokens' ring in flight with block `b`. -/
abbrev xflight (s : Fin 2) (b : Fin 344) (f : Buf (Elt F) ((xslot s).view.loc (c : Thread nD τ))) : sProp 𝕄 :=
  Transfers.Flight countersEmb (c : Thread nD τ) (SemLoc.dma (xsem s).sem) () 65536 iprop(xslotP c s (xland c XA s b f) ∗ homeP c XA b)

abbrev yland (s : Fin 2) (b : Fin 344) (f : Buf (Elt F) ((yblk b).view.loc (c : Thread nD τ))) (g : Buf (Elt F) ((yslot s).view.loc (c : Thread nD τ))) :
    Buf (Elt F) ((yblk b).view.loc (c : Thread nD τ)) :=
  (yblk b).view.writes (Elt F) f [⟨Rect.whole S512x1024, ReadAs.same.apply ((yslot s).view.read (Elt F) g)⟩]
/-- Slot `s` of the result's ring, holding `g`, in flight to block `b`. -/
abbrev yflight (s : Fin 2) (b : Fin 344) (f : Buf (Elt F) ((yblk b).view.loc (c : Thread nD τ))) (g : Buf (Elt F) ((yslot s).view.loc (c : Thread nD τ))) : sProp 𝕄 :=
  Transfers.Flight countersEmb (c : Thread nD τ) (SemLoc.dma (ysem s).sem) () 65536 iprop(resP c b (yland c s b f g) ∗ yslotP c s g)

/-- What the tiles' results are: the rows of each block. -/
abbrev Rows (F : FTy → Type) : Type := Fin 344 → S512x1024.Idx → Elt F .f32
variable (P : Rows F)

/-- Block `b` of the result, holding its rows. -/
def doneP (b : Fin 344) : sProp 𝕄 := iprop(∃ f, ⌜(yblk b).view.read (Elt F) f = P b⌝ ∗ resP c b f)
/-- Block `b` of the result, not written. -/
def freeP (b : Fin 344) : sProp 𝕄 := iprop(∃ f, resP (F := F) c b f)

/-- The tokens' ring before tile `t` of `n`: block `t` in flight if there is one, everything else held. -/
def xring (n t : ℕ) : sProp 𝕄 :=
  if t < n then
    iprop((∃ f, xflight c XA (Ring.sl 2 t) (Ring.bk 344 t) f) ∗ (∃ f, xslotP (F := F) c (Ring.sl 2 (t + 1)) f) ∗ xcellP c (Ring.sl 2 (t + 1))
      ∗ bigSep (Ring.homeSet 1 t) (homeP c XA))
  else
    iprop((∃ f, xslotP (F := F) c (Ring.sl 2 t) f) ∗ xcellP c (Ring.sl 2 t) ∗ (∃ f, xslotP (F := F) c (Ring.sl 2 (t + 1)) f) ∗ xcellP c (Ring.sl 2 (t + 1))
      ∗ bigSep Finset.univ (homeP c XA))

/-- The slot of the result's ring tile `t` will take: free before tile 2, in flight with tile `t - 2` from then on. -/
def yring (t : ℕ) : sProp 𝕄 :=
  if t < 2 then iprop((∃ f, yslotP (F := F) c (Ring.sl 2 t) f) ∗ ycellP c (Ring.sl 2 t))
  else iprop(∃ f g, ⌜(yslot (Ring.sl 2 t)).view.read (Elt F) g = P (Ring.bk 344 (t - 2))⌝ ∗ yflight c (Ring.sl 2 t) (Ring.bk 344 (t - 2)) f g)

/-- The result's blocks of the tiles in use before tile `t`: those of tiles before `t - 2` written, those from `t` on not. -/
def blocks (n t : ℕ) : sProp 𝕄 := iprop(bigSep (Ring.rangeSet 344 0 (t - 2)) (doneP c P) ∗ bigSep (Ring.rangeSet 344 t n) (freeP (F := F) c))

/-- Everything the tiles' loop moves, before tile `t`. -/
def rings (n t : ℕ) : sProp 𝕄 := iprop((∃ W, owes (c : Thread nD τ) 0 W) ∗ xring c XA n t ∗ yring c P t ∗ yring c P (t + 1) ∗ blocks c P n t)

theorem xring_in {n t : ℕ} (h : t < n) : xring c XA n t =
    iprop((∃ f, xflight c XA (Ring.sl 2 t) (Ring.bk 344 t) f) ∗ (∃ f, xslotP (F := F) c (Ring.sl 2 (t + 1)) f) ∗ xcellP c (Ring.sl 2 (t + 1))
      ∗ bigSep (Ring.homeSet 1 t) (homeP c XA)) := if_pos h
theorem xring_out {n t : ℕ} (h : ¬ t < n) : xring c XA n t =
    iprop((∃ f, xslotP (F := F) c (Ring.sl 2 t) f) ∗ xcellP c (Ring.sl 2 t) ∗ (∃ f, xslotP (F := F) c (Ring.sl 2 (t + 1)) f) ∗ xcellP c (Ring.sl 2 (t + 1))
      ∗ bigSep Finset.univ (homeP c XA)) := if_neg h
theorem yring_new {t : ℕ} (h : t < 2) : yring c P t = iprop((∃ f, yslotP (F := F) c (Ring.sl 2 t) f) ∗ ycellP c (Ring.sl 2 t)) := if_pos h
theorem yring_old {t : ℕ} (h : ¬ t < 2) : yring c P t =
    iprop(∃ f g, ⌜(yslot (Ring.sl 2 t)).view.read (Elt F) g = P (Ring.bk 344 (t - 2))⌝ ∗ yflight c (Ring.sl 2 t) (Ring.bk 344 (t - 2)) f g) := if_neg h

/-- Before tile `t` with one more to come: the next block beside the other blocks held. -/
theorem homes_here (t : ℕ) (h : t + 1 < 344) :
    bigSep (Ring.homeSet 1 t) (homeP c XA) = iprop(homeP c XA (Ring.bk 344 (t + 1)) ∗ bigSep ((Ring.homeSet 1 t).erase (Ring.bk 344 (t + 1))) (homeP c XA)) := by
  conv_lhs => rw [Ring.homeSet_out 1 t h, bigSep_insert (Ring.bkL_not_mem_erase 1 t)]
  rfl
/-- After it: the block of tile `t` is back. -/
theorem homes_next (t : ℕ) (h : t + 1 < 344) :
    bigSep (Ring.homeSet 1 (t + 1)) (homeP c XA) = iprop(homeP c XA (Ring.bk 344 t) ∗ bigSep ((Ring.homeSet 1 t).erase (Ring.bk 344 (t + 1))) (homeP c XA)) := by
  conv_lhs => rw [Ring.homeSet_succ 1 t h, bigSep_insert (Ring.bk_not_mem_erase 1 t (by omega) (by decide))]
  rfl
/-- With the block of tile `t` back every block is held. -/
theorem homes_all (t : ℕ) (h : t < 344) :
    bigSep Finset.univ (homeP c XA) = iprop(homeP c XA (Ring.bk 344 t) ∗ bigSep (Ring.homeSet 1 t) (homeP c XA)) := by
  have e : (Finset.univ : Finset (Fin 344)) = insert (Ring.bk 344 t) (Ring.homeSet 1 t) := by
    ext b; simp only [Finset.mem_univ, Finset.mem_insert, Ring.mem_homeSet, true_iff, Fin.ext_iff, Ring.bk_val h]; omega
  rw [e, bigSep_insert (Ring.bk_not_mem_homeSet 1 t h (by decide))]; rfl

/-- One more block written. -/
theorem done_next (t : ℕ) (h2 : 2 ≤ t) (h : t < 344) :
    bigSep (Ring.rangeSet 344 0 (t + 1 - 2)) (doneP c P) = iprop(doneP c P (Ring.bk 344 (t - 2)) ∗ bigSep (Ring.rangeSet 344 0 (t - 2)) (doneP c P)) := by
  have e : (⟨t + 1 - 2 - 1, by omega⟩ : Fin 344) = Ring.bk 344 (t - 2) := Fin.ext (by rw [Ring.bk_val (by omega)]; show t + 1 - 2 - 1 = t - 2; omega)
  rw [Ring.bigSep_rangeSet_last (show 0 < t + 1 - 2 by omega) (show t + 1 - 2 ≤ 344 by omega), e, show t + 1 - 2 - 1 = t - 2 by omega]

end Pieces

theorem fin_bk {t : ℕ} (h : t < 344) : (⟨t, h⟩ : Fin 344) = Ring.bk 344 t := Fin.ext (Ring.bk_val h).symm
/-- A tile's rows as an element of the ring's shape. -/
abbrev lift : S512x1024.Idx ≃ S1x512x1024.Idx := Shape.reshapeEquiv (by decide)

/-- One tile's rows from its tokens, the two weights and the two biases. -/
def tile (X : S512x1024.Idx → Elt F .f32) (up : Vec F S1024x2048 .bf16) (bu : Vec F S1x1x2048 .f32) (dn : Vec F S1024x1024 .bf16) (bd : Vec F S1x1x1024 .f32) :
    S512x1024.Idx → Elt F .f32 :=
  fun y => k0_pay6 (k0_pay1 (fun z => X (lift.symm z)) up bu dn) bd (lift y)

theorem read_xslot {off : Fin 3 → ℕ} {s : Fin 2} (e : off = slotOff s) (hh) (f) (X : S512x1024.Idx → Elt F .f32) :
    xbM.view.readAt (Elt F) (Rect.unit (s := S2x512x1024) off S1x512x1024.size hh).toLoadRect ((xslot s).view.writes (Elt F) f [⟨Rect.whole S512x1024, X⟩])
      = fun z => X (lift.symm z) := by
  subst e
  funext z
  have h := congrFun (View.read_writes_whole (xslot s).view f X) (lift.symm z)
  rw [← h]
  show xbM.view.readAt (Elt F) (Rect.unit (s := S2x512x1024) (slotOff s) S1x512x1024.size hh).toLoadRect _ z
    = xbM.view.readAt (Elt F) (Rect.unit (s := S2x512x1024) (slotOff s) S1x512x1024.size hh).toLoadRect _ (lift (lift.symm z))
  rw [Equiv.apply_symm_apply]

theorem read_yslot {off : Fin 3 → ℕ} {s : Fin 2} (e : off = slotOff s) (hh) (g) (w : S1x512x1024.Idx → Elt F .f32) :
    (yslot s).view.read (Elt F) (View.write (Elt F) (ybM.access (Rect.unit (s := S2x512x1024) off S1x512x1024.size hh)) g w Finset.univ)
      = fun y => w (lift y) := by
  subst e
  funext y
  exact congrFun (View.read_write_univ (v := ybM.access (Rect.unit (s := S2x512x1024) (slotOff s) S1x512x1024.size hh)) g w) (lift y)

theorem sl_two (t : ℕ) : Ring.sl 2 (t + 1 + 1) = Ring.sl 2 t := Fin.ext (by rw [sl_val, sl_val]; omega)
theorem entails_of_eq {nD : ℕ} {τ : Topo} {A B : sProp (MT nD τ sig Unit (Elt F) ℕ (UU nD τ) ℕ)} (e : A = B) : A ⊢ B := e ▸ .rfl

end Cert.Proof.Grouped
-- ==== Proof.Trip.lean ====
/-
  One tile of the experts call's loop: its tokens' block waited for, the next one asked for, the slot it writes freed by
  waiting for the tile two before it, and its rows computed, stored and sent.
-/
module

public import proofs.«01_k».proof.Proof.Pieces

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Canon
variable {i : grid0.Coords} {v0 v5 v8 : BitVec 32} (S : Sched i v0 v5 v8) (k : Fin (k0_t3_loop i v5 v8).trips)
include S

@[sl_canon] theorem xsem5 (hh) : (cc0_scratch5.slice (Rect.unit (s := S2) (k0_off5 i v5 v8 k) S1.size hh)).squeeze S_ squeezes_S1_S_ = xsem (Ring.sl 2 ((first i v5).toNat + k.val)) := xsem_congr (off5_eq S k) _
@[sl_canon] theorem ysem5 (hh) : (cc0_scratch6.slice (Rect.unit (s := S2) (k0_off5 i v5 v8 k) S1.size hh)).squeeze S_ squeezes_S1_S_ = ysem (Ring.sl 2 ((first i v5).toNat + k.val)) := ysem_congr (off5_eq S k) _
@[sl_canon] theorem xslot6 (hh hs) : (xbM.slice (Rect.unit (s := S2x512x1024) (k0_off6 i v5 v8 k) S1x512x1024.size hh) hs).squeeze S512x1024 squeezes_S1x512x1024_S512x1024 = xslot (Ring.sl 2 ((first i v5).toNat + k.val)) := xslot_congr (off6_eq S k) _ _
@[sl_canon] theorem yslot6 (hh hs) : (ybM.slice (Rect.unit (s := S2x512x1024) (k0_off6 i v5 v8 k) S1x512x1024.size hh) hs).squeeze S512x1024 squeezes_S1x512x1024_S512x1024 = yslot (Ring.sl 2 ((first i v5).toNat + k.val)) := yslot_congr (off6_eq S k) _ _
@[sl_canon] theorem xblk7 (hh hs) : xM.slice (Rect.unit (s := S176128x1024) (k0_off7 i v5 v8 k) S512x1024.size hh) hs = xblk (Ring.bk 344 ((first i v5).toNat + k.val)) := xblk_congr (off7_eq S k) _ _
@[sl_canon] theorem yblk7 (hh hs) : yM.slice (Rect.unit (s := S176128x1024) (k0_off7 i v5 v8 k) S512x1024.size hh) hs = yblk (Ring.bk 344 ((first i v5).toNat + k.val)) := yblk_congr (off7_eq S k) _ _
@[sl_canon] theorem xsem8 (hh) : (cc0_scratch5.slice (Rect.unit (s := S2) (k0_off8 i v5 v8 k) S1.size hh)).squeeze S_ squeezes_S1_S_ = xsem (Ring.sl 2 ((first i v5).toNat + k.val + 1)) := xsem_congr (off8_eq S k) _
@[sl_canon] theorem xslot9 (hh hs) : (xbM.slice (Rect.unit (s := S2x512x1024) (k0_off9 i v5 v8 k) S1x512x1024.size hh) hs).squeeze S512x1024 squeezes_S1x512x1024_S512x1024 = xslot (Ring.sl 2 ((first i v5).toNat + k.val + 1)) := xslot_congr (off9_eq S k) _ _
@[sl_canon] theorem xblk10 (h : (first i v5).toNat + k.val + 1 < v0.toNat) (hh hs) : xM.slice (Rect.unit (s := S176128x1024) (k0_off10 i v5 v8 k) S512x1024.size hh) hs = xblk (Ring.bk 344 ((first i v5).toNat + k.val + 1)) := xblk_congr (off10_eq S k h) _ _
@[sl_canon] theorem ysem11 (h : 2 ≤ (first i v5).toNat + k.val) (hh) : (cc0_scratch6.slice (Rect.unit (s := S2) (k0_off11 i v5 v8 k) S1.size hh)).squeeze S_ squeezes_S1_S_ = ysem (Ring.sl 2 ((first i v5).toNat + k.val)) := ysem_congr (off11_eq S k h) _
@[sl_canon] theorem yblk12 (h : 2 ≤ (first i v5).toNat + k.val) (hh hs) : yM.slice (Rect.unit (s := S176128x1024) (k0_off12 i v5 v8 k) S512x1024.size hh) hs = yblk (Ring.bk 344 ((first i v5).toNat + k.val - 2)) := yblk_congr (off12_eq S k h) _ _
@[sl_canon] theorem yslot13 (h : 2 ≤ (first i v5).toNat + k.val) (hh hs) : (ybM.slice (Rect.unit (s := S2x512x1024) (k0_off13 i v5 v8 k) S1x512x1024.size hh) hs).squeeze S512x1024 squeezes_S1x512x1024_S512x1024 = yslot (Ring.sl 2 ((first i v5).toNat + k.val)) := yslot_congr (off13_eq S k h) _ _
end Canon

instance {i : grid0.Coords} {v5 v8 : BitVec 32} [S : Fact (∃ v0, Sched i v0 v5 v8)] (k : Fin (k0_t3_loop i v5 v8).trips) : ClosedOff (k0_off14 i v5 v8 k) :=
  ⟨slotOff (Ring.sl 2 ((first i v5).toNat + k.val)), S.out.elim fun _ S => off14_eq S k⟩

section Trip
variable (c : Dev nD) (XA : Buf (Elt F) (xM.view.loc (c : Thread nD τ))) (P : Rows F)
  (i : grid0.Coords) (v0 v5 v8 : BitVec 32)
  (arg2 : Memref sig .tc .vmem S1x1024x2048 .f32) (harg2 : arg2.IsWhole) (arg3 : Memref sig .tc .vmem S1x1x2048 .f32) (harg3 : arg3.IsWhole)
  (arg4 : Memref sig .tc .vmem S1x1024x1024 .f32) (harg4 : arg4.IsWhole) (arg5 : Memref sig .tc .vmem S1x1x1024 .f32) (harg5 : arg5.IsWhole)
  (arg8 : Memref sig .tc .vmem S1024x2048 .bf16) (harg8 : arg8.IsWhole) (arg9 : Memref sig .tc .vmem S1024x1024 .bf16) (harg9 : arg9.IsWhole)
  (arg12 : Memref sig .tc .vmem S512x1024 .f32) (harg12 : arg12.IsWhole)
  (hw : k0_chk2 i v0 v5 v8)

abbrev trip (k : Fin (k0_t3_loop i v5 v8).trips) : Prog (TpuEff nD τ sig (Elt F) Λ₀ .tc) Unit :=
  k0_t3_body (F := F) i tabM (Memref.isWhole_whole _) arg2 harg2 arg3 harg3 arg4 harg4 arg5 harg5 xM (Memref.isWhole_whole _) yM (Memref.isWhole_whole _)
    arg8 harg8 arg9 harg9 xbM (Memref.isWhole_whole _) ybM (Memref.isWhole_whole _) arg12 harg12
    cc0_scratch5 cc0_scratch6 cc0_scratch7 v0 v5 (first i v5) v8 hw k ()

/-- The weights and biases the tiles of one expert read. -/
def weights (f8 : Buf (Elt F) (arg8.view.loc (c : Thread nD τ))) (f9 : Buf (Elt F) (arg9.view.loc (c : Thread nD τ)))
    (g3 : Buf (Elt F) (arg3.view.loc (c : Thread nD τ))) (g5 : Buf (Elt F) (arg5.view.loc (c : Thread nD τ))) : sProp 𝕄 :=
  iprop((arg8.view.loc (c : Thread nD τ) ↦[arg8.view.set]{fullShare} f8) ∗ (arg9.view.loc (c : Thread nD τ) ↦[arg9.view.set]{fullShare} f9)
    ∗ (arg3.view.loc (c : Thread nD τ) ↦[arg3.view.set]{fullShare} g3) ∗ (arg5.view.loc (c : Thread nD τ) ↦[arg5.view.set]{fullShare} g5))

/-- The rows of tile `t` from what the kernel holds there. -/
abbrev rowsOf (f8 : Buf (Elt F) (arg8.view.loc (c : Thread nD τ))) (f9 : Buf (Elt F) (arg9.view.loc (c : Thread nD τ)))
    (g3 : Buf (Elt F) (arg3.view.loc (c : Thread nD τ))) (g5 : Buf (Elt F) (arg5.view.loc (c : Thread nD τ))) (t : ℕ) : S512x1024.Idx → Elt F .f32 :=
  tile (xload c XA (Ring.bk 344 t)) (arg8.view.readAt (Elt F) (Rect.unit ![0, 0] S1024x2048.size inb_S1024x2048_S1024x2048_0_0).toLoadRect f8)
    (arg3.view.readAt (Elt F) (Rect.unit ![0, 0, 0] S1x1x2048.size inb_S1x1x2048_S1x1x2048_0_0_0).toLoadRect g3)
    (arg9.view.readAt (Elt F) (Rect.unit ![0, 0] S1024x1024.size inb_S1024x1024_S1024x1024_0_0).toLoadRect f9)
    (arg5.view.readAt (Elt F) (Rect.unit ![0, 0, 0] S1x1x1024.size inb_S1x1x1024_S1x1x1024_0_0_0).toLoadRect g5)

theorem trip_a (S : Sched i v0 v5 v8) (k : Fin (k0_t3_loop i v5 v8).trips) (f8 f9 g3 g5) (Q : Unit → sProp 𝕄)
    (h3 : (first i v5).toNat + k.val + 1 < v0.toNat) (h4 : 2 ≤ (first i v5).toNat + k.val)
    (hP : P (Ring.bk 344 ((first i v5).toNat + k.val)) = rowsOf c XA arg3 arg5 arg8 arg9 f8 f9 g3 g5 ((first i v5).toNat + k.val)) :
    iprop((weights c arg3 arg5 arg8 arg9 f8 f9 g3 g5 ∗ rings c XA P v0.toNat ((first i v5).toNat + k.val))
        ∗ ((weights c arg3 arg5 arg8 arg9 f8 f9 g3 g5 ∗ rings c XA P v0.toNat ((first i v5).toNat + k.val + 1)) -∗ Q ()))
      ⊢ wp frame (wpE (defs₀ (F := F)) 𝒱₀ (c : Thread nD τ) none) Set.univ (trip i v0 v5 v8 arg2 harg2 arg3 harg3 arg4 harg4 arg5 harg5 arg8 harg8 arg9 harg9 arg12 harg12 hw k) Q := by
  haveI : Fact (∃ v0, Sched i v0 v5 v8) := ⟨⟨v0, S⟩⟩
  have hc3 : k0_cond3 i v0 v5 v8 k = 1#1 := (cond3_iff S k).mpr h3
  have hc4 : k0_cond4 i v5 v8 k = 1#1 := (cond4_iff S k).mpr h4
  have hl := S.used
  have hk := tile_lt S k
  have hs := S.stop
  have ht : (first i v5).toNat + k.val < v0.toNat := by omega
  have ht' : (first i v5).toNat + k.val < 344 := by omega
  unfold rings blocks weights trip
  rw [xring_in c XA ht, xring_in c XA h3, yring_old c P (t := (first i v5).toNat + k.val) (by omega), yring_old c P (t := (first i v5).toNat + k.val + 1 + 1) (by omega),
    sl_two, show (first i v5).toNat + k.val + 1 + 1 - 2 = (first i v5).toNat + k.val from rfl]
  iintro ⟨⟨⟨H8, H9, G3, G5⟩, ⟨%W, HW⟩, ⟨⟨%fx, HX⟩, ⟨%fx', HXs⟩, HXc, Hh⟩, ⟨%fy, %gy, %hgy, HY⟩, HY', HD, HF⟩, Hk⟩
  ihave HF' := (entails_of_eq (Ring.bigSep_rangeSet_head ht ht')) $$ HF
  icases HF' with ⟨HF1, HF⟩
  ihave Hh' := (entails_of_eq (homes_here c XA ((first i v5).toNat + k.val) (by omega))) $$ Hh
  icases Hh' with ⟨Hh1, Hh⟩
  rw [fin_bk ht']
  ihave HF1' := (show freeP (F := F) c (Ring.bk 344 ((first i v5).toNat + k.val)) ⊢ iprop(∃ f, resP (F := F) c (Ring.bk 344 ((first i v5).toNat + k.val)) f) from .rfl) $$ HF1
  icases HF1' with ⟨%fr, HR⟩
  unfold k0_t3_body
  rw [k0_part1_eq_skeleton, k0_part2_eq_skeleton]; unfold k0_part1_skel k0_part2_skel
  sl_exec
  sl_step
  iapply Hk
  isplitl [H8 H9 G3 G5]
  · isplitl [H8]; · iexact H8
    isplitl [H9]; · iexact H9
    isplitl [G3]; · iexact G3
    iexact G5
  isplitl [HW]; · iexists _; iexact HW
  isplitl [HXc HX_dst HX HX_src Hh]
  · isplitl [HXc]; · iexists fx'; iexact HXc
    isplitl [HX_dst]; · iexists _; iexact HX_dst
    isplitl [HX]; · iexact HX
    iapply (entails_of_eq (homes_next c XA ((first i v5).toNat + k.val) (by omega)).symm)
    isplitl [HX_src]; · iexact HX_src
    iexact Hh
  isplitl [HY']; · iexact HY'
  isplitl [HY]
  · iexists fr, _
    isplitr
    rotate_left
    · iexact HY
    · ipureintro
      rw [hP]
      unfold trip_a.sl.HY_src_w1 trip_a.sl.v77
      refine Eq.trans (read_yslot (off14_eq S k) _ _ _) ?_
      exact congrArg (fun v => fun y => k0_pay6 (k0_pay1 v _ _ _) _ (lift y)) (read_xslot (off14_eq S k) _ _ _)
  isplitl [HD HY_dst]
  · iapply (entails_of_eq (done_next c P ((first i v5).toNat + k.val) h4 ht').symm)
    isplitl [HY_dst]
    · unfold doneP
      iexists _
      isplitr
      rotate_left
      · iexact HY_dst
      · ipureintro
        exact (View.read_writes_whole _ _ _).trans hgy
    · iexact HD
  iexact HF

theorem trip_b (S : Sched i v0 v5 v8) (k : Fin (k0_t3_loop i v5 v8).trips) (f8 f9 g3 g5) (Q : Unit → sProp 𝕄)
    (h3 : (first i v5).toNat + k.val + 1 < v0.toNat) (h4 : ¬ 2 ≤ (first i v5).toNat + k.val)
    (hP : P (Ring.bk 344 ((first i v5).toNat + k.val)) = rowsOf c XA arg3 arg5 arg8 arg9 f8 f9 g3 g5 ((first i v5).toNat + k.val)) :
    iprop((weights c arg3 arg5 arg8 arg9 f8 f9 g3 g5 ∗ rings c XA P v0.toNat ((first i v5).toNat + k.val))
        ∗ ((weights c arg3 arg5 arg8 arg9 f8 f9 g3 g5 ∗ rings c XA P v0.toNat ((first i v5).toNat + k.val + 1)) -∗ Q ()))
      ⊢ wp frame (wpE (defs₀ (F := F)) 𝒱₀ (c : Thread nD τ) none) Set.univ (trip i v0 v5 v8 arg2 harg2 arg3 harg3 arg4 harg4 arg5 harg5 arg8 harg8 arg9 harg9 arg12 harg12 hw k) Q := by
  haveI : Fact (∃ v0, Sched i v0 v5 v8) := ⟨⟨v0, S⟩⟩
  have hc3 : k0_cond3 i v0 v5 v8 k = 1#1 := (cond3_iff S k).mpr h3
  have hc4 : ¬ k0_cond4 i v5 v8 k = 1#1 := fun h => h4 ((cond4_iff S k).mp h)
  have hl := S.used
  have hk := tile_lt S k
  have hs := S.stop
  have ht : (first i v5).toNat + k.val < v0.toNat := by omega
  have ht' : (first i v5).toNat + k.val < 344 := by omega
  unfold rings blocks weights trip
  rw [xring_in c XA ht, xring_in c XA h3, yring_new c P (t := (first i v5).toNat + k.val) (by omega), yring_old c P (t := (first i v5).toNat + k.val + 1 + 1) (by omega),
    sl_two, show (first i v5).toNat + k.val + 1 + 1 - 2 = (first i v5).toNat + k.val from rfl]
  iintro ⟨⟨⟨H8, H9, G3, G5⟩, ⟨%W, HW⟩, ⟨⟨%fx, HX⟩, ⟨%fx', HXs⟩, HXc, Hh⟩, ⟨⟨%gy, HY_src⟩, HY⟩, HY', HD, HF⟩, Hk⟩
  ihave HF' := (entails_of_eq (Ring.bigSep_rangeSet_head ht ht')) $$ HF
  icases HF' with ⟨HF1, HF⟩
  ihave Hh' := (entails_of_eq (homes_here c XA ((first i v5).toNat + k.val) (by omega))) $$ Hh
  icases Hh' with ⟨Hh1, Hh⟩
  rw [fin_bk ht']
  ihave HF1' := (show freeP (F := F) c (Ring.bk 344 ((first i v5).toNat + k.val)) ⊢ iprop(∃ f, resP (F := F) c (Ring.bk 344 ((first i v5).toNat + k.val)) f) from .rfl) $$ HF1
  icases HF1' with ⟨%fr, HR⟩
  unfold k0_t3_body
  rw [k0_part1_eq_skeleton, k0_part2_eq_skeleton]; unfold k0_part1_skel k0_part2_skel
  sl_exec
  sl_step
  iapply Hk
  isplitl [H8 H9 G3 G5]
  · isplitl [H8]; · iexact H8
    isplitl [H9]; · iexact H9
    isplitl [G3]; · iexact G3
    iexact G5
  isplitl [HW]; · iexists _; iexact HW
  isplitl [HXc HX_dst HX HX_src Hh]
  · isplitl [HXc]; · iexists fx'; iexact HXc
    isplitl [HX_dst]; · iexists _; iexact HX_dst
    isplitl [HX]; · iexact HX
    iapply (entails_of_eq (homes_next c XA ((first i v5).toNat + k.val) (by omega)).symm)
    isplitl [HX_src]; · iexact HX_src
    iexact Hh
  isplitl [HY']; · iexact HY'
  isplitl [HY]
  · iexists fr, _
    isplitr
    rotate_left
    · iexact HY
    · ipureintro
      rw [hP]
      unfold trip_b.sl.HY_src_w1 trip_b.sl.v77
      refine Eq.trans (read_yslot (off14_eq S k) _ _ _) ?_
      exact congrArg (fun v => fun y => k0_pay6 (k0_pay1 v _ _ _) _ (lift y)) (read_xslot (off14_eq S k) _ _ _)
  isplitl [HD]
  · rw [show (first i v5).toNat + k.val + 1 - 2 = (first i v5).toNat + k.val - 2 by omega]; iexact HD
  iexact HF

theorem trip_c (S : Sched i v0 v5 v8) (k : Fin (k0_t3_loop i v5 v8).trips) (f8 f9 g3 g5) (Q : Unit → sProp 𝕄)
    (h3 : ¬ (first i v5).toNat + k.val + 1 < v0.toNat) (h4 : 2 ≤ (first i v5).toNat + k.val)
    (hP : P (Ring.bk 344 ((first i v5).toNat + k.val)) = rowsOf c XA arg3 arg5 arg8 arg9 f8 f9 g3 g5 ((first i v5).toNat + k.val)) :
    iprop((weights c arg3 arg5 arg8 arg9 f8 f9 g3 g5 ∗ rings c XA P v0.toNat ((first i v5).toNat + k.val))
        ∗ ((weights c arg3 arg5 arg8 arg9 f8 f9 g3 g5 ∗ rings c XA P v0.toNat ((first i v5).toNat + k.val + 1)) -∗ Q ()))
      ⊢ wp frame (wpE (defs₀ (F := F)) 𝒱₀ (c : Thread nD τ) none) Set.univ (trip i v0 v5 v8 arg2 harg2 arg3 harg3 arg4 harg4 arg5 harg5 arg8 harg8 arg9 harg9 arg12 harg12 hw k) Q := by
  haveI : Fact (∃ v0, Sched i v0 v5 v8) := ⟨⟨v0, S⟩⟩
  have hc3 : ¬ k0_cond3 i v0 v5 v8 k = 1#1 := fun h => h3 ((cond3_iff S k).mp h)
  have hc4 : k0_cond4 i v5 v8 k = 1#1 := (cond4_iff S k).mpr h4
  have hl := S.used
  have hk := tile_lt S k
  have hs := S.stop
  have ht : (first i v5).toNat + k.val < v0.toNat := by omega
  have ht' : (first i v5).toNat + k.val < 344 := by omega
  unfold rings blocks weights trip
  rw [xring_in c XA ht, xring_out c XA h3, yring_old c P (t := (first i v5).toNat + k.val) (by omega), yring_old c P (t := (first i v5).toNat + k.val + 1 + 1) (by omega),
    sl_two, show (first i v5).toNat + k.val + 1 + 1 - 2 = (first i v5).toNat + k.val from rfl]
  iintro ⟨⟨⟨H8, H9, G3, G5⟩, ⟨%W, HW⟩, ⟨⟨%fx, HX⟩, ⟨%fx', HXs⟩, HXc, Hh⟩, ⟨%fy, %gy, %hgy, HY⟩, HY', HD, HF⟩, Hk⟩
  ihave HF' := (entails_of_eq (Ring.bigSep_rangeSet_head ht ht')) $$ HF
  icases HF' with ⟨HF1, HF⟩
  rw [fin_bk ht']
  ihave HF1' := (show freeP (F := F) c (Ring.bk 344 ((first i v5).toNat + k.val)) ⊢ iprop(∃ f, resP (F := F) c (Ring.bk 344 ((first i v5).toNat + k.val)) f) from .rfl) $$ HF1
  icases HF1' with ⟨%fr, HR⟩
  unfold k0_t3_body
  rw [k0_part1_eq_skeleton, k0_part2_eq_skeleton]; unfold k0_part1_skel k0_part2_skel
  sl_exec
  sl_step
  iapply Hk
  isplitl [H8 H9 G3 G5]
  · isplitl [H8]; · iexact H8
    isplitl [H9]; · iexact H9
    isplitl [G3]; · iexact G3
    iexact G5
  isplitl [HW]; · iexists _; iexact HW
  isplitl [HXc HXs HX_dst HX HX_src Hh]
  · isplitl [HXs]; · iexists _; iexact HXs
    isplitl [HXc]; · iexact HXc
    isplitl [HX_dst]; · iexists _; iexact HX_dst
    isplitl [HX]; · iexact HX
    iapply (entails_of_eq (homes_all c XA ((first i v5).toNat + k.val) ht').symm)
    isplitl [HX_src]; · iexact HX_src
    iexact Hh
  isplitl [HY']; · iexact HY'
  isplitl [HY]
  · iexists fr, _
    isplitr
    rotate_left
    · iexact HY
    · ipureintro
      rw [hP]
      unfold trip_c.sl.HY_src_w1 trip_c.sl.v77
      refine Eq.trans (read_yslot (off14_eq S k) _ _ _) ?_
      exact congrArg (fun v => fun y => k0_pay6 (k0_pay1 v _ _ _) _ (lift y)) (read_xslot (off14_eq S k) _ _ _)
  isplitl [HD HY_dst]
  · iapply (entails_of_eq (done_next c P ((first i v5).toNat + k.val) h4 ht').symm)
    isplitl [HY_dst]
    · unfold doneP
      iexists _
      isplitr
      rotate_left
      · iexact HY_dst
      · ipureintro
        exact (View.read_writes_whole _ _ _).trans hgy
    · iexact HD
  iexact HF

theorem trip_d (S : Sched i v0 v5 v8) (k : Fin (k0_t3_loop i v5 v8).trips) (f8 f9 g3 g5) (Q : Unit → sProp 𝕄)
    (h3 : ¬ (first i v5).toNat + k.val + 1 < v0.toNat) (h4 : ¬ 2 ≤ (first i v5).toNat + k.val)
    (hP : P (Ring.bk 344 ((first i v5).toNat + k.val)) = rowsOf c XA arg3 arg5 arg8 arg9 f8 f9 g3 g5 ((first i v5).toNat + k.val)) :
    iprop((weights c arg3 arg5 arg8 arg9 f8 f9 g3 g5 ∗ rings c XA P v0.toNat ((first i v5).toNat + k.val))
        ∗ ((weights c arg3 arg5 arg8 arg9 f8 f9 g3 g5 ∗ rings c XA P v0.toNat ((first i v5).toNat + k.val + 1)) -∗ Q ()))
      ⊢ wp frame (wpE (defs₀ (F := F)) 𝒱₀ (c : Thread nD τ) none) Set.univ (trip i v0 v5 v8 arg2 harg2 arg3 harg3 arg4 harg4 arg5 harg5 arg8 harg8 arg9 harg9 arg12 harg12 hw k) Q := by
  haveI : Fact (∃ v0, Sched i v0 v5 v8) := ⟨⟨v0, S⟩⟩
  have hc3 : ¬ k0_cond3 i v0 v5 v8 k = 1#1 := fun h => h3 ((cond3_iff S k).mp h)
  have hc4 : ¬ k0_cond4 i v5 v8 k = 1#1 := fun h => h4 ((cond4_iff S k).mp h)
  have hl := S.used
  have hk := tile_lt S k
  have hs := S.stop
  have ht : (first i v5).toNat + k.val < v0.toNat := by omega
  have ht' : (first i v5).toNat + k.val < 344 := by omega
  unfold rings blocks weights trip
  rw [xring_in c XA ht, xring_out c XA h3, yring_new c P (t := (first i v5).toNat + k.val) (by omega), yring_old c P (t := (first i v5).toNat + k.val + 1 + 1) (by omega),
    sl_two, show (first i v5).toNat + k.val + 1 + 1 - 2 = (first i v5).toNat + k.val from rfl]
  iintro ⟨⟨⟨H8, H9, G3, G5⟩, ⟨%W, HW⟩, ⟨⟨%fx, HX⟩, ⟨%fx', HXs⟩, HXc, Hh⟩, ⟨⟨%gy, HY_src⟩, HY⟩, HY', HD, HF⟩, Hk⟩
  ihave HF' := (entails_of_eq (Ring.bigSep_rangeSet_head ht ht')) $$ HF
  icases HF' with ⟨HF1, HF⟩
  rw [fin_bk ht']
  ihave HF1' := (show freeP (F := F) c (Ring.bk 344 ((first i v5).toNat + k.val)) ⊢ iprop(∃ f, resP (F := F) c (Ring.bk 344 ((first i v5).toNat + k.val)) f) from .rfl) $$ HF1
  icases HF1' with ⟨%fr, HR⟩
  unfold k0_t3_body
  rw [k0_part1_eq_skeleton, k0_part2_eq_skeleton]; unfold k0_part1_skel k0_part2_skel
  sl_exec
  sl_step
  iapply Hk
  isplitl [H8 H9 G3 G5]
  · isplitl [H8]; · iexact H8
    isplitl [H9]; · iexact H9
    isplitl [G3]; · iexact G3
    iexact G5
  isplitl [HW]; · iexists _; iexact HW
  isplitl [HXc HXs HX_dst HX HX_src Hh]
  · isplitl [HXs]; · iexists _; iexact HXs
    isplitl [HXc]; · iexact HXc
    isplitl [HX_dst]; · iexists _; iexact HX_dst
    isplitl [HX]; · iexact HX
    iapply (entails_of_eq (homes_all c XA ((first i v5).toNat + k.val) ht').symm)
    isplitl [HX_src]; · iexact HX_src
    iexact Hh
  isplitl [HY']; · iexact HY'
  isplitl [HY]
  · iexists fr, _
    isplitr
    rotate_left
    · iexact HY
    · ipureintro
      rw [hP]
      unfold trip_d.sl.HY_src_w1 trip_d.sl.v77
      refine Eq.trans (read_yslot (off14_eq S k) _ _ _) ?_
      exact congrArg (fun v => fun y => k0_pay6 (k0_pay1 v _ _ _) _ (lift y)) (read_xslot (off14_eq S k) _ _ _)
  isplitl [HD]
  · rw [show (first i v5).toNat + k.val + 1 - 2 = (first i v5).toNat + k.val - 2 by omega]; iexact HD
  iexact HF

end Trip

end Cert.Proof.Grouped
-- ==== Proof.Tiles.lean ====
/-
  The loop over one expert's tiles: from the two rings before its first tile to the two rings before the next expert's.
-/
module

public import proofs.«01_k».proof.Proof.Trip

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem from_wand {A B p : sProp 𝕄} (h : iprop(A ∗ (B -∗ B)) ⊢ p) : A ⊢ p := by
  refine BIBase.Entails.trans ?_ h
  iintro HA
  isplitl [HA]; · iexact HA
  iintro HB; iexact HB

section Tiles
variable (c : Dev nD) (XA : Buf (Elt F) (xM.view.loc (c : Thread nD τ))) (P : Rows F)
  (i : grid0.Coords) (v0 v5 v8 : BitVec 32)
  (arg2 : Memref sig .tc .vmem S1x1024x2048 .f32) (harg2 : arg2.IsWhole) (arg3 : Memref sig .tc .vmem S1x1x2048 .f32) (harg3 : arg3.IsWhole)
  (arg4 : Memref sig .tc .vmem S1x1024x1024 .f32) (harg4 : arg4.IsWhole) (arg5 : Memref sig .tc .vmem S1x1x1024 .f32) (harg5 : arg5.IsWhole)
  (arg8 : Memref sig .tc .vmem S1024x2048 .bf16) (harg8 : arg8.IsWhole) (arg9 : Memref sig .tc .vmem S1024x1024 .bf16) (harg9 : arg9.IsWhole)
  (arg12 : Memref sig .tc .vmem S512x1024 .f32) (harg12 : arg12.IsWhole)
  (hw : k0_chk2 i v0 v5 v8)

/-- Before tile `k` of the expert. -/
def tilesAt (f8 : Buf (Elt F) (arg8.view.loc (c : Thread nD τ))) (f9 : Buf (Elt F) (arg9.view.loc (c : Thread nD τ)))
    (g3 : Buf (Elt F) (arg3.view.loc (c : Thread nD τ))) (g5 : Buf (Elt F) (arg5.view.loc (c : Thread nD τ))) (k : ℕ) (_ : Unit) : sProp 𝕄 :=
  iprop(weights c arg3 arg5 arg8 arg9 f8 f9 g3 g5 ∗ rings c XA P v0.toNat ((first i v5).toNat + k))

theorem tiles_step (S : Sched i v0 v5 v8) (f8 f9 g3 g5)
    (hP : ∀ t, (first i v5).toNat ≤ t → t < v8.toNat → P (Ring.bk 344 t) = rowsOf c XA arg3 arg5 arg8 arg9 f8 f9 g3 g5 t)
    (k : Fin (k0_t3_loop i v5 v8).trips) (acc : Unit) :
    tilesAt c XA P i v0 v5 arg3 arg5 arg8 arg9 f8 f9 g3 g5 k acc
      ⊢ wp frame (wpE (defs₀ (F := F)) 𝒱₀ (c : Thread nD τ) none) Set.univ (trip i v0 v5 v8 arg2 harg2 arg3 harg3 arg4 harg4 arg5 harg5 arg8 harg8 arg9 harg9 arg12 harg12 hw k)
        (tilesAt c XA P i v0 v5 arg3 arg5 arg8 arg9 f8 f9 g3 g5 (k.val + 1)) := by
  have h := hP _ (Nat.le_add_right _ k.val) (tile_lt S k)
  unfold tilesAt
  rw [← Nat.add_assoc]
  refine from_wand (B := iprop(weights c arg3 arg5 arg8 arg9 f8 f9 g3 g5 ∗ rings c XA P v0.toNat ((first i v5).toNat + k.val + 1))) ?_
  by_cases h3 : (first i v5).toNat + k.val + 1 < v0.toNat <;> by_cases h4 : 2 ≤ (first i v5).toNat + k.val
  · exact trip_a c XA P i v0 v5 v8 arg2 harg2 arg3 harg3 arg4 harg4 arg5 harg5 arg8 harg8 arg9 harg9 arg12 harg12 hw S k f8 f9 g3 g5 (fun _ => iprop(weights c arg3 arg5 arg8 arg9 f8 f9 g3 g5 ∗ rings c XA P v0.toNat ((first i v5).toNat + k.val + 1))) h3 h4 h
  · exact trip_b c XA P i v0 v5 v8 arg2 harg2 arg3 harg3 arg4 harg4 arg5 harg5 arg8 harg8 arg9 harg9 arg12 harg12 hw S k f8 f9 g3 g5 (fun _ => iprop(weights c arg3 arg5 arg8 arg9 f8 f9 g3 g5 ∗ rings c XA P v0.toNat ((first i v5).toNat + k.val + 1))) h3 h4 h
  · exact trip_c c XA P i v0 v5 v8 arg2 harg2 arg3 harg3 arg4 harg4 arg5 harg5 arg8 harg8 arg9 harg9 arg12 harg12 hw S k f8 f9 g3 g5 (fun _ => iprop(weights c arg3 arg5 arg8 arg9 f8 f9 g3 g5 ∗ rings c XA P v0.toNat ((first i v5).toNat + k.val + 1))) h3 h4 h
  · exact trip_d c XA P i v0 v5 v8 arg2 harg2 arg3 harg3 arg4 harg4 arg5 harg5 arg8 harg8 arg9 harg9 arg12 harg12 hw S k f8 f9 g3 g5 (fun _ => iprop(weights c arg3 arg5 arg8 arg9 f8 f9 g3 g5 ∗ rings c XA P v0.toNat ((first i v5).toNat + k.val + 1))) h3 h4 h

theorem tiles_exit (S : Sched i v0 v5 v8) (f8 f9 g3 g5) (acc : Unit) :
    tilesAt c XA P i v0 v5 arg3 arg5 arg8 arg9 f8 f9 g3 g5 (k0_t3_loop i v5 v8).trips acc
      ⊢ iprop(weights c arg3 arg5 arg8 arg9 f8 f9 g3 g5 ∗ rings c XA P v0.toNat v8.toNat) := by
  unfold tilesAt
  rw [t3_trips S, Nat.add_sub_cancel' S.start]
end Tiles

end Cert.Proof.Grouped
-- ==== Proof.Clears.lean ====
/-
  The blocks of the tiles not in use: at the first grid point one transfer of the zero buffer to each is issued on one
  cell, and at the last grid point all of them are waited for.
-/
module

public import proofs.«01_k».proof.Proof.Pieces

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Canon
variable {v0 : BitVec 32} (hn : v0.toNat ≤ 344)
include hn
@[sl_canon] theorem yblk3 (k : Fin (k0_t1_loop v0).trips) (hh hs) : yM.slice (Rect.unit (s := S176128x1024) (k0_off3 v0 k) S512x1024.size hh) hs = yblk (Ring.bk 344 (v0.toNat + k.val)) := yblk_congr (off3_eq hn k) _ _
@[sl_canon] theorem yblk31 (k : Fin (k0_t5_loop v0).trips) (hh hs) : yM.slice (Rect.unit (s := S176128x1024) (k0_off31 v0 k) S512x1024.size hh) hs = yblk (Ring.bk 344 (v0.toNat + k.val)) := yblk_congr (off31_eq hn k) _ _
end Canon

section Clears
variable (c : Dev nD) (Y0 : Buf (Elt F) (yM.view.loc (c : Thread nD τ)))
  (arg2 : Memref sig .tc .vmem S1x1024x2048 .f32) (harg2 : arg2.IsWhole) (arg3 : Memref sig .tc .vmem S1x1x2048 .f32) (harg3 : arg3.IsWhole)
  (arg4 : Memref sig .tc .vmem S1x1024x1024 .f32) (harg4 : arg4.IsWhole) (arg5 : Memref sig .tc .vmem S1x1x1024 .f32) (harg5 : arg5.IsWhole)
  (arg1 : Memref sig .tc .smem S32 .i32) (harg1 : arg1.IsWhole)
  (arg8 : Memref sig .tc .vmem S1024x2048 .bf16) (harg8 : arg8.IsWhole) (arg9 : Memref sig .tc .vmem S1024x1024 .bf16) (harg9 : arg9.IsWhole)
  (arg12 : Memref sig .tc .vmem S512x1024 .f32) (harg12 : arg12.IsWhole)

/-- The zero buffer under the read share of one transfer, and what is left of it after some. -/
abbrev ztok (z : Buf (Elt F) (arg12.view.loc (c : Thread nD τ))) (t : ℕ) : sProp 𝕄 :=
  arg12.view.loc (c : Thread nD τ) ↦[arg12.view.set]{Transfers.shareTokN fullShare t} z
abbrev zrest (z : Buf (Elt F) (arg12.view.loc (c : Thread nD τ))) (m : ℕ) : sProp 𝕄 :=
  arg12.view.loc (c : Thread nD τ) ↦[arg12.view.set]{Transfers.shareDrop fullShare m} z
/-- A block of the result written with the zero buffer. -/
abbrev cleared (z : Buf (Elt F) (arg12.view.loc (c : Thread nD τ))) (b : Fin 344) : Buf (Elt F) ((yblk b).view.loc (c : Thread nD τ)) :=
  (yblk b).view.writes (Elt F) Y0 [⟨Rect.whole S512x1024, ReadAs.same.apply (arg12.view.read (Elt F) z)⟩]

/-- What the transfer of each number lands. -/
abbrev clearD (n : ℕ) (z : Buf (Elt F) (arg12.view.loc (c : Thread nD τ))) : Fin (344 - n) → sProp 𝕄 := fun t =>
  iprop(resP c (Ring.bk 344 (n + t.val)) (cleared c Y0 arg12 z (Ring.bk 344 (n + t.val))) ∗ ztok c arg12 z t.val)

/-- The transfers on the clears' cell: so many issued, so much waited for. -/
abbrev clears (n : ℕ) (z : Buf (Elt F) (arg12.view.loc (c : Thread nD τ))) (j u : ℕ) : sProp 𝕄 :=
  Transfers.Batch countersEmb (c : Thread nD τ) (SemLoc.dma cc0_scratch7.sem) () 65536 (clearD c Y0 arg12 n z) j u

/-- Before the `k`-th issue: `k` issued, the other blocks and the other shares in hand. -/
def issueAt (n : ℕ) (z : Buf (Elt F) (arg12.view.loc (c : Thread nD τ))) (k : ℕ) (_ : Unit) : sProp 𝕄 :=
  iprop(clears c Y0 arg12 n z k 0 ∗ bigSep (Ring.rangeSet 344 (n + k) 344) (fun b => resP c b Y0)
    ∗ bigSep (Ring.rangeSet (344 - n) k (344 - n)) (fun t => ztok c arg12 z t.val))

abbrev issueBody (i : grid0.Coords) (v0 : BitVec 32) (hw : k0_chk1 i v0) (h1 : k0_cond1 i = 1#1) :
    Fin (k0_t1_loop v0).trips → Unit → Prog (TpuEff nD τ sig (Elt F) Λ₀ .tc) Unit :=
  k0_t1_body (F := F) i arg1 harg1 arg2 harg2 arg3 harg3 arg4 harg4 arg5 harg5 xM (Memref.isWhole_whole _) yM (Memref.isWhole_whole _)
    arg8 harg8 arg9 harg9 xbM (Memref.isWhole_whole _) ybM (Memref.isWhole_whole _) arg12 harg12 cc0_scratch5 cc0_scratch6 cc0_scratch7 v0 hw h1

theorem issue_step (i : grid0.Coords) {v0 : BitVec 32} (hn : v0.toNat ≤ 344) (hw h1) (z) (k : Fin (k0_t1_loop v0).trips) (acc : Unit) :
    issueAt c Y0 arg12 v0.toNat z k acc ⊢ wp frame (wpE (defs₀ (F := F)) 𝒱₀ (c : Thread nD τ) none) Set.univ
      (issueBody arg2 harg2 arg3 harg3 arg4 harg4 arg5 harg5 arg1 harg1 arg8 harg8 arg9 harg9 arg12 harg12 i v0 hw h1 k acc)
      (issueAt c Y0 arg12 v0.toNat z (k.val + 1)) := by
  have hk := clear_lt hn k
  unfold issueAt
  rw [Ring.bigSep_rangeSet_head (Φ := fun b => resP c b Y0) (lo := v0.toNat + k.val) (by omega) (by omega),
    Ring.bigSep_rangeSet_head (Φ := fun t => ztok c arg12 z t.val) (lo := k.val) (by omega) (by omega), fin_bk hk]
  iintro ⟨HB, ⟨HR, HRs⟩, HZ, HZs⟩
  unfold issueBody k0_t1_body
  sl_exec
  sl_step
  isplitl [HB]; · iexact HB
  isplitl [HRs]; · iexact HRs
  iexact HZs

theorem issue_exit {v0 : BitVec 32} (hn : v0.toNat ≤ 344) (z) (acc : Unit) :
    issueAt c Y0 arg12 v0.toNat z (k0_t1_loop v0).trips acc ⊢ clears c Y0 arg12 v0.toNat z (344 - v0.toNat) 0 := by
  unfold issueAt
  rw [t1_trips hn, Ring.bigSep_rangeSet_empty (show 344 ≤ v0.toNat + (344 - v0.toNat) by omega), Ring.bigSep_rangeSet_empty (le_refl _)]
  iintro ⟨H, -, -⟩
  iexact H

/-- Before the `k`-th wait. -/
def drainAt (n : ℕ) (z : Buf (Elt F) (arg12.view.loc (c : Thread nD τ))) (k : ℕ) (_ : Unit) : sProp 𝕄 :=
  iprop((∃ W, owes (c : Thread nD τ) 0 W) ∗ (if k < 344 - n then clears c Y0 arg12 n z (344 - n) (k * 65536)
      else iprop(semVal ((c : Thread nD τ), SemLoc.dma cc0_scratch7.sem) 0 ∗ bigSep Finset.univ (clearD c Y0 arg12 n z))))

abbrev drainBody (i : grid0.Coords) (v0 : BitVec 32) (hw : k0_chk1 i v0) (h7 : k0_cond7 i = 1#1) :
    Fin (k0_t5_loop v0).trips → Unit → Prog (TpuEff nD τ sig (Elt F) Λ₀ .tc) Unit :=
  k0_t5_body (F := F) i arg1 harg1 arg2 harg2 arg3 harg3 arg4 harg4 arg5 harg5 xM (Memref.isWhole_whole _) yM (Memref.isWhole_whole _)
    arg8 harg8 arg9 harg9 xbM (Memref.isWhole_whole _) ybM (Memref.isWhole_whole _) arg12 harg12 cc0_scratch5 cc0_scratch6 cc0_scratch7 v0 hw h7

theorem drain_step (i : grid0.Coords) {v0 : BitVec 32} (hn : v0.toNat ≤ 344) (hw h7) (z) (k : Fin (k0_t5_loop v0).trips) (acc : Unit) :
    drainAt c Y0 arg12 v0.toNat z k acc ⊢ wp frame (wpE (defs₀ (F := F)) 𝒱₀ (c : Thread nD τ) none) Set.univ
      (drainBody arg2 harg2 arg3 harg3 arg4 harg4 arg5 harg5 arg1 harg1 arg8 harg8 arg9 harg9 arg12 harg12 i v0 hw h7 k acc)
      (drainAt c Y0 arg12 v0.toNat z (k.val + 1)) := by
  have hk : v0.toNat + k.val < 344 := clear_lt hn k
  have hk' : k.val < 344 - v0.toNat := by omega
  unfold drainAt
  simp only [if_pos hk']
  rcases Nat.lt_or_ge (k.val + 1) (344 - v0.toNat) with h1 | h1
  · simp only [if_pos h1]
    iintro ⟨⟨%W, HO⟩, HB⟩
    unfold drainBody k0_t5_body
    sl_exec
    sl_step
    isplitl [HO]; · iexists _; iexact HO
    rw [show (k.val + 1) * 65536 = k.val * 65536 + 65536 by omega]
    iexact HB
  · simp only [if_neg (Nat.not_lt.mpr h1)]
    iintro ⟨⟨%W, HO⟩, HB⟩
    unfold drainBody k0_t5_body
    sl_exec
    sl_step
    isplitl [HO]; · iexists _; iexact HO
    isplitl [HB]; · iexact HB
    iexact HB_all

end Clears

end Cert.Proof.Grouped
-- ==== Proof.Body.lean ====
/-
  The kernel's body at one grid point.
-/
module

public import proofs.«01_k».proof.Proof.Tiles
public import proofs.«01_k».proof.Proof.Clears
public import Idealize.ShloMosaic.Lib.VecWindow

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body
variable (c : Dev nD) (XA : Buf (Elt F) (xM.view.loc (c : Thread nD τ))) (Y0 : Buf (Elt F) (yM.view.loc (c : Thread nD τ))) (P : Rows F)
  (i : grid0.Coords)
  (arg1 : Memref sig .tc .smem S32 .i32) (harg1 : arg1.IsWhole)
  (arg2 : Memref sig .tc .vmem S1x1024x2048 .f32) (harg2 : arg2.IsWhole) (arg3 : Memref sig .tc .vmem S1x1x2048 .f32) (harg3 : arg3.IsWhole)
  (arg4 : Memref sig .tc .vmem S1x1024x1024 .f32) (harg4 : arg4.IsWhole) (arg5 : Memref sig .tc .vmem S1x1x1024 .f32) (harg5 : arg5.IsWhole)
  (arg8 : Memref sig .tc .vmem S1024x2048 .bf16) (harg8 : arg8.IsWhole) (arg9 : Memref sig .tc .vmem S1024x1024 .bf16) (harg9 : arg9.IsWhole)
  (arg12 : Memref sig .tc .vmem S512x1024 .f32) (harg12 : arg12.IsWhole)

abbrev held {sp : Space} {s : Shape} {e : EltTy} (m : Memref sig .tc sp s e) (f : Buf (Elt F) (m.view.loc (c : Thread nD τ))) : sProp 𝕄 :=
  m.view.loc (c : Thread nD τ) ↦[m.view.set]{fullShare} f

abbrev part5 : Prog (TpuEff nD τ sig (Elt F) Λ₀ .tc) (Σ' (v0 : Elt F .i32) (k0_hw1 : k0_chk1 i v0), BitVec 1) :=
  k0_part5 (F := F) i arg1 harg1 arg2 harg2 arg3 harg3 arg4 harg4 arg5 harg5 xM (Memref.isWhole_whole _) yM (Memref.isWhole_whole _)
    arg8 harg8 arg9 harg9 xbM (Memref.isWhole_whole _) ybM (Memref.isWhole_whole _) arg12 harg12
    cc0_scratch5 cc0_scratch6 cc0_scratch7

/-- What the table says at a grid point. -/
structure Table (ft : Buf (Elt F) (arg1.view.loc (c : Thread nD τ))) (v0 v5 v8 : BitVec 32) : Prop where
  used : arg1.view.readAt (Elt F) (Rect.unit (s := S32) ![31] S1.size inb_S32_S1_31).toLoadRect ft (Shape.Idx.first (show 0 < S1.numel by decide)) = v0
  before : arg1.view.readAt (Elt F) (Rect.unit (s := S32) (k0_off1 i) S1.size (k0_off1_inb i)).toLoadRect ft (Shape.Idx.first (show 0 < S1.numel by decide)) = v5
  stop : arg1.view.readAt (Elt F) (Rect.unit (s := S32) (k0_off2 i) S1.size (k0_off2_inb i)).toLoadRect ft (Shape.Idx.first (show 0 < S1.numel by decide)) = v8

/-- Tile `t`'s rows from the expert's two weights and two biases as the windows hold them. -/
abbrev tileOf (g2 : Buf (Elt F) (arg2.view.loc (c : Thread nD τ))) (g3 : Buf (Elt F) (arg3.view.loc (c : Thread nD τ)))
    (g4 : Buf (Elt F) (arg4.view.loc (c : Thread nD τ))) (g5 : Buf (Elt F) (arg5.view.loc (c : Thread nD τ))) (t : ℕ) : S512x1024.Idx → Elt F .f32 :=
  tile (xload c XA (Ring.bk 344 t))
    (k0_pay4 (arg2.view.readAt (Elt F) (Rect.unit ![0, 0, 0] S1x1024x2048.size inb_S1x1024x2048_S1x1024x2048_0_0_0).toLoadRect g2))
    (arg3.view.readAt (Elt F) (Rect.unit ![0, 0, 0] S1x1x2048.size inb_S1x1x2048_S1x1x2048_0_0_0).toLoadRect g3)
    (k0_pay5 (arg4.view.readAt (Elt F) (Rect.unit ![0, 0, 0] S1x1024x1024.size inb_S1x1024x1024_S1x1024x1024_0_0_0).toLoadRect g4))
    (arg5.view.readAt (Elt F) (Rect.unit ![0, 0, 0] S1x1x1024.size inb_S1x1x1024_S1x1x1024_0_0_0).toLoadRect g5)

/-- The table and the windows at a grid point. -/
def wins (ft : Buf (Elt F) (arg1.view.loc (c : Thread nD τ))) (g2 : Buf (Elt F) (arg2.view.loc (c : Thread nD τ))) (g3 : Buf (Elt F) (arg3.view.loc (c : Thread nD τ)))
    (g4 : Buf (Elt F) (arg4.view.loc (c : Thread nD τ))) (g5 : Buf (Elt F) (arg5.view.loc (c : Thread nD τ))) : sProp 𝕄 :=
  iprop((arg1.view.loc (c : Thread nD τ) ↦[arg1.view.set]{fullShare.right} ft) ∗ held c arg2 g2 ∗ held c arg3 g3 ∗ held c arg4 g4 ∗ held c arg5 g5)
/-- The two caches, at anything. -/
def caches : sProp 𝕄 := iprop((∃ f8, held (F := F) c arg8 f8) ∗ (∃ f9, held (F := F) c arg9 f9))

/-- Before the first grid point: nothing in flight. -/
def rest0 : sProp 𝕄 :=
  iprop((∃ W, owes (c : Thread nD τ) 0 W) ∗ ((∃ f, xslotP (F := F) c (Ring.sl 2 0) f) ∗ xcellP c (Ring.sl 2 0) ∗ (∃ f, xslotP (F := F) c (Ring.sl 2 (0 + 1)) f) ∗ xcellP c (Ring.sl 2 (0 + 1))
      ∗ bigSep Finset.univ (homeP c XA)) ∗ yring c P 0 ∗ yring c P (0 + 1) ∗ bigSep Finset.univ (fun b => resP c b Y0)
    ∗ (∃ fz, held (F := F) c arg12 fz) ∗ semVal ((c : Thread nD τ), SemLoc.dma cc0_scratch7.sem) 0)

/-- The zero buffer's clears, all issued. -/
def cleared0 (n : ℕ) : sProp 𝕄 :=
  iprop(∃ z, ⌜arg12.view.read (Elt F) z = k0_pay3 (F := F)⌝ ∗ clears c Y0 arg12 n z (344 - n) 0 ∗ zrest c arg12 z (344 - n))

theorem free_of (n : ℕ) : bigSep (Ring.rangeSet 344 0 n) (fun b => resP c b Y0) ⊢ bigSep (Ring.rangeSet 344 0 n) (freeP (F := F) c) :=
  BI.bigSep_mono fun b _ => by show resP c b Y0 ⊢ iprop(∃ f, resP (F := F) c b f); iintro H; iexists Y0; iexact H

@[sl_canon] theorem xsem_0 (hh) : (cc0_scratch5.slice (Rect.unit (s := S2) ![0] S1.size hh)).squeeze S_ squeezes_S1_S_ = xsem (Ring.sl 2 0) := xsem_congr (by decide) _
@[sl_canon] theorem xslot_0 (hh hs) : (xbM.slice (Rect.unit (s := S2x512x1024) ![0, 0, 0] S1x512x1024.size hh) hs).squeeze S512x1024 squeezes_S1x512x1024_S512x1024 = xslot (Ring.sl 2 0) := xslot_congr (by decide) _ _
@[sl_canon] theorem xblk_0 (hh hs) : xM.slice (Rect.unit (s := S176128x1024) ![0, 0] S512x1024.size hh) hs = xblk (Ring.bk 344 0) := xblk_congr (by decide) _ _

theorem part5_a (ft g2 g3 g4 g5) (v0 v5 v8 : BitVec 32) (T : Table c i arg1 ft v0 v5 v8) (S : Sched i v0 v5 v8)
    (hc1 : k0_cond1 i = 1#1) (hf : (first i v5).toNat = 0) (hgt : Scalar.cmpi .ne (Scalar.extui (Scalar.cmpi .sgt v0 0#32)) 0#32 = 1#1) (hn : 0 < v0.toNat)
    (hP : ∀ t, (first i v5).toNat ≤ t → t < v8.toNat → P (Ring.bk 344 t) = tileOf c XA arg2 arg3 arg4 arg5 g2 g3 g4 g5 t)
    (Q : (Σ' (v0 : Elt F .i32) (k0_hw1 : k0_chk1 i v0), BitVec 1) → sProp 𝕄) :
    iprop(wins c arg1 arg2 arg3 arg4 arg5 ft g2 g3 g4 g5 ∗ caches (F := F) c arg8 arg9 ∗ rest0 c XA Y0 P arg12
        ∗ (∀ hw b, (wins c arg1 arg2 arg3 arg4 arg5 ft g2 g3 g4 g5 ∗ caches (F := F) c arg8 arg9 ∗ rings c XA P v0.toNat v8.toNat ∗ cleared0 c Y0 arg12 v0.toNat) -∗ Q ⟨v0, hw, b⟩))
      ⊢ wp frame (wpE (defs₀ (F := F)) 𝒱₀ (c : Thread nD τ) none) Set.univ
        (part5 i arg1 harg1 arg2 harg2 arg3 harg3 arg4 harg4 arg5 harg5 arg8 harg8 arg9 harg9 arg12 harg12) Q := by
  have hl := S.used
  unfold wins caches rest0
  iintro ⟨⟨HT, H2, H3, H4, H5⟩, ⟨⟨%f8, H8⟩, ⟨%f9, H9⟩⟩, ⟨HO, ⟨⟨%fx, HX⟩, HXc, HX1, HXc1, Hh⟩, HY, HY1, HR, ⟨%fz, H12⟩, HZc⟩, Hk⟩
  unfold part5
  rw [k0_part5_eq_skeleton]; unfold k0_part5_skel
  sl_exec
  generalize hv0 : part5_a.sl.r c arg1 ft = w0
  obtain rfl : v0 = w0 := by rw [← hv0]; exact T.used.symm
  have hk1 := chk1 S.used i
  sl_exec
  generalize hv8 : part5_a.sl.r_2 c i arg1 ft = w8
  generalize hv5 : part5_a.sl.r_1 c i arg1 ft = w5
  obtain rfl : v5 = w5 := by rw [← hv5]; exact T.before.symm
  obtain rfl : v8 = w8 := by rw [← hv8]; exact T.stop.symm
  have hk2 := chk2 S
  have h6 : part5_a.sl.v6 c i arg1 ft = first i v5 := by
    unfold part5_a.sl.v6; rw [hv5]; try rfl
  rw [h6]
  sl_exec
  generalize hz : arg12.view.writes (Elt F) arg12.view.junk part5_a.sl.H12_1 = z
  have hz' : arg12.view.read (Elt F) z = k0_pay3 (F := F) := by
    rw [← hz]; unfold part5_a.sl.H12_1; exact View.read_writes_full _ _ _ _ _
  ihave HR' := (entails_of_eq (Ring.rangeSet_univ (NB := 344) ▸ Ring.bigSep_rangeSet_split (Φ := fun b => resP c b Y0) (Nat.zero_le v0.toNat) hl)) $$ HR
  icases HR' with ⟨HRa, HRb⟩
  ihave HZ' := (Transfers.pointsTo_toks_range fullShare (344 - v0.toNat)).1 $$ H12
  icases HZ' with ⟨HZrest, HZt⟩
  ihave HZt' := (entails_of_eq (Ring.bigSep_rangeSet_eq_range (NB := 344 - v0.toNat) (lo := 0) (hi := 344 - v0.toNat)
    (Φ := fun t => ztok c arg12 z t.val) le_rfl (fun t => ztok c arg12 z t) (fun k hk => by show ztok c arg12 z k = ztok c arg12 z (0 + k); rw [Nat.zero_add])).symm) $$ HZt
  imod (Transfers.batch_alloc' (Lvl := ℕ) countersEmb (c : Thread nD τ) () 65536 (clearD c Y0 arg12 v0.toNat z) (sm := .dma cc0_scratch7.sem) (E := Set.univ)) $$ HZc with HB
  sl_for (issueAt c Y0 arg12 v0.toNat z) $$ [HB HRb HZt']
  · intro k acc; exact issue_step c Y0 arg2 harg2 arg3 harg3 arg4 harg4 arg5 harg5 arg1 harg1 arg8 harg8 arg9 harg9 arg12 harg12 i hl hk1 hc1 z k acc
  · unfold issueAt
    isplitl [HB]; · iexact HB
    isplitl [HRb]; · iexact HRb
    iexact HZt'
  iintro %acc1 HI
  sl_for (fun _ _ => (iprop(emp) : sProp 𝕄)) $$ []
  · intro k acc; exact (Nat.not_lt_zero _ (Nat.lt_of_lt_of_eq k.isLt (t2_trips hl))).elim
  · iempintro
  iintro %acc2 -
  ihave HB := (issue_exit c Y0 arg12 hl z acc1) $$ HI
  ihave Hh' := (entails_of_eq (homes_all c XA 0 (by decide))) $$ Hh
  icases Hh' with ⟨Hh0, Hh⟩
  sl_exec
  sl_for (tilesAt c XA P i v0 v5 arg3 arg5 arg8 arg9 (arg8.view.writes (Elt F) arg8.view.junk (part5_a.sl.H8_1 c arg2 g2))
    (arg9.view.writes (Elt F) arg9.view.junk (part5_a.sl.H9_1 c arg4 g4)) g3 g5) $$ [H8 H9 H3 H5 HO HXc HX1 HXc1 Hh HY HY1 HRa]
  · intro k acc
    refine tiles_step c XA P i v0 v5 v8 arg2 harg2 arg3 harg3 arg4 harg4 arg5 harg5 arg8 harg8 arg9 harg9 arg12 harg12 hk2 S _ _ g3 g5 (fun t h1 h2 => (hP t h1 h2).trans ?_) k acc
    unfold rowsOf tileOf part5_a.sl.H8_1 part5_a.sl.H9_1
    rw [View.readAt_writes_full, View.readAt_writes_full]
  · unfold tilesAt weights
    isplitl [H8 H9 H3 H5]
    · isplitl [H8]; · iexact H8
      isplitl [H9]; · iexact H9
      isplitl [H3]; · iexact H3
      iexact H5
    rw [Nat.add_zero, hf]
    unfold rings blocks
    rw [xring_in c XA hn, Ring.bigSep_rangeSet_empty (le_refl 0)]
    isplitl [HO]; · iexact HO
    isplitl [HXc  HX1 HXc1 Hh]
    · isplitl [HXc]; · iexists fx; iexact HXc

      isplitl [HX1]; · iexact HX1
      isplitl [HXc1]; · iexact HXc1
      iexact Hh
    isplitl [HY]; · iexact HY
    isplitl [HY1]; · iexact HY1
    isplitr; · iempintro
    iapply (free_of c Y0 v0.toNat)
    iexact HRa
  iintro %acc3 HI3
  sl_for (fun _ _ => (iprop(emp) : sProp 𝕄)) $$ []
  · intro k acc; exact (Nat.not_lt_zero _ (Nat.lt_of_lt_of_eq k.isLt (t4_trips S))).elim
  · iempintro
  iintro %acc4 -
  ihave HI3' := (tiles_exit c XA P i v0 v5 v8 arg3 arg5 arg8 arg9 S _ _ g3 g5 acc3) $$ HI3
  unfold weights
  icases HI3' with ⟨⟨H8, H9, H3, H5⟩, HRg⟩
  sl_exec
  sl_step
  iapply Hk
  isplitl [HT H2 H3 H4 H5]
  · isplitl [HT]; · iexact HT
    isplitl [H2]; · iexact H2
    isplitl [H3]; · iexact H3
    isplitl [H4]; · iexact H4
    iexact H5
  isplitl [H8 H9]
  · isplitl [H8]
    · iexists _; iexact H8
    · iexists _; iexact H9
  isplitl [HRg]; · iexact HRg
  unfold cleared0
  iexists z
  isplitr; · ipureintro; exact hz'
  isplitl [HB]; · iexact HB
  iexact HZrest

theorem part5_b (ft g2 g3 g4 g5) (v0 v5 v8 : BitVec 32) (T : Table c i arg1 ft v0 v5 v8) (S : Sched i v0 v5 v8)
    (hc1 : k0_cond1 i = 1#1) (hf : (first i v5).toNat = 0) (hgt : ¬ Scalar.cmpi .ne (Scalar.extui (Scalar.cmpi .sgt v0 0#32)) 0#32 = 1#1) (hn : ¬ 0 < v0.toNat)
    (hP : ∀ t, (first i v5).toNat ≤ t → t < v8.toNat → P (Ring.bk 344 t) = tileOf c XA arg2 arg3 arg4 arg5 g2 g3 g4 g5 t)
    (Q : (Σ' (v0 : Elt F .i32) (k0_hw1 : k0_chk1 i v0), BitVec 1) → sProp 𝕄) :
    iprop(wins c arg1 arg2 arg3 arg4 arg5 ft g2 g3 g4 g5 ∗ caches (F := F) c arg8 arg9 ∗ rest0 c XA Y0 P arg12
        ∗ (∀ hw b, (wins c arg1 arg2 arg3 arg4 arg5 ft g2 g3 g4 g5 ∗ caches (F := F) c arg8 arg9 ∗ rings c XA P v0.toNat v8.toNat ∗ cleared0 c Y0 arg12 v0.toNat) -∗ Q ⟨v0, hw, b⟩))
      ⊢ wp frame (wpE (defs₀ (F := F)) 𝒱₀ (c : Thread nD τ) none) Set.univ
        (part5 i arg1 harg1 arg2 harg2 arg3 harg3 arg4 harg4 arg5 harg5 arg8 harg8 arg9 harg9 arg12 harg12) Q := by
  have hl := S.used
  unfold wins caches rest0
  iintro ⟨⟨HT, H2, H3, H4, H5⟩, ⟨⟨%f8, H8⟩, ⟨%f9, H9⟩⟩, ⟨HO, ⟨⟨%fx, HX⟩, HXc, HX1, HXc1, Hh⟩, HY, HY1, HR, ⟨%fz, H12⟩, HZc⟩, Hk⟩
  unfold part5
  rw [k0_part5_eq_skeleton]; unfold k0_part5_skel
  sl_exec
  generalize hv0 : part5_b.sl.r c arg1 ft = w0
  obtain rfl : v0 = w0 := by rw [← hv0]; exact T.used.symm
  have hk1 := chk1 S.used i
  sl_exec
  generalize hv8 : part5_b.sl.r_2 c i arg1 ft = w8
  generalize hv5 : part5_b.sl.r_1 c i arg1 ft = w5
  obtain rfl : v5 = w5 := by rw [← hv5]; exact T.before.symm
  obtain rfl : v8 = w8 := by rw [← hv8]; exact T.stop.symm
  have hk2 := chk2 S
  have h6 : part5_b.sl.v6 c i arg1 ft = first i v5 := by
    unfold part5_b.sl.v6; rw [hv5]; try rfl
  rw [h6]
  sl_exec
  generalize hz : arg12.view.writes (Elt F) arg12.view.junk part5_b.sl.H12_1 = z
  have hz' : arg12.view.read (Elt F) z = k0_pay3 (F := F) := by
    rw [← hz]; unfold part5_b.sl.H12_1; exact View.read_writes_full _ _ _ _ _
  ihave HR' := (entails_of_eq (Ring.rangeSet_univ (NB := 344) ▸ Ring.bigSep_rangeSet_split (Φ := fun b => resP c b Y0) (Nat.zero_le v0.toNat) hl)) $$ HR
  icases HR' with ⟨HRa, HRb⟩
  ihave HZ' := (Transfers.pointsTo_toks_range fullShare (344 - v0.toNat)).1 $$ H12
  icases HZ' with ⟨HZrest, HZt⟩
  ihave HZt' := (entails_of_eq (Ring.bigSep_rangeSet_eq_range (NB := 344 - v0.toNat) (lo := 0) (hi := 344 - v0.toNat)
    (Φ := fun t => ztok c arg12 z t.val) le_rfl (fun t => ztok c arg12 z t) (fun k hk => by show ztok c arg12 z k = ztok c arg12 z (0 + k); rw [Nat.zero_add])).symm) $$ HZt
  imod (Transfers.batch_alloc' (Lvl := ℕ) countersEmb (c : Thread nD τ) () 65536 (clearD c Y0 arg12 v0.toNat z) (sm := .dma cc0_scratch7.sem) (E := Set.univ)) $$ HZc with HB
  sl_for (issueAt c Y0 arg12 v0.toNat z) $$ [HB HRb HZt']
  · intro k acc; exact issue_step c Y0 arg2 harg2 arg3 harg3 arg4 harg4 arg5 harg5 arg1 harg1 arg8 harg8 arg9 harg9 arg12 harg12 i hl hk1 hc1 z k acc
  · unfold issueAt
    isplitl [HB]; · iexact HB
    isplitl [HRb]; · iexact HRb
    iexact HZt'
  iintro %acc1 HI
  sl_for (fun _ _ => (iprop(emp) : sProp 𝕄)) $$ []
  · intro k acc; exact (Nat.not_lt_zero _ (Nat.lt_of_lt_of_eq k.isLt (t2_trips hl))).elim
  · iempintro
  iintro %acc2 -
  ihave HB := (issue_exit c Y0 arg12 hl z acc1) $$ HI
  sl_exec
  sl_for (tilesAt c XA P i v0 v5 arg3 arg5 arg8 arg9 (arg8.view.writes (Elt F) arg8.view.junk (part5_b.sl.H8_1 c arg2 g2))
    (arg9.view.writes (Elt F) arg9.view.junk (part5_b.sl.H9_1 c arg4 g4)) g3 g5) $$ [H8 H9 H3 H5 HO HX HXc HX1 HXc1 Hh HY HY1 HRa]
  · intro k acc
    refine tiles_step c XA P i v0 v5 v8 arg2 harg2 arg3 harg3 arg4 harg4 arg5 harg5 arg8 harg8 arg9 harg9 arg12 harg12 hk2 S _ _ g3 g5 (fun t h1 h2 => (hP t h1 h2).trans ?_) k acc
    unfold rowsOf tileOf part5_b.sl.H8_1 part5_b.sl.H9_1
    rw [View.readAt_writes_full, View.readAt_writes_full]
  · unfold tilesAt weights
    isplitl [H8 H9 H3 H5]
    · isplitl [H8]; · iexact H8
      isplitl [H9]; · iexact H9
      isplitl [H3]; · iexact H3
      iexact H5
    rw [Nat.add_zero, hf]
    unfold rings blocks
    rw [xring_out c XA hn, Ring.bigSep_rangeSet_empty (le_refl 0)]
    isplitl [HO]; · iexact HO
    isplitl [HXc HX HX1 HXc1 Hh]
    · isplitl [HX]; · iexists fx; iexact HX
      isplitl [HXc]; · iexact HXc
      isplitl [HX1]; · iexact HX1
      isplitl [HXc1]; · iexact HXc1
      iexact Hh
    isplitl [HY]; · iexact HY
    isplitl [HY1]; · iexact HY1
    isplitr; · iempintro
    iapply (free_of c Y0 v0.toNat)
    iexact HRa
  iintro %acc3 HI3
  sl_for (fun _ _ => (iprop(emp) : sProp 𝕄)) $$ []
  · intro k acc; exact (Nat.not_lt_zero _ (Nat.lt_of_lt_of_eq k.isLt (t4_trips S))).elim
  · iempintro
  iintro %acc4 -
  ihave HI3' := (tiles_exit c XA P i v0 v5 v8 arg3 arg5 arg8 arg9 S _ _ g3 g5 acc3) $$ HI3
  unfold weights
  icases HI3' with ⟨⟨H8, H9, H3, H5⟩, HRg⟩
  sl_exec
  sl_step
  iapply Hk
  isplitl [HT H2 H3 H4 H5]
  · isplitl [HT]; · iexact HT
    isplitl [H2]; · iexact H2
    isplitl [H3]; · iexact H3
    isplitl [H4]; · iexact H4
    iexact H5
  isplitl [H8 H9]
  · isplitl [H8]
    · iexists _; iexact H8
    · iexists _; iexact H9
  isplitl [HRg]; · iexact HRg
  unfold cleared0
  iexists z
  isplitr; · ipureintro; exact hz'
  isplitl [HB]; · iexact HB
  iexact HZrest

theorem part5_c (ft g2 g3 g4 g5) (v0 v5 v8 : BitVec 32) (T : Table c i arg1 ft v0 v5 v8) (S : Sched i v0 v5 v8)
    (hc1 : ¬ k0_cond1 i = 1#1)
    (hP : ∀ t, (first i v5).toNat ≤ t → t < v8.toNat → P (Ring.bk 344 t) = tileOf c XA arg2 arg3 arg4 arg5 g2 g3 g4 g5 t)
    (Q : (Σ' (v0 : Elt F .i32) (k0_hw1 : k0_chk1 i v0), BitVec 1) → sProp 𝕄) :
    iprop(wins c arg1 arg2 arg3 arg4 arg5 ft g2 g3 g4 g5 ∗ caches (F := F) c arg8 arg9 ∗ rings c XA P v0.toNat (first i v5).toNat
        ∗ (∀ hw b, (wins c arg1 arg2 arg3 arg4 arg5 ft g2 g3 g4 g5 ∗ caches (F := F) c arg8 arg9 ∗ rings c XA P v0.toNat v8.toNat) -∗ Q ⟨v0, hw, b⟩))
      ⊢ wp frame (wpE (defs₀ (F := F)) 𝒱₀ (c : Thread nD τ) none) Set.univ
        (part5 i arg1 harg1 arg2 harg2 arg3 harg3 arg4 harg4 arg5 harg5 arg8 harg8 arg9 harg9 arg12 harg12) Q := by
  have hl := S.used
  unfold wins caches
  iintro ⟨⟨HT, H2, H3, H4, H5⟩, ⟨⟨%f8, H8⟩, ⟨%f9, H9⟩⟩, HRg, Hk⟩
  unfold part5
  rw [k0_part5_eq_skeleton]; unfold k0_part5_skel
  sl_exec
  generalize hv0 : part5_c.sl.r c arg1 ft = w0
  obtain rfl : v0 = w0 := by rw [← hv0]; exact T.used.symm
  have hk1 := chk1 S.used i
  sl_exec
  generalize hv8 : part5_c.sl.r_2 c i arg1 ft = w8
  generalize hv5 : part5_c.sl.r_1 c i arg1 ft = w5
  obtain rfl : v5 = w5 := by rw [← hv5]; exact T.before.symm
  obtain rfl : v8 = w8 := by rw [← hv8]; exact T.stop.symm
  have hk2 := chk2 S
  have h6 : part5_c.sl.v6 c i arg1 ft = first i v5 := by
    unfold part5_c.sl.v6; rw [hv5]; try rfl
  rw [h6]
  sl_exec
  sl_for (tilesAt c XA P i v0 v5 arg3 arg5 arg8 arg9 (arg8.view.writes (Elt F) arg8.view.junk (part5_c.sl.H8_1 c arg2 g2))
    (arg9.view.writes (Elt F) arg9.view.junk (part5_c.sl.H9_1 c arg4 g4)) g3 g5) $$ [H8 H9 H3 H5 HRg]
  · intro k acc
    refine tiles_step c XA P i v0 v5 v8 arg2 harg2 arg3 harg3 arg4 harg4 arg5 harg5 arg8 harg8 arg9 harg9 arg12 harg12 hk2 S _ _ g3 g5 (fun t h1 h2 => (hP t h1 h2).trans ?_) k acc
    unfold rowsOf tileOf part5_c.sl.H8_1 part5_c.sl.H9_1
    rw [View.readAt_writes_full, View.readAt_writes_full]
  · unfold tilesAt weights
    isplitl [H8 H9 H3 H5]
    · isplitl [H8]; · iexact H8
      isplitl [H9]; · iexact H9
      isplitl [H3]; · iexact H3
      iexact H5
    rw [Nat.add_zero]
    iexact HRg
  iintro %acc3 HI3
  sl_for (fun _ _ => (iprop(emp) : sProp 𝕄)) $$ []
  · intro k acc; exact (Nat.not_lt_zero _ (Nat.lt_of_lt_of_eq k.isLt (t4_trips S))).elim
  · iempintro
  iintro %acc4 -
  ihave HI3' := (tiles_exit c XA P i v0 v5 v8 arg3 arg5 arg8 arg9 S _ _ g3 g5 acc3) $$ HI3
  unfold weights
  icases HI3' with ⟨⟨H8, H9, H3, H5⟩, HRg⟩
  sl_exec
  sl_step
  iapply Hk
  isplitl [HT H2 H3 H4 H5]
  · isplitl [HT]; · iexact HT
    isplitl [H2]; · iexact H2
    isplitl [H3]; · iexact H3
    isplitl [H4]; · iexact H4
    iexact H5
  isplitl [H8 H9]
  · isplitl [H8]
    · iexists _; iexact H8
    · iexists _; iexact H9
  iexact HRg

end Body
end Cert.Proof.Grouped
-- ==== Proof.Finish.lean ====
/-
  The end of the kernel's body: at the last grid point the last two tiles' transfers and the clears are waited for.
-/
module

public import proofs.«01_k».proof.Proof.Body
public import Idealize.ShloMosaic.Lib.VecWindow

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Canon
variable {v0 : BitVec 32} (hn : v0.toNat ≤ 344)
include hn
@[sl_canon] theorem ysem25 (h : 2 ≤ v0.toNat) (hh) : (cc0_scratch6.slice (Rect.unit (s := S2) (k0_off25 v0) S1.size hh)).squeeze S_ squeezes_S1_S_ = ysem (Ring.sl 2 v0.toNat) := ysem_congr (off25_eq hn h) _
@[sl_canon] theorem yblk26 (h : 2 ≤ v0.toNat) (hh hs) : yM.slice (Rect.unit (s := S176128x1024) (k0_off26 v0) S512x1024.size hh) hs = yblk (Ring.bk 344 (v0.toNat - 2)) := yblk_congr (off26_eq hn h) _ _
@[sl_canon] theorem yslot27 (h : 2 ≤ v0.toNat) (hh hs) : (ybM.slice (Rect.unit (s := S2x512x1024) (k0_off27 v0) S1x512x1024.size hh) hs).squeeze S512x1024 squeezes_S1x512x1024_S512x1024 = yslot (Ring.sl 2 v0.toNat) := yslot_congr (off27_eq hn h) _ _
@[sl_canon] theorem ysem28 (h : 1 ≤ v0.toNat) (hh) : (cc0_scratch6.slice (Rect.unit (s := S2) (k0_off28 v0) S1.size hh)).squeeze S_ squeezes_S1_S_ = ysem (Ring.sl 2 (v0.toNat + 1)) := ysem_congr (off28_eq hn h) _
@[sl_canon] theorem yblk29 (h : 1 ≤ v0.toNat) (hh hs) : yM.slice (Rect.unit (s := S176128x1024) (k0_off29 v0) S512x1024.size hh) hs = yblk (Ring.bk 344 (v0.toNat - 1)) := yblk_congr (off29_eq hn h) _ _
@[sl_canon] theorem yslot30 (h : 1 ≤ v0.toNat) (hh hs) : (ybM.slice (Rect.unit (s := S2x512x1024) (k0_off30 v0) S1x512x1024.size hh) hs).squeeze S512x1024 squeezes_S1x512x1024_S512x1024 = yslot (Ring.sl 2 (v0.toNat + 1)) := yslot_congr (off30_eq hn h) _ _
end Canon

section Finish
variable (c : Dev nD) (XA : Buf (Elt F) (xM.view.loc (c : Thread nD τ))) (Y0 : Buf (Elt F) (yM.view.loc (c : Thread nD τ))) (P : Rows F)
  (i : grid0.Coords)
  (arg1 : Memref sig .tc .smem S32 .i32) (harg1 : arg1.IsWhole)
  (arg2 : Memref sig .tc .vmem S1x1024x2048 .f32) (harg2 : arg2.IsWhole) (arg3 : Memref sig .tc .vmem S1x1x2048 .f32) (harg3 : arg3.IsWhole)
  (arg4 : Memref sig .tc .vmem S1x1024x1024 .f32) (harg4 : arg4.IsWhole) (arg5 : Memref sig .tc .vmem S1x1x1024 .f32) (harg5 : arg5.IsWhole)
  (arg8 : Memref sig .tc .vmem S1024x2048 .bf16) (harg8 : arg8.IsWhole) (arg9 : Memref sig .tc .vmem S1024x1024 .bf16) (harg9 : arg9.IsWhole)
  (arg12 : Memref sig .tc .vmem S512x1024 .f32) (harg12 : arg12.IsWhole)

abbrev bodyAt : Prog (TpuEff nD τ sig (Elt F) Λ₀ .tc) PUnit :=
  cc0_experts (F := F) i arg1 harg1 arg2 harg2 arg3 harg3 arg4 harg4 arg5 harg5 xM (Memref.isWhole_whole _) yM (Memref.isWhole_whole _)
    arg8 harg8 arg9 harg9 xbM (Memref.isWhole_whole _) ybM (Memref.isWhole_whole _) arg12 harg12
    cc0_scratch5 cc0_scratch6 cc0_scratch7

/-- After the last grid point: nothing in flight, every block of the result written. -/
def final (n : ℕ) : sProp 𝕄 :=
  iprop((∃ W, owes (c : Thread nD τ) 0 W) ∗ ((∃ f, xslotP (F := F) c (Ring.sl 2 n) f) ∗ xcellP c (Ring.sl 2 n) ∗ (∃ f, xslotP (F := F) c (Ring.sl 2 (n + 1)) f) ∗ xcellP c (Ring.sl 2 (n + 1))
      ∗ bigSep Finset.univ (homeP c XA)) ∗ ((∃ f, yslotP (F := F) c (Ring.sl 2 n) f) ∗ ycellP c (Ring.sl 2 n))
    ∗ ((∃ f, yslotP (F := F) c (Ring.sl 2 (n + 1)) f) ∗ ycellP c (Ring.sl 2 (n + 1))) ∗ bigSep Finset.univ (doneP c P)
    ∗ (∃ fz, held (F := F) c arg12 fz) ∗ semVal ((c : Thread nD τ), SemLoc.dma cc0_scratch7.sem) 0)

theorem done_of (s : Fin 2) (b : Fin 344) (f g) (hg : (yslot s).view.read (Elt F) g = P b) : resP c b (yland c s b f g) ⊢ doneP c P b := by
  unfold doneP
  iintro H
  iexists _
  isplitr
  rotate_left
  · iexact H
  · ipureintro
    refine (View.read_writes_whole (yblk b).view f _).trans ?_
    exact hg

/-- The blocks of the clears, written with zeros. -/
theorem cleared_done (n : ℕ) (z : Buf (Elt F) (arg12.view.loc (c : Thread nD τ))) (hz : arg12.view.read (Elt F) z = k0_pay3 (F := F))
    (hn : n ≤ 344) (hP0 : ∀ t, n ≤ t → t < 344 → P (Ring.bk 344 t) = k0_pay3 (F := F)) :
    iprop(bigSep Finset.univ (clearD c Y0 arg12 n z) ∗ zrest c arg12 z (344 - n)) ⊢ iprop(bigSep (Ring.rangeSet 344 n 344) (doneP c P) ∗ held c arg12 z) := by
  have e1 : (bigSep (Ring.rangeSet 344 n 344) (doneP c P) : sProp 𝕄)
      = bigSep (Finset.univ : Finset (Fin (344 - n))) (fun t => doneP c P (Ring.bk 344 (n + t.val))) := by
    rw [Ring.bigSep_rangeSet_eq_range (NB := 344) (lo := n) (hi := 344) (Φ := doneP c P) le_rfl (fun k => doneP c P (Ring.bk 344 (n + k)))
        (fun k hk => congrArg (doneP c P) (fin_bk (by omega)).symm),
      ← Ring.rangeSet_univ (NB := 344 - n),
      Ring.bigSep_rangeSet_eq_range (NB := 344 - n) (lo := 0) (hi := 344 - n) (Φ := fun t => doneP c P (Ring.bk 344 (n + t.val))) le_rfl (fun k => doneP c P (Ring.bk 344 (n + k)))
        (fun k hk => by show doneP c P (Ring.bk 344 (n + k)) = doneP c P (Ring.bk 344 (n + (0 + k))); rw [Nat.zero_add])]
    rfl
  have e2 : (bigSep (Finset.univ : Finset (Fin (344 - n))) (fun t => ztok c arg12 z t.val) : sProp 𝕄) = bigSep (Finset.range (344 - n)) (fun t => ztok c arg12 z t) := by
    rw [← Ring.rangeSet_univ (NB := 344 - n),
      Ring.bigSep_rangeSet_eq_range (NB := 344 - n) (lo := 0) (hi := 344 - n) (Φ := fun t => ztok c arg12 z t.val) le_rfl (fun t => ztok c arg12 z t)
        (fun k hk => by show ztok c arg12 z k = ztok c arg12 z (0 + k); rw [Nat.zero_add])]
    rfl
  have e3 : ∀ t : Fin (344 - n), resP c (Ring.bk 344 (n + t.val)) (cleared c Y0 arg12 z (Ring.bk 344 (n + t.val))) ⊢ doneP c P (Ring.bk 344 (n + t.val)) := fun t => by
    have ht := t.isLt
    unfold doneP
    iintro H
    iexists _
    isplitr
    rotate_left
    · iexact H
    · ipureintro
      refine (View.read_writes_whole (yblk (Ring.bk 344 (n + t.val))).view Y0 _).trans ?_
      exact hz.trans (hP0 _ (by omega) (by omega)).symm
  have e4 : bigSep (Finset.univ : Finset (Fin (344 - n))) (fun t => resP c (Ring.bk 344 (n + t.val)) (cleared c Y0 arg12 z (Ring.bk 344 (n + t.val))))
      ⊢ bigSep (Finset.univ : Finset (Fin (344 - n))) (fun t => doneP c P (Ring.bk 344 (n + t.val))) := BI.bigSep_mono fun t _ => e3 t
  rw [e1]
  iintro ⟨HD, Hr⟩
  ihave HD' := (entails_of_eq (bigSep_sep' _ _ _)) $$ HD
  icases HD' with ⟨HR, HZ⟩
  isplitl [HR]
  · iapply e4; iexact HR
  · iapply (Transfers.pointsTo_toks_range fullShare (344 - n)).2
    isplitl [Hr]; · iexact Hr
    iapply (entails_of_eq e2); iexact HZ

theorem drain_enter (n : ℕ) (hn : n ≤ 344) (z : Buf (Elt F) (arg12.view.loc (c : Thread nD τ))) :
    iprop((∃ W, owes (c : Thread nD τ) 0 W) ∗ clears c Y0 arg12 n z (344 - n) 0) ⊢ (|={Set.univ}=> drainAt c Y0 arg12 n z 0 () : sProp 𝕄) := by
  unfold drainAt
  rcases Nat.lt_or_ge 0 (344 - n) with h | h
  · rw [if_pos h, Nat.zero_mul]
    iintro H; imodintro; iexact H
  · rw [if_neg (Nat.not_lt.mpr h)]
    iintro ⟨HO, HB⟩
    ihave HB' := (entails_of_eq (show clears c Y0 arg12 n z (344 - n) 0 = clears c Y0 arg12 n z (344 - n) (65536 * (344 - n)) by rw [show 65536 * (344 - n) = 0 by omega])) $$ HB
    imod (Transfers.batch_collect' (EC := countersEmb) (c := (c : Thread nD τ)) (ι := ()) (N := 65536) (by decide) (D := clearD c Y0 arg12 n z)) $$ HB' with ⟨HD, HC⟩
    imodintro
    isplitl [HO]; · iexact HO
    isplitl [HC]; · iexact HC
    iexact HD

theorem done_all (n : ℕ) (hn : n ≤ 344) : iprop(bigSep (Ring.rangeSet 344 0 n) (doneP c P) ∗ bigSep (Ring.rangeSet 344 n 344) (doneP c P)) ⊢ bigSep Finset.univ (doneP c P) :=
  entails_of_eq (Ring.rangeSet_univ (NB := 344) ▸ Ring.bigSep_rangeSet_split (Φ := doneP c P) (Nat.zero_le n) hn).symm

variable (ft : Buf (Elt F) (arg1.view.loc (c : Thread nD τ))) (g2 : Buf (Elt F) (arg2.view.loc (c : Thread nD τ))) (g3 : Buf (Elt F) (arg3.view.loc (c : Thread nD τ)))
    (g4 : Buf (Elt F) (arg4.view.loc (c : Thread nD τ))) (g5 : Buf (Elt F) (arg5.view.loc (c : Thread nD τ)))

/-- What the first part of the body does, in the form the rest of it takes. -/
def FirstPart (Pre Mid : sProp 𝕄) (v0 : BitVec 32) : Prop :=
  ∀ (Q : (Σ' (v0 : Elt F .i32) (k0_hw1 : k0_chk1 i v0), BitVec 1) → sProp 𝕄), iprop(Pre ∗ (∀ hw b, Mid -∗ Q ⟨v0, hw, b⟩))
      ⊢ wp frame (wpE (defs₀ (F := F)) 𝒱₀ (c : Thread nD τ) none) Set.univ
        (part5 i arg1 harg1 arg2 harg2 arg3 harg3 arg4 harg4 arg5 harg5 arg8 harg8 arg9 harg9 arg12 harg12) Q

theorem mid (Pre Mid : sProp 𝕄) (v0 : BitVec 32) (hp : FirstPart c i arg1 harg1 arg2 harg2 arg3 harg3 arg4 harg4 arg5 harg5 arg8 harg8 arg9 harg9 arg12 harg12 Pre Mid v0)
    (hc7 : ¬ k0_cond7 i = 1#1) (Q : PUnit → sProp 𝕄) :
    iprop(Pre ∗ (Mid -∗ Q ⟨⟩)) ⊢ wp frame (wpE (defs₀ (F := F)) 𝒱₀ (c : Thread nD τ) none) Set.univ
        (bodyAt i arg1 harg1 arg2 harg2 arg3 harg3 arg4 harg4 arg5 harg5 arg8 harg8 arg9 harg9 arg12 harg12) Q := by
  unfold bodyAt
  rw [cc0_experts_eq_skeleton]; unfold cc0_experts_skel
  rw [wp_bind]
  iintro ⟨HP, Hk⟩
  iapply (hp _)
  isplitl [HP]; · iexact HP
  iintro %hw %b HM
  sl_exec
  sl_step
  iapply Hk
  iexact HM

theorem drain_leave {v0 : BitVec 32} (hn : v0.toNat ≤ 344) (z) (acc : Unit) :
    drainAt c Y0 arg12 v0.toNat z (k0_t5_loop v0).trips acc
      ⊢ iprop((∃ W, owes (c : Thread nD τ) 0 W) ∗ semVal ((c : Thread nD τ), SemLoc.dma cc0_scratch7.sem) 0 ∗ bigSep Finset.univ (clearD c Y0 arg12 v0.toNat z)) := by
  unfold drainAt
  rw [t5_trips hn, if_neg (Nat.lt_irrefl _)]

set_option maxHeartbeats 1000000 in
theorem last_two (Pre : sProp 𝕄) (v0 : BitVec 32) (hn : v0.toNat ≤ 344) (h2 : 2 ≤ v0.toNat)
    (hP0 : ∀ t, v0.toNat ≤ t → t < 344 → P (Ring.bk 344 t) = k0_pay3 (F := F))
    (hp : FirstPart c i arg1 harg1 arg2 harg2 arg3 harg3 arg4 harg4 arg5 harg5 arg8 harg8 arg9 harg9 arg12 harg12 Pre
      iprop(wins c arg1 arg2 arg3 arg4 arg5 ft g2 g3 g4 g5 ∗ caches (F := F) c arg8 arg9 ∗ rings c XA P v0.toNat v0.toNat ∗ cleared0 c Y0 arg12 v0.toNat) v0)
    (hc7 : k0_cond7 i = 1#1) (Q : PUnit → sProp 𝕄) :
    iprop(Pre ∗ ((wins c arg1 arg2 arg3 arg4 arg5 ft g2 g3 g4 g5 ∗ caches (F := F) c arg8 arg9 ∗ final c XA P arg12 v0.toNat) -∗ Q ⟨⟩))
      ⊢ wp frame (wpE (defs₀ (F := F)) 𝒱₀ (c : Thread nD τ) none) Set.univ
        (bodyAt i arg1 harg1 arg2 harg2 arg3 harg3 arg4 harg4 arg5 harg5 arg8 harg8 arg9 harg9 arg12 harg12) Q := by
  unfold bodyAt
  rw [cc0_experts_eq_skeleton]; unfold cc0_experts_skel
  rw [wp_bind]
  iintro ⟨HP, Hk⟩
  iapply (hp _)
  isplitl [HP]; · iexact HP
  iintro %hw %b ⟨HW, HC, HRg, HCl⟩
  have h1 : 1 ≤ v0.toNat := by omega
  have hc8 : k0_cond8 v0 = 1#1 := (cond8_iff hn).mpr h2
  have hc9 : k0_cond9 v0 = 1#1 := (cond9_iff hn).mpr h1
  unfold rings blocks cleared0
  rw [xring_out c XA (Nat.lt_irrefl v0.toNat), yring_old c P (t := v0.toNat) (by omega), yring_old c P (t := v0.toNat + 1) (by omega), show v0.toNat + 1 - 2 = v0.toNat - 1 by omega]
  icases HRg with ⟨⟨%W, HO⟩, HX, ⟨%fa, %ga, %ha, HY⟩, ⟨%fb, %gb, %hb, HZY⟩, HD, -⟩
  icases HCl with ⟨%z, %hz, HB, HZ⟩
  sl_exec
  ihave HE := (drain_enter c Y0 arg12 v0.toNat hn z) $$ [HO HB]
  · isplitl [HO]; · iexists _; iexact HO
    iexact HB
  imod HE with HE
  sl_for (drainAt c Y0 arg12 v0.toNat z) $$ [HE]
  · intro k acc; exact drain_step c Y0 arg2 harg2 arg3 harg3 arg4 harg4 arg5 harg5 arg1 harg1 arg8 harg8 arg9 harg9 arg12 harg12 i hn hw hc7 z k acc
  · iexact HE
  iintro %acc1 HI
  sl_for (fun _ _ => (iprop(emp) : sProp 𝕄)) $$ []
  · intro k acc; exact (Nat.not_lt_zero _ (Nat.lt_of_lt_of_eq k.isLt (t6_trips hn))).elim
  · iempintro
  iintro %acc2 -
  sl_exec
  sl_step
  ihave HI' := (drain_leave c Y0 arg12 hn z acc1) $$ HI
  icases HI' with ⟨HO, HZc, HDs⟩
  ihave HE2 := (cleared_done c Y0 P arg12 v0.toNat z hz hn hP0) $$ [HDs HZ]
  · isplitl [HDs]; · iexact HDs
    iexact HZ
  icases HE2 with ⟨HDr, HZb⟩
  iapply Hk
  isplitl [HW]; · iexact HW
  isplitl [HC]; · iexact HC
  unfold final
  isplitl [HO]; · iexact HO
  isplitl [HX]; · iexact HX
  isplitl [HY HY_src]
  · isplitl [HY_src]; · iexists _; iexact HY_src
    iexact HY
  isplitl [HZY HZY_src]
  · isplitl [HZY_src]; · iexists _; iexact HZY_src
    iexact HZY
  isplitl [HD HDr HY_dst HZY_dst]
  · iapply (done_all c P v0.toNat hn)
    isplitr [HDr]
    · have ea : (⟨v0.toNat - 1, by omega⟩ : Fin 344) = Ring.bk 344 (v0.toNat - 1) := fin_bk _
      have eb : (⟨v0.toNat - 1 - 1, by omega⟩ : Fin 344) = Ring.bk 344 (v0.toNat - 2) := fin_bk (t := v0.toNat - 2) (by omega)
      rw [Ring.bigSep_rangeSet_last (show 0 < v0.toNat by omega) hn, ea,
        Ring.bigSep_rangeSet_last (show 0 < v0.toNat - 1 by omega) (show v0.toNat - 1 ≤ 344 by omega), eb, show v0.toNat - 1 - 1 = v0.toNat - 2 by omega]
      isplitl [HZY_dst]
      · iapply (done_of c P _ _ _ gb hb); iexact HZY_dst
      isplitl [HY_dst]
      · iapply (done_of c P _ _ _ ga ha); iexact HY_dst
      iexact HD
    · iexact HDr
  isplitl [HZb]; · iexists _; iexact HZb
  iexact HZc

set_option maxHeartbeats 1000000 in
theorem last_one (Pre : sProp 𝕄) (v0 : BitVec 32) (hn : v0.toNat ≤ 344) (h1 : v0.toNat = 1)
    (hP0 : ∀ t, v0.toNat ≤ t → t < 344 → P (Ring.bk 344 t) = k0_pay3 (F := F))
    (hp : FirstPart c i arg1 harg1 arg2 harg2 arg3 harg3 arg4 harg4 arg5 harg5 arg8 harg8 arg9 harg9 arg12 harg12 Pre
      iprop(wins c arg1 arg2 arg3 arg4 arg5 ft g2 g3 g4 g5 ∗ caches (F := F) c arg8 arg9 ∗ rings c XA P v0.toNat v0.toNat ∗ cleared0 c Y0 arg12 v0.toNat) v0)
    (hc7 : k0_cond7 i = 1#1) (Q : PUnit → sProp 𝕄) :
    iprop(Pre ∗ ((wins c arg1 arg2 arg3 arg4 arg5 ft g2 g3 g4 g5 ∗ caches (F := F) c arg8 arg9 ∗ final c XA P arg12 v0.toNat) -∗ Q ⟨⟩))
      ⊢ wp frame (wpE (defs₀ (F := F)) 𝒱₀ (c : Thread nD τ) none) Set.univ
        (bodyAt i arg1 harg1 arg2 harg2 arg3 harg3 arg4 harg4 arg5 harg5 arg8 harg8 arg9 harg9 arg12 harg12) Q := by
  unfold bodyAt
  rw [cc0_experts_eq_skeleton]; unfold cc0_experts_skel
  rw [wp_bind]
  iintro ⟨HP, Hk⟩
  iapply (hp _)
  isplitl [HP]; · iexact HP
  iintro %hw %b ⟨HW, HC, HRg, HCl⟩
  have h1' : 1 ≤ v0.toNat := by omega
  have hc8 : ¬ k0_cond8 v0 = 1#1 := fun h => by have := (cond8_iff hn).mp h; omega
  have hc9 : k0_cond9 v0 = 1#1 := (cond9_iff hn).mpr h1'
  unfold rings blocks cleared0
  rw [xring_out c XA (Nat.lt_irrefl v0.toNat), yring_new c P (t := v0.toNat) (by omega), yring_old c P (t := v0.toNat + 1) (by omega), show v0.toNat + 1 - 2 = v0.toNat - 1 by omega]
  icases HRg with ⟨⟨%W, HO⟩, HX, ⟨HYs, HY⟩, ⟨%fb, %gb, %hb, HZY⟩, HD, -⟩
  icases HCl with ⟨%z, %hz, HB, HZ⟩
  sl_exec
  ihave HE := (drain_enter c Y0 arg12 v0.toNat hn z) $$ [HO HB]
  · isplitl [HO]; · iexists _; iexact HO
    iexact HB
  imod HE with HE
  sl_for (drainAt c Y0 arg12 v0.toNat z) $$ [HE]
  · intro k acc; exact drain_step c Y0 arg2 harg2 arg3 harg3 arg4 harg4 arg5 harg5 arg1 harg1 arg8 harg8 arg9 harg9 arg12 harg12 i hn hw hc7 z k acc
  · iexact HE
  iintro %acc1 HI
  sl_for (fun _ _ => (iprop(emp) : sProp 𝕄)) $$ []
  · intro k acc; exact (Nat.not_lt_zero _ (Nat.lt_of_lt_of_eq k.isLt (t6_trips hn))).elim
  · iempintro
  iintro %acc2 -
  sl_exec
  sl_step
  ihave HI' := (drain_leave c Y0 arg12 hn z acc1) $$ HI
  icases HI' with ⟨HO, HZc, HDs⟩
  ihave HE2 := (cleared_done c Y0 P arg12 v0.toNat z hz hn hP0) $$ [HDs HZ]
  · isplitl [HDs]; · iexact HDs
    iexact HZ
  icases HE2 with ⟨HDr, HZb⟩
  iapply Hk
  isplitl [HW]; · iexact HW
  isplitl [HC]; · iexact HC
  unfold final
  isplitl [HO]; · iexact HO
  isplitl [HX]; · iexact HX
  isplitl [HY HYs]
  · isplitl [HYs]; · iexact HYs
    iexact HY
  isplitl [HZY HZY_src]
  · isplitl [HZY_src]; · iexists _; iexact HZY_src
    iexact HZY
  isplitl [HD HDr HZY_dst]
  · iapply (done_all c P v0.toNat hn)
    isplitr [HDr]
    · have ea : (⟨v0.toNat - 1, by omega⟩ : Fin 344) = Ring.bk 344 (v0.toNat - 1) := fin_bk _
      rw [Ring.bigSep_rangeSet_last (show 0 < v0.toNat by omega) hn, ea, show v0.toNat - 2 = v0.toNat - 1 by omega]
      isplitl [HZY_dst]
      · iapply (done_of c P _ _ _ gb hb); iexact HZY_dst
      iexact HD
    · iexact HDr
  isplitl [HZb]; · iexists _; iexact HZb
  iexact HZc

set_option maxHeartbeats 1000000 in
theorem last_none (Pre : sProp 𝕄) (v0 : BitVec 32) (hn : v0.toNat ≤ 344) (h0 : v0.toNat = 0)
    (hP0 : ∀ t, v0.toNat ≤ t → t < 344 → P (Ring.bk 344 t) = k0_pay3 (F := F))
    (hp : FirstPart c i arg1 harg1 arg2 harg2 arg3 harg3 arg4 harg4 arg5 harg5 arg8 harg8 arg9 harg9 arg12 harg12 Pre
      iprop(wins c arg1 arg2 arg3 arg4 arg5 ft g2 g3 g4 g5 ∗ caches (F := F) c arg8 arg9 ∗ rings c XA P v0.toNat v0.toNat ∗ cleared0 c Y0 arg12 v0.toNat) v0)
    (hc7 : k0_cond7 i = 1#1) (Q : PUnit → sProp 𝕄) :
    iprop(Pre ∗ ((wins c arg1 arg2 arg3 arg4 arg5 ft g2 g3 g4 g5 ∗ caches (F := F) c arg8 arg9 ∗ final c XA P arg12 v0.toNat) -∗ Q ⟨⟩))
      ⊢ wp frame (wpE (defs₀ (F := F)) 𝒱₀ (c : Thread nD τ) none) Set.univ
        (bodyAt i arg1 harg1 arg2 harg2 arg3 harg3 arg4 harg4 arg5 harg5 arg8 harg8 arg9 harg9 arg12 harg12) Q := by
  unfold bodyAt
  rw [cc0_experts_eq_skeleton]; unfold cc0_experts_skel
  rw [wp_bind]
  iintro ⟨HP, Hk⟩
  iapply (hp _)
  isplitl [HP]; · iexact HP
  iintro %hw %b ⟨HW, HC, HRg, HCl⟩
  have hc8 : ¬ k0_cond8 v0 = 1#1 := fun h => by have := (cond8_iff hn).mp h; omega
  have hc9 : ¬ k0_cond9 v0 = 1#1 := fun h => by have := (cond9_iff hn).mp h; omega
  unfold rings blocks cleared0
  rw [xring_out c XA (Nat.lt_irrefl v0.toNat), yring_new c P (t := v0.toNat) (by omega), yring_new c P (t := v0.toNat + 1) (by omega), show v0.toNat - 2 = v0.toNat by omega]
  icases HRg with ⟨⟨%W, HO⟩, HX, HY, HY2, HD, -⟩
  icases HCl with ⟨%z, %hz, HB, HZ⟩
  sl_exec
  ihave HE := (drain_enter c Y0 arg12 v0.toNat hn z) $$ [HO HB]
  · isplitl [HO]; · iexists _; iexact HO
    iexact HB
  imod HE with HE
  sl_for (drainAt c Y0 arg12 v0.toNat z) $$ [HE]
  · intro k acc; exact drain_step c Y0 arg2 harg2 arg3 harg3 arg4 harg4 arg5 harg5 arg1 harg1 arg8 harg8 arg9 harg9 arg12 harg12 i hn hw hc7 z k acc
  · iexact HE
  iintro %acc1 HI
  sl_for (fun _ _ => (iprop(emp) : sProp 𝕄)) $$ []
  · intro k acc; exact (Nat.not_lt_zero _ (Nat.lt_of_lt_of_eq k.isLt (t6_trips hn))).elim
  · iempintro
  iintro %acc2 -
  sl_exec
  sl_step
  ihave HI' := (drain_leave c Y0 arg12 hn z acc1) $$ HI
  icases HI' with ⟨HO, HZc, HDs⟩
  ihave HE2 := (cleared_done c Y0 P arg12 v0.toNat z hz hn hP0) $$ [HDs HZ]
  · isplitl [HDs]; · iexact HDs
    iexact HZ
  icases HE2 with ⟨HDr, HZb⟩
  iapply Hk
  isplitl [HW]; · iexact HW
  isplitl [HC]; · iexact HC
  unfold final
  isplitl [HO]; · iexact HO
  isplitl [HX]; · iexact HX
  isplitl [HY]; · iexact HY
  isplitl [HY2]; · iexact HY2
  isplitl [HD HDr]
  · iapply (done_all c P v0.toNat hn)
    isplitr [HDr]
    · iexact HD
    · iexact HDr
  isplitl [HZb]; · iexists _; iexact HZb
  iexact HZc

end Finish
end Cert.Proof.Grouped
-- ==== Proof.Point.lean ====
/-
  The kernel's body at every grid point, from the state before it to the state after it.
-/
module

public import proofs.«01_k».proof.Proof.Finish
public import Idealize.ShloMosaic.Lib.VecWindow

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The table's words: in order, and no tile past the last. -/
structure Ordered (w : Fin 32 → BitVec 32) : Prop where
  mono : ∀ e e', e ≤ e' → (w e).toNat ≤ (w e').toNat
  le : (w 31).toNat ≤ 344

/-- Where the tiles of expert `k` start; at 32, how many tiles there are. -/
def bnd (w : Fin 32 → BitVec 32) (k : ℕ) : ℕ := if h : 0 < k ∧ k ≤ 32 then (w ⟨k - 1, by omega⟩).toNat else 0

theorem bnd_zero (w : Fin 32 → BitVec 32) : bnd w 0 = 0 := rfl
theorem bnd_succ (w : Fin 32 → BitVec 32) (e : Fin 32) : bnd w (e.val + 1) = (w e).toNat := by
  unfold bnd; rw [dif_pos ⟨by omega, by omega⟩]; rfl

/-- The word before expert `e`'s (its own at 0). -/
abbrev prev (e : Fin 32) : Fin 32 := ⟨e.val - 1, by omega⟩

theorem first_eq (w : Fin 32 → BitVec 32) (i : grid0.Coords) (e : Fin 32) (he : (i 0).val = e.val) : (first i (w (prev e))).toNat = bnd w e.val := by
  unfold first bnd
  rw [he]
  by_cases h : e.val = 0
  · rw [first_zero e h, dif_neg (by omega)]; rfl
  · have := first_pos e h
    rw [dif_pos ⟨by omega, by omega⟩]
    exact congrArg BitVec.toNat (if_neg this)

theorem sched (w : Fin 32 → BitVec 32) (hw : Ordered w) (i : grid0.Coords) (e : Fin 32) (he : (i 0).val = e.val) : Sched i (w 31) (w (prev e)) (w e) where
  used := hw.le
  start := by
    rw [first_eq w i e he]; unfold bnd
    split
    · exact hw.mono _ _ (by show e.val - 1 ≤ e.val; omega)
    · exact Nat.zero_le _
  stop := hw.mono _ _ (by show e.val ≤ 31; omega)

theorem cond1_at (i : grid0.Coords) (e : Fin 32) (he : (i 0).val = e.val) : k0_cond1 i = 1#1 ↔ e.val = 0 := by
  have h := cond1_iff e; rw [← he] at h; rw [← he]; exact h
theorem cond7_at (i : grid0.Coords) (e : Fin 32) (he : (i 0).val = e.val) : k0_cond7 i = 1#1 ↔ e.val = 31 := by
  have h := cond7_iff e; rw [← he] at h; rw [← he]; exact h
theorem sgt_zero (v : BitVec 32) (h : v.toNat ≤ 344) : Scalar.cmpi .ne (Scalar.extui (Scalar.cmpi .sgt v 0#32)) 0#32 = 1#1 ↔ 0 < v.toNat := by
  rw [Scalar.guard_iff]; show IntOp.cmpi .sgt v 0#32 = 1#1 ↔ _
  rw [IntOp.cmpi_sgt, toInt_small (v := v) (by omega)]; simp

section Point
variable (c : Dev nD) (XA : Buf (Elt F) (xM.view.loc (c : Thread nD τ))) (Y0 : Buf (Elt F) (yM.view.loc (c : Thread nD τ))) (P : Rows F)
  (i : grid0.Coords)
  (arg1 : Memref sig .tc .smem S32 .i32) (harg1 : arg1.IsWhole)
  (arg2 : Memref sig .tc .vmem S1x1024x2048 .f32) (harg2 : arg2.IsWhole) (arg3 : Memref sig .tc .vmem S1x1x2048 .f32) (harg3 : arg3.IsWhole)
  (arg4 : Memref sig .tc .vmem S1x1024x1024 .f32) (harg4 : arg4.IsWhole) (arg5 : Memref sig .tc .vmem S1x1x1024 .f32) (harg5 : arg5.IsWhole)
  (arg8 : Memref sig .tc .vmem S1024x2048 .bf16) (harg8 : arg8.IsWhole) (arg9 : Memref sig .tc .vmem S1024x1024 .bf16) (harg9 : arg9.IsWhole)
  (arg12 : Memref sig .tc .vmem S512x1024 .f32) (harg12 : arg12.IsWhole)

variable (ft : Buf (Elt F) (arg1.view.loc (c : Thread nD τ))) (g2 : Buf (Elt F) (arg2.view.loc (c : Thread nD τ))) (g3 : Buf (Elt F) (arg3.view.loc (c : Thread nD τ)))
    (g4 : Buf (Elt F) (arg4.view.loc (c : Thread nD τ))) (g5 : Buf (Elt F) (arg5.view.loc (c : Thread nD τ)))

/-- The state before grid point `k`, the waits recorded apart. -/
def restI : sProp 𝕄 :=
  iprop(((∃ f, xslotP (F := F) c (Ring.sl 2 0) f) ∗ xcellP c (Ring.sl 2 0) ∗ (∃ f, xslotP (F := F) c (Ring.sl 2 (0 + 1)) f) ∗ xcellP c (Ring.sl 2 (0 + 1))
      ∗ bigSep Finset.univ (homeP c XA)) ∗ yring c P 0 ∗ yring c P (0 + 1) ∗ bigSep Finset.univ (fun b => resP c b Y0)
    ∗ (∃ fz, held (F := F) c arg12 fz) ∗ semVal ((c : Thread nD τ), SemLoc.dma cc0_scratch7.sem) 0)
def ringsI (n t : ℕ) : sProp 𝕄 := iprop((xring c XA n t ∗ yring c P t ∗ yring c P (t + 1) ∗ blocks c P n t) ∗ cleared0 c Y0 arg12 n)
def finalI (n : ℕ) : sProp 𝕄 :=
  iprop(((∃ f, xslotP (F := F) c (Ring.sl 2 n) f) ∗ xcellP c (Ring.sl 2 n) ∗ (∃ f, xslotP (F := F) c (Ring.sl 2 (n + 1)) f) ∗ xcellP c (Ring.sl 2 (n + 1))
      ∗ bigSep Finset.univ (homeP c XA)) ∗ ((∃ f, yslotP (F := F) c (Ring.sl 2 n) f) ∗ ycellP c (Ring.sl 2 n))
    ∗ ((∃ f, yslotP (F := F) c (Ring.sl 2 (n + 1)) f) ∗ ycellP c (Ring.sl 2 (n + 1))) ∗ bigSep Finset.univ (doneP c P)
    ∗ (∃ fz, held (F := F) c arg12 fz) ∗ semVal ((c : Thread nD τ), SemLoc.dma cc0_scratch7.sem) 0)
def inv (w : Fin 32 → BitVec 32) (k : ℕ) : sProp 𝕄 :=
  if k = 0 then restI c XA Y0 P arg12 else if k ≤ 31 then ringsI c XA Y0 P arg12 (w 31).toNat (bnd w k) else finalI c XA P arg12 (w 31).toNat

theorem point (w : Fin 32 → BitVec 32) (hw : Ordered w) (e : Fin 32) (he : (i 0).val = e.val) (T : Table c i arg1 ft (w 31) (w (prev e)) (w e))
    (hP : ∀ t, bnd w e.val ≤ t → t < (w e).toNat → P (Ring.bk 344 t) = tileOf c XA arg2 arg3 arg4 arg5 g2 g3 g4 g5 t)
    (hP0 : ∀ t, (w 31).toNat ≤ t → t < 344 → P (Ring.bk 344 t) = k0_pay3 (F := F)) (Q : PUnit → sProp 𝕄) :
    iprop((wins c arg1 arg2 arg3 arg4 arg5 ft g2 g3 g4 g5 ∗ caches (F := F) c arg8 arg9 ∗ (∃ W, owes (c : Thread nD τ) 0 W) ∗ inv c XA Y0 P arg12 w e.val)
        ∗ ((wins c arg1 arg2 arg3 arg4 arg5 ft g2 g3 g4 g5 ∗ caches (F := F) c arg8 arg9 ∗ (∃ W, owes (c : Thread nD τ) 0 W) ∗ inv c XA Y0 P arg12 w (e.val + 1)) -∗ Q ⟨⟩))
      ⊢ wp frame (wpE (defs₀ (F := F)) 𝒱₀ (c : Thread nD τ) none) Set.univ (bodyAt i arg1 harg1 arg2 harg2 arg3 harg3 arg4 harg4 arg5 harg5 arg8 harg8 arg9 harg9 arg12 harg12) Q := by
  have S := sched w hw i e he
  have hf := first_eq w i e he
  rw [← hf] at hP
  have fp : FirstPart c i arg1 harg1 arg2 harg2 arg3 harg3 arg4 harg4 arg5 harg5 arg8 harg8 arg9 harg9 arg12 harg12
      iprop(wins c arg1 arg2 arg3 arg4 arg5 ft g2 g3 g4 g5 ∗ caches (F := F) c arg8 arg9 ∗ (∃ W, owes (c : Thread nD τ) 0 W) ∗ inv c XA Y0 P arg12 w e.val)
      iprop(wins c arg1 arg2 arg3 arg4 arg5 ft g2 g3 g4 g5 ∗ caches (F := F) c arg8 arg9 ∗ rings c XA P (w 31).toNat (w e).toNat ∗ cleared0 c Y0 arg12 (w 31).toNat) (w 31) := by
    intro Q
    by_cases h0 : e.val = 0
    · have hc1 := (cond1_at i e he).mpr h0
      have hf0 : (first i (w (prev e))).toNat = 0 := by rw [hf, h0]; rfl
      unfold inv; rw [if_pos h0]
      iintro ⟨⟨HW, HC, HO, HI⟩, Hk⟩
      rcases Nat.eq_zero_or_pos (w 31).toNat with hn | hn
      · iapply (part5_b c XA Y0 P i arg1 harg1 arg2 harg2 arg3 harg3 arg4 harg4 arg5 harg5 arg8 harg8 arg9 harg9 arg12 harg12 ft g2 g3 g4 g5 _ _ _ T S hc1 hf0 (fun h => by have := (sgt_zero _ hw.le).mp h; omega) (by omega) hP Q)
        isplitl [HW]; · iexact HW
        isplitl [HC]; · iexact HC
        isplitl [HO HI]
        · unfold rest0 restI
          isplitl [HO]; · iexact HO
          iexact HI
        iexact Hk
      · iapply (part5_a c XA Y0 P i arg1 harg1 arg2 harg2 arg3 harg3 arg4 harg4 arg5 harg5 arg8 harg8 arg9 harg9 arg12 harg12 ft g2 g3 g4 g5 _ _ _ T S hc1 hf0 ((sgt_zero _ hw.le).mpr hn) hn hP Q)
        isplitl [HW]; · iexact HW
        isplitl [HC]; · iexact HC
        isplitl [HO HI]
        · unfold rest0 restI
          isplitl [HO]; · iexact HO
          iexact HI
        iexact Hk
    · have hc1 : ¬ k0_cond1 i = 1#1 := fun h => h0 ((cond1_at i e he).mp h)
      unfold inv ringsI; rw [if_neg h0, if_pos (by omega), ← hf]
      iintro ⟨⟨HW, HC, HO, HI, HCl⟩, Hk⟩
      iapply (part5_c c XA P i arg1 harg1 arg2 harg2 arg3 harg3 arg4 harg4 arg5 harg5 arg8 harg8 arg9 harg9 arg12 harg12 ft g2 g3 g4 g5 _ _ _ T S hc1 hP Q)
      isplitl [HW]; · iexact HW
      isplitl [HC]; · iexact HC
      isplitl [HO HI]
      · unfold rings
        isplitl [HO]; · iexact HO
        iexact HI
      iintro %hw1 %b ⟨HW, HC, HR⟩
      iapply Hk
      isplitl [HW]; · iexact HW
      isplitl [HC]; · iexact HC
      isplitl [HR]; · iexact HR
      iexact HCl
  by_cases h31 : e.val = 31
  · obtain rfl : e = 31 := Fin.ext h31
    have hc7 := (cond7_at i 31 he).mpr rfl
    have hI : inv c XA Y0 P arg12 w ((31 : Fin 32).val + 1) = finalI c XA P arg12 (w 31).toNat := by
      unfold inv; rw [if_neg (by decide), if_neg (by decide)]
    rw [hI]
    iintro ⟨HP, Hk⟩
    rcases Nat.lt_or_ge (w 31).toNat 2 with h2 | h2
    · rcases Nat.eq_zero_or_pos (w 31).toNat with h | h
      · iapply (last_none c XA Y0 P i arg1 harg1 arg2 harg2 arg3 harg3 arg4 harg4 arg5 harg5 arg8 harg8 arg9 harg9 arg12 harg12 ft g2 g3 g4 g5 _ (w 31) hw.le h hP0 fp hc7 Q)
        isplitl [HP]; · iexact HP
        unfold final finalI
        iexact Hk
      · iapply (last_one c XA Y0 P i arg1 harg1 arg2 harg2 arg3 harg3 arg4 harg4 arg5 harg5 arg8 harg8 arg9 harg9 arg12 harg12 ft g2 g3 g4 g5 _ (w 31) hw.le (by omega) hP0 fp hc7 Q)
        isplitl [HP]; · iexact HP
        unfold final finalI
        iexact Hk
    · iapply (last_two c XA Y0 P i arg1 harg1 arg2 harg2 arg3 harg3 arg4 harg4 arg5 harg5 arg8 harg8 arg9 harg9 arg12 harg12 ft g2 g3 g4 g5 _ (w 31) hw.le h2 hP0 fp hc7 Q)
      isplitl [HP]; · iexact HP
      unfold final finalI
      iexact Hk
  · have hc7 : ¬ k0_cond7 i = 1#1 := fun h => h31 ((cond7_at i e he).mp h)
    have hI : inv c XA Y0 P arg12 w (e.val + 1) = ringsI c XA Y0 P arg12 (w 31).toNat (w e).toNat := by
      unfold inv; rw [if_neg (by omega), if_pos (by omega), bnd_succ]
    rw [hI]
    iintro ⟨HP, Hk⟩
    iapply (mid c i arg1 harg1 arg2 harg2 arg3 harg3 arg4 harg4 arg5 harg5 arg8 harg8 arg9 harg9 arg12 harg12 _ _ (w 31) fp hc7 Q)
    isplitl [HP]; · iexact HP
    iintro ⟨HW, HC, HR, HCl⟩
    iapply Hk
    isplitl [HW]; · iexact HW
    isplitl [HC]; · iexact HC
    unfold rings ringsI
    icases HR with ⟨HO, HR⟩
    isplitl [HO]; · iexact HO
    isplitl [HR]; · iexact HR
    iexact HCl

end Point
end Cert.Proof.Grouped
-- ==== Proof.Blocks.lean ====
/-
  The launch's whole buffers cut into the row blocks, the ring slots and the semaphore cells, and put together again.
-/
module

public import proofs.«01_k».proof.Proof.Point
public import Idealize.ShloMosaic.Lib.VecWindow
public import Idealize.ShloMosaic.Lib.Pointwise.Index
public import proofs.«01_k».proof.Proof.Gen.ExpertsIdeal.Launch

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## The rows of a block, the elements of a slot -/

def XG (b : Fin 344) : Finset S176128x1024.Idx := (Rect.unit (s := S176128x1024) (blkOff b) S512x1024.size (blkOff_inb b)).set
def SG (s : Fin 2) : Finset S2x512x1024.Idx := (Rect.unit (s := S2x512x1024) (slotOff s) S1x512x1024.size (slotOff_inb s)).set

theorem mem_XG (b : Fin 344) (y : S176128x1024.Idx) : y ∈ XG b ↔ (y 0).val / 512 = b.val := by
  unfold XG; rw [Rect.mem_set_unit]
  have h1 : (y 1).val < 1024 := (y 1).isLt
  constructor
  · intro H; have a0 : b.val * 512 ≤ (y 0).val ∧ (y 0).val < b.val * 512 + 512 := H 0; omega
  · intro H i; fin_cases i
    · show b.val * 512 ≤ (y 0).val ∧ (y 0).val < b.val * 512 + 512; omega
    · show 0 ≤ (y 1).val ∧ (y 1).val < 0 + 1024; omega
theorem mem_SG (s : Fin 2) (y : S2x512x1024.Idx) : y ∈ SG s ↔ (y 0).val = s.val := by
  unfold SG; rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem XG_disjoint : ∀ b b' : Fin 344, b ≠ b' → Disjoint (XG b) (XG b') := by
  intro b b' hne; rw [Finset.disjoint_left]; intro y hy hy'; rw [mem_XG] at hy hy'; exact hne (Fin.ext (hy.symm.trans hy'))
theorem XG_cover : (Finset.univ : Finset (Fin 344)).biUnion XG = Finset.univ := by
  ext y; simp only [Finset.mem_biUnion, Finset.mem_univ, true_and, iff_true]
  have h0 : (y 0).val < 176128 := (y 0).isLt
  exact ⟨⟨(y 0).val / 512, by omega⟩, by rw [mem_XG]⟩
theorem SG_disjoint : ∀ s s' : Fin 2, s ≠ s' → Disjoint (SG s) (SG s') := by
  intro s s' hne; rw [Finset.disjoint_left]; intro y hy hy'; rw [mem_SG] at hy hy'; exact hne (Fin.ext (hy.symm.trans hy'))
theorem SG_cover : (Finset.univ : Finset (Fin 2)).biUnion SG = Finset.univ := by
  ext y; simp only [Finset.mem_biUnion, Finset.mem_univ, true_and, iff_true]
  exact ⟨(y 0).cast (by decide), by rw [mem_SG]; rfl⟩

theorem xblk_set (b : Fin 344) : (xblk b).view.set = XG b := View.set_slice_whole _ _
theorem yblk_set (b : Fin 344) : (yblk b).view.set = XG b := View.set_slice_whole _ _
theorem xslot_set (s : Fin 2) : (xslot s).view.set = SG s := (View.set_reshape _ _).trans (View.set_slice_whole _ _)
theorem yslot_set (s : Fin 2) : (yslot s).view.set = SG s := (View.set_reshape _ _).trans (View.set_slice_whole _ _)

theorem slots (n : ℕ) : (Ring.sl 2 n = 0 ∧ Ring.sl 2 (n + 1) = 1) ∨ (Ring.sl 2 n = 1 ∧ Ring.sl 2 (n + 1) = 0) := by
  rcases Nat.mod_two_eq_zero_or_one n with h | h
  · left; constructor <;> apply Fin.ext <;> rw [sl_val] <;> [(show _ = 0); (show _ = 1)] <;> omega
  · right; constructor <;> apply Fin.ext <;> rw [sl_val] <;> [(show _ = 1); (show _ = 0)] <;> omega

section Cut
variable (c : Dev nD)

theorem two_eq (Φ : Fin 2 → sProp 𝕄) : bigSep Finset.univ Φ = iprop(Φ 0 ∗ Φ 1) :=
  bigSep_univ_eq_bigSepL [(0 : Fin 2), (1 : Fin 2)] (by decide) (by decide) Φ

theorem tokens_eq (XA : Buf (Elt F) (xM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) XG XG_disjoint XG_cover]
  exact bigSep_congr fun b _ => by rw [← xblk_set]; rfl
theorem result_eq (Y0 : Buf (Elt F) (yM.view.loc (c : Thread nD τ))) :
    (((c : Thread nD τ).loc main_v2) ↦{fullShare} Y0 : sProp 𝕄) = bigSep Finset.univ (fun b => resP c b Y0) := by
  rw [Ring.pointsTo_blocks (ℓ := (c : Thread nD τ).loc main_v2) XG XG_disjoint XG_cover]
  exact bigSep_congr fun b _ => by rw [← yblk_set]; rfl

/-- The rows of every block, as one array. -/
def arrOf (P : Rows F) : S176128x1024.Idx → Elt F .f32 :=
  fun j => P ⟨(j 0).val / 512, by have h : (j 0).val < 176128 := (j 0).isLt; omega⟩ (ix2 ⟨(j 0).val % 512, by omega⟩ (j 1))

theorem read_yblk (b : Fin 344) (f : Buf (Elt F) ((yblk b).view.loc (c : Thread nD τ))) (P : Rows F) (h : (yblk b).view.read (Elt F) f = P b) :
    ∀ j ∈ XG b, f j = arrOf P j := by
  intro j hj
  have h0 : (j 0).val < 176128 := (j 0).isLt
  have hb : (j 0).val / 512 < 344 := by omega
  rw [mem_XG] at hj
  obtain rfl : b = ⟨(j 0).val / 512, hb⟩ := Fin.ext hj.symm
  unfold arrOf; rw [← h]
  show f j = f ((Rect.unit (s := S176128x1024) (blkOff _) S512x1024.size (blkOff_inb _)).emb _)
  congr 1
  funext a; fin_cases a
  · apply Fin.ext
    show (j 0).val = (j 0).val / 512 * 512 + 1 * ((j 0).val % 512)
    omega
  · apply Fin.ext
    show (j 1).val = 0 + 1 * (j 1).val
    omega

theorem done_eq (P : Rows F) : bigSep Finset.univ (doneP (F := F) c P) ⊢ (((c : Thread nD τ).loc main_v2) ↦{fullShare} (arrOf P) : sProp 𝕄) := by
  have e : bigSep Finset.univ (doneP (F := F) c P) ⊢ bigSep Finset.univ (fun b => resP (F := F) c b (arrOf P)) :=
    BI.bigSep_mono fun b _ => by
      show iprop(∃ f, ⌜(yblk b).view.read (Elt F) f = P b⌝ ∗ resP c b f) ⊢ resP (F := F) c b (arrOf P)
      iintro ⟨%f, %hf, H⟩
      have e2 : resP c b f = resP (F := F) c b (arrOf P) := pointsTo_congr fun j hj => read_yblk c b f P hf j (by rw [← yblk_set]; exact hj)
      iapply (entails_of_eq e2); iexact H
  exact e.trans (entails_of_eq (result_eq c (arrOf P)).symm)

theorem xslotP_eq (s : Fin 2) (f) : xslotP (F := F) c s f = (((c : Thread nD τ).loc cc0_scratch2) ↦[SG s]{fullShare} f : sProp 𝕄) :=
  congrArg (fun S => (_ ↦[S]{fullShare} f : sProp 𝕄)) (xslot_set s)
theorem yslotP_eq (s : Fin 2) (f) : yslotP (F := F) c s f = (((c : Thread nD τ).loc cc0_scratch3) ↦[SG s]{fullShare} f : sProp 𝕄) :=
  congrArg (fun S => (_ ↦[S]{fullShare} f : sProp 𝕄)) (yslot_set s)

theorem xbuf_split :
    iprop(∃ f : Buf (Elt F) ((c : Thread nD τ).loc cc0_scratch2), ((c : Thread nD τ).loc cc0_scratch2) ↦{fullShare} f)
      ⊢ (iprop((∃ f, xslotP c 0 f) ∗ ∃ f, xslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) SG SG_disjoint SG_cover f).trans (two_eq _))) $$ H
  icases H2 with ⟨H0, H1⟩
  isplitl [H0]
  · iexists f; iapply (entails_of_eq (xslotP_eq c 0 f).symm); iexact H0
  · iexists f; iapply (entails_of_eq (xslotP_eq c 1 f).symm); iexact H1
theorem xbuf_join (n : ℕ) :
    iprop((∃ f, xslotP c (Ring.sl 2 n) f) ∗ ∃ f, xslotP c (Ring.sl 2 (n + 1)) f)
      ⊢ (iprop(∃ f : Buf (Elt F) ((c : Thread nD τ).loc cc0_scratch2), ((c : Thread nD τ).loc cc0_scratch2) ↦{fullShare} f) : sProp 𝕄) := by
  have key : iprop((∃ f, xslotP (F := F) c 0 f) ∗ ∃ f, xslotP (F := F) c 1 f)
      ⊢ (iprop(∃ f : Buf (Elt F) ((c : Thread nD τ).loc cc0_scratch2), ((c : Thread nD τ).loc cc0_scratch2) ↦{fullShare} f) : sProp 𝕄) := by
    iintro ⟨⟨%f0, H0⟩, ⟨%f1, H1⟩⟩
    iapply (Ring.pointsTo_blocks_join_exists (ℓ := (c : Thread nD τ).loc cc0_scratch2) SG SG_disjoint SG_cover f0)
    irw [two_eq]
    isplitl [H0]
    · iexists f0; iapply (entails_of_eq (xslotP_eq c 0 f0)); iexact H0
    · iexists f1; iapply (entails_of_eq (xslotP_eq c 1 f1)); iexact H1
  rcases slots n with ⟨h0, h1⟩ | ⟨h0, h1⟩ <;> rw [h0, h1]
  · exact key
  · iintro ⟨H0, H1⟩
    iapply key
    isplitl [H1]; · iexact H1
    iexact H0

theorem ybuf_split :
    iprop(∃ f : Buf (Elt F) ((c : Thread nD τ).loc cc0_scratch3), ((c : Thread nD τ).loc cc0_scratch3) ↦{fullShare} f)
      ⊢ (iprop((∃ f, yslotP c 0 f) ∗ ∃ f, yslotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch3) SG SG_disjoint SG_cover f).trans (two_eq _))) $$ H
  icases H2 with ⟨H0, H1⟩
  isplitl [H0]
  · iexists f; iapply (entails_of_eq (yslotP_eq c 0 f).symm); iexact H0
  · iexists f; iapply (entails_of_eq (yslotP_eq c 1 f).symm); iexact H1
theorem ybuf_join (n : ℕ) :
    iprop((∃ f, yslotP c (Ring.sl 2 n) f) ∗ ∃ f, yslotP c (Ring.sl 2 (n + 1)) f)
      ⊢ (iprop(∃ f : Buf (Elt F) ((c : Thread nD τ).loc cc0_scratch3), ((c : Thread nD τ).loc cc0_scratch3) ↦{fullShare} f) : sProp 𝕄) := by
  have key : iprop((∃ f, yslotP (F := F) c 0 f) ∗ ∃ f, yslotP (F := F) c 1 f)
      ⊢ (iprop(∃ f : Buf (Elt F) ((c : Thread nD τ).loc cc0_scratch3), ((c : Thread nD τ).loc cc0_scratch3) ↦{fullShare} f) : sProp 𝕄) := by
    iintro ⟨⟨%f0, H0⟩, ⟨%f1, H1⟩⟩
    iapply (Ring.pointsTo_blocks_join_exists (ℓ := (c : Thread nD τ).loc cc0_scratch3) SG SG_disjoint SG_cover f0)
    irw [two_eq]
    isplitl [H0]
    · iexists f0; iapply (entails_of_eq (yslotP_eq c 0 f0)); iexact H0
    · iexists f1; iapply (entails_of_eq (yslotP_eq c 1 f1)); iexact H1
  rcases slots n with ⟨h0, h1⟩ | ⟨h0, h1⟩ <;> rw [h0, h1]
  · exact key
  · iintro ⟨H0, H1⟩
    iapply key
    isplitl [H1]; · iexact H1
    iexact H0

end Cut
end Cert.Proof.Grouped
-- ==== Proof.Region.lean ====
/-
  The experts call's run: every grid point's state, the launch, the final contents.
-/
module

public import proofs.«01_k».proof.Proof.Blocks
public import Idealize.ShloMosaic.Lib.VecWindow
public import Idealize.ShloMosaic.Lib.StableHlo.ReadAt
public import Idealize.ShloMosaic.Lib.Pipeline.Frame
public import Idealize.ShloMosaic.Lib.Pipeline.FrameBody
public import Idealize.ShloMosaic.Lib.Pipeline.FrameValue
public import Idealize.ShloMosaic.Lib.Pointwise.Index
public import proofs.«01_k».proof.Proof.Gen.ExpertsIdeal.Launch

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]
local notation "𝕄" => MT nD τ sig Unit (Elt F) ℕ (UU nD τ) ℕ

variable (m : (ℓ : Loc nD τ sig) → Buf (Elt F) ℓ) (ρ : Dev nD → PrngReg)

/-- The buffers as the launch finds them. -/
abbrev V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by after_reads_at
theorem V_arg1 (c : Dev nD) : V m c main_arg1 = m ((c : Thread nD τ).loc main_arg1) := by after_reads_at
theorem V_arg2 (c : Dev nD) : V m c main_arg2 = m ((c : Thread nD τ).loc main_arg2) := by after_reads_at
theorem V_arg3 (c : Dev nD) : V m c main_arg3 = m ((c : Thread nD τ).loc main_arg3) := by after_reads_at
theorem V_arg4 (c : Dev nD) : V m c main_arg4 = m ((c : Thread nD τ).loc main_arg4) := by after_reads_at
theorem V_arg5 (c : Dev nD) : V m c main_arg5 = m ((c : Thread nD τ).loc main_arg5) := by after_reads_at

/-- The table's contents. -/
def ends : S32.Idx → BitVec 32 := m (((0 : Dev nD) : Thread nD τ).loc main_arg0)
/-- Its words by expert. -/
def word (e : Fin 32) : BitVec 32 := ends m (ix1 e)

set_option backward.proofsInPublic true in
def tbl : pre0.Contents (Elt F) := fun | ⟨0, _⟩ => ends m | ⟨_ + 1, h⟩ => absurd h (by simp)
def adm : (pcfg0 (F := F)).Adm := ⟨tbl m, by show ok0 (tbl m); unfold ok0; trivial⟩

/-- Window `w`'s block at point `t`. -/
def iblk (c : Dev nD) (w : Fin (cfg0 (adm m)).W) (t : Fin (cfg0 (adm m)).N) :
    (((cfg0 (adm m)).win w).xblock ((cfg0 (adm m)).grid.coords t)).Idx → Elt F ((cfg0 (adm m)).win w).elt :=
  (((cfg0 (adm m)).win w).blk t).view.read (Elt F) (V m c (Pipeline.arrRef spec0 w))

abbrev pt (e : Fin 32) : Fin (cfg0 (adm m)).N := e.cast N_0.symm

/-- How many experts end at or before tile `b`. -/
def cnt (b : ℕ) : ℕ := (Finset.univ.filter fun e : Fin 32 => (word m e).toNat ≤ b).card

/-- One expert's tile. -/
def rowsAt (c : Dev nD) (e : Fin 32) (b : Fin 344) : S512x1024.Idx → Elt F .f32 :=
  tile (xload c (V m c main_arg1) b) (k0_pay4 (iblk m c 0 (pt m e))) (iblk m c 1 (pt m e)) (k0_pay5 (iblk m c 2 (pt m e))) (iblk m c 3 (pt m e))

/-- Every tile's rows. -/
def rows (c : Dev nD) : Rows F := fun b => if h : cnt m b.val < 32 then rowsAt m c ⟨cnt m b.val, h⟩ b else k0_pay3 (F := F)

theorem cnt_at (hw : Ordered (word m)) (e : Fin 32) (t : ℕ) (h1 : bnd (word m) e.val ≤ t) (h2 : t < (word m e).toNat) : cnt m t = e.val := by
  have : (Finset.univ.filter fun e' : Fin 32 => (word m e').toNat ≤ t) = Finset.univ.filter fun e' : Fin 32 => e' < e := by
    ext e'
    simp only [Finset.mem_filter, Finset.mem_univ, true_and]
    constructor
    · intro h; by_contra hn
      have := hw.mono e e' (not_lt.mp hn); omega
    · intro h
      have hlt : e'.val < e.val := h
      have := bnd_succ (word m) (prev e)
      rw [show (prev e).val + 1 = e.val from by show e.val - 1 + 1 = e.val; omega] at this
      have h3 := hw.mono e' (prev e) (by show e'.val ≤ e.val - 1; omega)
      omega
  unfold cnt; rw [this, show (Finset.univ.filter fun e' : Fin 32 => e' < e) = Finset.Iio e from by ext x; rw [Finset.mem_filter, Finset.mem_Iio]; exact and_iff_right (Finset.mem_univ _)]
  exact Fin.card_Iio e
theorem cnt_out (hw : Ordered (word m)) (t : ℕ) (h : (word m 31).toNat ≤ t) : cnt m t = 32 := by
  unfold cnt; rw [Finset.filter_true_of_mem]
  · rfl
  · intro e _; have := hw.mono e 31 (by show e.val ≤ 31; omega); omega

theorem table (hw : Ordered (word m)) (c : Dev nD) (i : grid0.Coords) (e : Fin 32) (he : (i 0).val = e.val) :
    Table (F := F) c i tabM (ends m) (word m 31) (word m (prev e)) (word m e) where
  used := by
    show ends m _ = ends m _
    congr 1; funext a; fin_cases a; rfl
  before := by
    show ends m _ = ends m _
    congr 1; funext a; fin_cases a; apply Fin.ext
    have h := off1_word e
    rw [← he] at h
    show (k0_off1 i) 0 + 1 * 0 = (prev e).val
    have h' : (k0_off1 i) 0 = (i 0).val - 1 := h
    rw [h', he]; simp
  stop := by
    show ends m _ = ends m _
    congr 1; funext a; fin_cases a; apply Fin.ext
    have h := off2_word e
    rw [← he] at h
    show (k0_off2 i) 0 + 1 * 0 = e.val
    have h' : (k0_off2 i) 0 = (i 0).val := h
    rw [h', he]; simp

/-! ## The pipeline's proof data -/

/-- The state before point `k` beside the windows. -/
def Φ (c : Dev nD) (k : ℕ) : sProp 𝕄 :=
  iprop((∃ r, prngReg c r) ∗ (tabM.view.loc (c : Thread nD τ) ↦[tabM.view.set]{fullShare.right} (ends m)) ∗ caches (F := F) c upM dnM
    ∗ inv c (V m c main_arg1) (V m c main_v2) (rows m c) zM (word m) k)

def dats (_ : Fin 1) (c : Dev nD) : Dat τ (Elt F) Unit ℕ (UU nD τ) ℕ (cfg0 (adm m)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ k := Φ m c k.val
  q _ := fullShare
  owed _ := 0

theorem A_eq (c : Dev nD) (w : Fin (cfg0 (adm m)).W) : (dats m 0 c).A w = V m c (Pipeline.arrRef spec0 w) := by dsimp only [dats]
theorem after0 (c : Dev nD) (t : Fin (cfg0 (adm m)).N) : (dats m 0 c).after 0 t = iblk m c 0 t := by dsimp only [dats]; rfl
theorem before0 (c : Dev nD) (t : Fin (cfg0 (adm m)).N) (d) : (dats m 0 c).before 0 t d = iblk m c 0 t :=
  (Dat.before_in_eq_fetched _ 0 rfl (fun _ => rfl) (fun _ _ _ => rfl) (fun t => by rw [after0]; unfold Dat.blockOf iblk; rw [A_eq]) t d).trans
    (by unfold Dat.fetched Dat.blockOf iblk; rw [A_eq]; rfl)
theorem after1 (c : Dev nD) (t : Fin (cfg0 (adm m)).N) : (dats m 0 c).after 1 t = iblk m c 1 t := by dsimp only [dats]; rfl
theorem before1 (c : Dev nD) (t : Fin (cfg0 (adm m)).N) (d) : (dats m 0 c).before 1 t d = iblk m c 1 t :=
  (Dat.before_in_eq_fetched _ 1 rfl (fun _ => rfl) (fun _ _ _ => rfl) (fun t => by rw [after1]; unfold Dat.blockOf iblk; rw [A_eq]) t d).trans
    (by unfold Dat.fetched Dat.blockOf iblk; rw [A_eq]; rfl)
theorem after2 (c : Dev nD) (t : Fin (cfg0 (adm m)).N) : (dats m 0 c).after 2 t = iblk m c 2 t := by dsimp only [dats]; rfl
theorem before2 (c : Dev nD) (t : Fin (cfg0 (adm m)).N) (d) : (dats m 0 c).before 2 t d = iblk m c 2 t :=
  (Dat.before_in_eq_fetched _ 2 rfl (fun _ => rfl) (fun _ _ _ => rfl) (fun t => by rw [after2]; unfold Dat.blockOf iblk; rw [A_eq]) t d).trans
    (by unfold Dat.fetched Dat.blockOf iblk; rw [A_eq]; rfl)
theorem after3 (c : Dev nD) (t : Fin (cfg0 (adm m)).N) : (dats m 0 c).after 3 t = iblk m c 3 t := by dsimp only [dats]; rfl
theorem before3 (c : Dev nD) (t : Fin (cfg0 (adm m)).N) (d) : (dats m 0 c).before 3 t d = iblk m c 3 t :=
  (Dat.before_in_eq_fetched _ 3 rfl (fun _ => rfl) (fun _ _ _ => rfl) (fun t => by rw [after3]; unfold Dat.blockOf iblk; rw [A_eq]) t d).trans
    (by unfold Dat.fetched Dat.blockOf iblk; rw [A_eq]; rfl)
abbrev st0 (t : Fin (cfg0 (adm m)).N) : Memref sig .tc .vmem S1x1024x2048 .f32 := spec0_0.stage ((cfg0 (adm m)).slots t 0)
abbrev hst0 (t : Fin (cfg0 (adm m)).N) : (st0 m t).IsWhole := hstage0_0 (((cfg0 (adm m)).slots t 0).cast nbuf0_0)
abbrev st1 (t : Fin (cfg0 (adm m)).N) : Memref sig .tc .vmem S1x1x2048 .f32 := spec0_1.stage ((cfg0 (adm m)).slots t 1)
abbrev hst1 (t : Fin (cfg0 (adm m)).N) : (st1 m t).IsWhole := hstage0_1 (((cfg0 (adm m)).slots t 1).cast nbuf0_1)
abbrev st2 (t : Fin (cfg0 (adm m)).N) : Memref sig .tc .vmem S1x1024x1024 .f32 := spec0_2.stage ((cfg0 (adm m)).slots t 2)
abbrev hst2 (t : Fin (cfg0 (adm m)).N) : (st2 m t).IsWhole := hstage0_2 (((cfg0 (adm m)).slots t 2).cast nbuf0_2)
abbrev st3 (t : Fin (cfg0 (adm m)).N) : Memref sig .tc .vmem S1x1x1024 .f32 := spec0_3.stage ((cfg0 (adm m)).slots t 3)
abbrev hst3 (t : Fin (cfg0 (adm m)).N) : (st3 m t).IsWhole := hstage0_3 (((cfg0 (adm m)).slots t 3).cast nbuf0_3)

theorem defs_tc : (defs₀ (F := F)) .tc (cfg0 (adm m)).body
    = fun a => bodyAt (grid0.coords a.1) tabM (Memref.isWhole_whole _) (spec0_0.stage (a.2 0)) (hstage0_0 ((a.2 0).cast nbuf0_0)) (spec0_1.stage (a.2 1)) (hstage0_1 ((a.2 1).cast nbuf0_1))
      (spec0_2.stage (a.2 2)) (hstage0_2 ((a.2 2).cast nbuf0_2)) (spec0_3.stage (a.2 3)) (hstage0_3 ((a.2 3).cast nbuf0_3)) upM (Memref.isWhole_whole _) dnM (Memref.isWhole_whole _) zM (Memref.isWhole_whole _) := rfl
theorem prog_eq (t : Fin (cfg0 (adm m)).N) : (defs₀ (F := F)) .tc (cfg0 (adm m)).body ((cfg0 (adm m)).bodyArgs t ((cfg0 (adm m)).slots t))
    = bodyAt (grid0.coords t) tabM (Memref.isWhole_whole _) (st0 m t) (hst0 m t) (st1 m t) (hst1 m t) (st2 m t) (hst2 m t) (st3 m t) (hst3 m t) upM (Memref.isWhole_whole _) dnM (Memref.isWhole_whole _) zM (Memref.isWhole_whole _) :=
  (congrFun (defs_tc m) _).trans rfl

theorem coords_at : ∀ t : Fin grid0.N, ((grid0.coords t) 0).val = t.val := by decide

theorem rows_at (hw : Ordered (word m)) (c : Dev nD) (e : Fin 32) (t : ℕ) (h1 : bnd (word m) e.val ≤ t) (h2 : t < (word m e).toNat) :
    rows m c (Ring.bk 344 t) = rowsAt m c e (Ring.bk 344 t) := by
  have ht : t < 344 := by have := hw.le; have := hw.mono e 31 (by show e.val ≤ 31; omega); omega
  have hc : cnt m (Ring.bk 344 t).val = e.val := by rw [Ring.bk_val ht]; exact cnt_at m hw e t h1 h2
  unfold rows
  rw [dif_pos (by rw [hc]; exact e.isLt)]
  congr 1; exact Fin.ext hc
theorem rows_out (hw : Ordered (word m)) (c : Dev nD) (t : ℕ) (h1 : (word m 31).toNat ≤ t) (h2 : t < 344) : rows m c (Ring.bk 344 t) = k0_pay3 (F := F) := by
  unfold rows
  rw [dif_neg (by rw [Ring.bk_val h2, cnt_out m hw t h1]; exact Nat.lt_irrefl _)]

set_option backward.isDefEq.respectTransparency.types false in
theorem body_obligation (hw : Ordered (word m)) (c : Dev nD) : BodyObligation (dats (F := F) m 0 c) (defs₀ (F := F)) 𝒱₀ () Set.univ := fun t => by
  rw [bigSep_W0, bigSep_W0]
  dsimp only
  simp only [before0, before1, before2, before3, after0, after1, after2, after3]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  have ht : t.val < 32 := t.isLt
  iintro ⟨⟨Hg, HT, HC, HI⟩, ⟨%W, -, HW⟩, ⟨%d0, %g0, %hg0, H0⟩, ⟨%d1, %g1, %hg1, H1⟩, ⟨%d2, %g2, %hg2, H2⟩, ⟨%d3, %g3, %hg3, H3⟩⟩
  sl_rw [prog_eq m t]
  iapply (point c (V m c main_arg1) (V m c main_v2) (rows m c) (grid0.coords t) tabM (Memref.isWhole_whole _) (st0 m t) (hst0 m t) (st1 m t) (hst1 m t) (st2 m t) (hst2 m t) (st3 m t) (hst3 m t)
    upM (Memref.isWhole_whole _) dnM (Memref.isWhole_whole _) zM (Memref.isWhole_whole _) (ends m) g0 g1 g2 g3 (word m) hw ⟨t.val, ht⟩ (coords_at t) (table m hw c _ _ (coords_at t))
    (fun u h1 h2 => by
      rw [rows_at m hw c ⟨t.val, ht⟩ u h1 h2]
      unfold rowsAt tileOf
      rw [View.readAt_full, View.readAt_full, View.readAt_full, View.readAt_full, hg0, hg1, hg2, hg3]
      rfl)
    (fun u h1 h2 => rows_out m hw c u h1 h2) _)
  isplitl [HT HC HI HW H0 H1 H2 H3]
  · isplitl [HT H0 H1 H2 H3]
    · unfold wins
      isplitl [HT]; · iexact HT
      isplitl [H0]; · iexact H0
      isplitl [H1]; · iexact H1
      isplitl [H2]; · iexact H2
      iexact H3
    isplitl [HC]; · iexact HC
    isplitl [HW]; · iexists W; iexact HW
    iexact HI
  unfold wins
  iintro ⟨⟨HT, H0, H1, H2, H3⟩, HC, ⟨%W', HW⟩, HI⟩
  isplitl [Hg HT HC HI]
  · isplitl [Hg]; · iexact Hg
    isplitl [HT]; · iexact HT
    isplitl [HC]; · iexact HC
    iexact HI
  isplitl [HW]
  · iexists W'; isplitr; · ipureintro; exact fun _ _ => Or.inl trivial
    iexact HW
  isplitl [H0]
  · iexists g0; isplitr; · ipureintro; exact hg0
    iexact H0
  isplitl [H1]
  · iexists g1; isplitr; · ipureintro; exact hg1
    iexact H1
  isplitl [H2]
  · iexists g2; isplitr; · ipureintro; exact hg2
    iexact H2
  iexists g3; isplitr; · ipureintro; exact hg3
  iexact H3

end Cert.Proof.Grouped
-- ==== Proof.Run.lean ====
/-
  The experts call's launch: what the body is handed and hands back, the run, and the arrays it leaves.
-/
module

public import proofs.«01_k».proof.Proof.Region
public import Idealize.ShloMosaic.Lib.VecWindow
public import Idealize.ShloMosaic.Lib.StableHlo.ReadAt
public import Idealize.ShloMosaic.Lib.Pipeline.Frame
public import Idealize.ShloMosaic.Lib.Pipeline.FrameBody
public import Idealize.ShloMosaic.Lib.Pipeline.FrameValue
public import Idealize.ShloMosaic.Lib.Pointwise.Index
public import proofs.«01_k».proof.Proof.Gen.ExpertsIdeal.Launch

@[expose] public section

noncomputable section

namespace Cert.Proof.Grouped

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]
local notation "𝕄" => MT nD τ sig Unit (Elt F) ℕ (UU nD τ) ℕ

variable (m : (ℓ : Loc nD τ sig) → Buf (Elt F) ℓ) (ρ : Dev nD → PrngReg)

abbrev osem0 : Fin 5 → SemLoc sig := fun j => (![SemLoc.dma 8, SemLoc.dma 9, SemLoc.dma 10, SemLoc.dma 11, SemLoc.dma 12] : Fin 5 → SemLoc sig) j
theorem ownSemFacts0 : Pipeline.OwnSemFacts spec0 osem0 := by decide
theorem cells_eq (c : Dev nD) :
    (Pipeline.ownSems0 (Ix := Unit) (Name := ℕ) (U := UU nD τ) (Lvl := ℕ) (Val := Elt F) (τ := τ) osem0 c : sProp 𝕄)
      = iprop(xcellP c 0 ∗ xcellP c 1 ∗ ycellP c 0 ∗ ycellP c 1 ∗ semVal ((c : Thread nD τ), SemLoc.dma cc0_scratch7.sem) 0) := by
  rw [Pipeline.ownSems0_eq_of_list c osem0 [0, 1, 2, 3, 4] (by decide) (by decide)]; rfl

def H0 : Finset (Ref sig .tc) := {main_arg1}
def R0 : Finset (Ref sig .tc) := {main_v2}
theorem H0_sub : H0 ⊆ Pipeline.restRefsP sig pre0 spec0 := by decide
theorem R0_sub : R0 ⊆ Pipeline.restRefsP sig pre0 spec0 \ H0 := by decide

/-- The buffers as the launch leaves them. -/
def G (c : Dev nD) : (b : Ref sig .tc) → Buf (Elt F) ((c : Thread nD τ).loc b) := Function.update (V m c) main_v2 (arrOf (rows m c))
theorem G_res (c : Dev nD) : G m c main_v2 = arrOf (rows m c) := Function.update_self ..

theorem given_eq (c : Dev nD) (W : (c : Dev nD) → (b : Ref sig .tc) → Buf (Elt F) ((c : Thread nD τ).loc b)) :
    (Pipeline.ΦDRG osem0 spec0 H0 R0 (V m) W c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))
        ∗ (∃ r, prngReg c r) ∗ (xcellP c 0 ∗ xcellP c 1 ∗ ycellP c 0 ∗ ycellP c 1 ∗ semVal ((c : Thread nD τ), SemLoc.dma cc0_scratch7.sem) 0)
        ∗ (((c : Thread nD τ).loc main_arg1) ↦{fullShare} V m c main_arg1) ∗ (((c : Thread nD τ).loc main_v2) ↦{fullShare} W c main_v2)) := by
  rw [Pipeline.ΦDRG_eq, scopedRest0_eq, cells_eq]
  unfold H0 R0
  rw [BI.bigSep_singleton, Pipeline.routed_singleton]

theorem table_eq (c : Dev nD) : (Pipeline.ΦT pre0 (tbl m) c : sProp 𝕄)
    = (tabM.view.loc (c : Thread nD τ) ↦[tabM.view.set]{fullShare.right} (ends m)) := by
  unfold Pipeline.ΦT Pipeline.prefHeld
  rw [show tabM.view.set = Finset.univ from View.set_whole _]
  exact BI.bigSep_univ_eq_bigSepL [(0 : Fin 1)] (by decide) (by decide) _

theorem whole_eq (c : Dev nD) (b : Ref sig .tc) (f) : held (F := F) c (Memref.whole b) f = (((c : Thread nD τ).loc b) ↦{fullShare} f : sProp 𝕄) := by
  unfold held
  rw [View.set_whole]

theorem enter (c : Dev nD) : iprop(Pipeline.ΦDRG osem0 spec0 H0 R0 (V m) (V m) c ∗ Pipeline.ΦT pre0 (tbl m) c) ⊢ Φ m c 0 := by
  rw [given_eq, table_eq, tokens_eq, result_eq]
  unfold Φ caches inv
  rw [if_pos rfl]
  unfold restI
  rw [yring_new c _ (by decide), yring_new c _ (by decide)]
  rw [show Ring.sl 2 0 = 0 from by decide, show Ring.sl 2 (0 + 1) = 1 from by decide]
  iintro ⟨⟨⟨⟨%f0, H0⟩, ⟨%f1, H1⟩, H2, H3, ⟨%f4, H4⟩⟩, Hg, ⟨Hx0, Hx1, Hy0, Hy1, Hz⟩, HX, HY⟩, HT⟩
  ihave H2' := (xbuf_split c) $$ H2
  ihave H3' := (ybuf_split c) $$ H3
  icases H2' with ⟨HA, HB⟩
  icases H3' with ⟨HC, HD⟩
  isplitl [Hg]; · iexact Hg
  isplitl [HT]; · iexact HT
  isplitl [H0 H1]
  · isplitl [H0]
    · iexists f0; irw [whole_eq]; iexact H0
    iexists f1; irw [whole_eq]; iexact H1
  isplitl [HA Hx0 HB Hx1 HX]
  · isplitl [HA]; · iexact HA
    isplitl [Hx0]; · iexact Hx0
    isplitl [HB]; · iexact HB
    isplitl [Hx1]; · iexact Hx1
    iexact HX
  isplitl [HC Hy0]
  · isplitl [HC]; · iexact HC
    iexact Hy0
  isplitl [HD Hy1]
  · isplitl [HD]; · iexact HD
    iexact Hy1
  isplitl [HY]; · iexact HY
  isplitl [H4]
  · iexists f4; irw [whole_eq]; iexact H4
  iexact Hz

theorem xcells (c : Dev nD) (n : ℕ) : iprop(xcellP c (Ring.sl 2 n) ∗ xcellP c (Ring.sl 2 (n + 1))) ⊢ (iprop(xcellP c 0 ∗ xcellP c 1) : sProp 𝕄) := by
  rcases slots n with ⟨h0, h1⟩ | ⟨h0, h1⟩ <;> rw [h0, h1]
  iintro ⟨H0, H1⟩
  isplitl [H1]; · iexact H1
  iexact H0
theorem ycells (c : Dev nD) (n : ℕ) : iprop(ycellP c (Ring.sl 2 n) ∗ ycellP c (Ring.sl 2 (n + 1))) ⊢ (iprop(ycellP c 0 ∗ ycellP c 1) : sProp 𝕄) := by
  rcases slots n with ⟨h0, h1⟩ | ⟨h0, h1⟩ <;> rw [h0, h1]
  iintro ⟨H0, H1⟩
  isplitl [H1]; · iexact H1
  iexact H0

theorem leave (c : Dev nD) : Φ m c 32 ⊢ Pipeline.ΦDRG osem0 spec0 H0 R0 (V m) (G m) c := by
  rw [given_eq, G_res, tokens_eq]
  unfold Φ caches inv
  rw [if_neg (by decide), if_neg (by decide)]
  unfold finalI
  iintro ⟨Hg, HT, ⟨⟨%f0, H0⟩, ⟨%f1, H1⟩⟩, ⟨HA, Hx0, HB, Hx1, HX⟩, ⟨HC, Hy0⟩, ⟨HD, Hy1⟩, HY, ⟨%f4, H4⟩, Hz⟩
  ihave HX2 := (xbuf_join c (word m 31).toNat) $$ [HA HB]
  · isplitl [HA]; · iexact HA
    iexact HB
  ihave HY2 := (ybuf_join c (word m 31).toNat) $$ [HC HD]
  · isplitl [HC]; · iexact HC
    iexact HD
  ihave Hxs := (xcells (F := F) c (word m 31).toNat) $$ [Hx0 Hx1]
  · isplitl [Hx0]; · iexact Hx0
    iexact Hx1
  ihave Hys := (ycells (F := F) c (word m 31).toNat) $$ [Hy0 Hy1]
  · isplitl [Hy0]; · iexact Hy0
    iexact Hy1
  icases Hxs with ⟨Hx0, Hx1⟩
  icases Hys with ⟨Hy0, Hy1⟩
  ihave HY3 := (done_eq c (rows m c)) $$ HY
  isplitl [H0 H1 HX2 HY2 H4]
  · isplitl [H0]
    · iexists f0; iapply (entails_of_eq (whole_eq c cc0_scratch0 f0)); iexact H0
    isplitl [H1]
    · iexists f1; iapply (entails_of_eq (whole_eq c cc0_scratch1 f1)); iexact H1
    isplitl [HX2]; · iexact HX2
    isplitl [HY2]; · iexact HY2
    iexists f4; iapply (entails_of_eq (whole_eq c cc0_scratch4 f4)); iexact H4
  isplitl [Hg]; · iexact Hg
  isplitl [Hx0 Hx1 Hy0 Hy1 Hz]
  · isplitl [Hx0]; · iexact Hx0
    isplitl [Hx1]; · iexact Hx1
    isplitl [Hy0]; · iexact Hy0
    isplitl [Hy1]; · iexact Hy1
    iexact Hz
  isplitl [HX]; · iexact HX
  iexact HY3

theorem hmain : Pipeline.HMainP (Ix := Unit) (Name := ℕ) (U := UU nD τ) (Lvl := ℕ) (pcfgs (F := F)) 0 defs₀ 𝒱₀ m (main (F := F)) (V m) :=
  Pipeline.hmainP_prefix pcfgs 0 defs₀ 𝒱₀ m main hostOps0 hostOps0_sub ⟨rfl, rfl⟩ main_chain

set_option backward.isDefEq.respectTransparency.types false in
theorem run_main (hw : Ordered (word m)) : θ_run defs (onTc (τ := τ) (main (F := F))) (s₀ m ρ)
    (fun r => Pipeline.FramePostRG (Pipeline.pin (pcfgs (F := F)) fun _ => adm m) (dats m) 0 R0 (V m) (G m) r ∧ r.2.sem = fun _ => 0) :=
  Pipeline.θ_run_frameP_dmaRG (Q' := _) pcfgs (fun _ => adm m) (dats m) (0 : Fin 1) launch0 osem0 defs₀ 𝒱₀ ownSemFacts0 H0 R0 H0_sub R0_sub m ρ main
    (hbody := fun c => (body_obligation m hw c).loose) (hshare := fun c => (dats m 0 c).share_full fun _ => rfl)
    (howed := fun _ _ => rfl) (V := V m) (hmain := hmain m) (hA := A_eq m)
    (hpf := fun c k => by
      obtain rfl : c = 0 := Subsingleton.elim _ _
      fin_cases k
      exact V_arg0 m 0)
    (G := G m) (hin := fun c => enter m c) (hout := fun c => leave m c)

/-- The run: the arguments unchanged, nothing in flight, the result every tile's rows. -/
theorem ran (hw : Ordered (word m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v2) = arrOf (rows m c))
      ∧ r.2.sem = fun _ => 0) :=
  (θ_run defs _ _).mono (fun r h => ⟨fun c => ⟨
      ((h.1.1 c).2 main_arg0 (Finset.mem_sdiff.mpr ⟨Pipeline.mem_restRefs_of main_arg0 (by decide) (show ∀ w : Fin 4, (spec0 w).arr.view.ref ≠ main_arg0 by decide), by decide⟩)).trans (V_arg0 m c),
      ((h.1.1 c).2 main_arg1 (Finset.mem_sdiff.mpr ⟨Pipeline.mem_restRefs_of main_arg1 (by decide) (show ∀ w : Fin 4, (spec0 w).arr.view.ref ≠ main_arg1 by decide), by decide⟩)).trans (V_arg1 m c),
      ((h.1.1 c).1 0).trans (((dats m 0 c).arrAt_in 0 rfl _).trans ((A_eq m c 0).trans (V_arg2 m c))),
      ((h.1.1 c).2 main_arg3 (Finset.mem_sdiff.mpr ⟨Pipeline.mem_restRefs_of main_arg3 (by decide) (show ∀ w : Fin 4, (spec0 w).arr.view.ref ≠ main_arg3 by decide), by decide⟩)).trans (V_arg3 m c),
      ((h.1.1 c).1 2).trans (((dats m 0 c).arrAt_in 2 rfl _).trans ((A_eq m c 2).trans (V_arg4 m c))),
      ((h.1.1 c).2 main_arg5 (Finset.mem_sdiff.mpr ⟨Pipeline.mem_restRefs_of main_arg5 (by decide) (show ∀ w : Fin 4, (spec0 w).arr.view.ref ≠ main_arg5 by decide), by decide⟩)).trans (V_arg5 m c),
      (h.1.2 c main_v2 (by decide)).trans (G_res m c)⟩, h.2⟩) (run_main m ρ hw)

end Cert.Proof.Grouped
-- ==== Proof.Consts.lean ====
module

public import Idealize.ShloMosaic.PureOps.Ideal.Laws
public import Idealize.ShloMosaic.Lib.IdealHost

/-! The float constants of the programs, as extended reals. -/

@[expose] public section

noncomputable section

namespace Cert.Fox

open Idealize.ShloMosaic

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_zero : Ideal.ofBits .f32 0x00000000#32 = 0 := by
  simp [Ideal.ofBits, Ideal.ieee]

theorem ofBits_one : Ideal.ofBits .f32 0x3F800000#32 = (1 : EReal) := by
  simp [Ideal.ofBits, Ideal.ieee, -EReal.coe_mul]; norm_num

end Cert.Fox
-- ==== Proof.Feed.lean ====
/-
  One row of one expert's feed-forward over the extended reals, and that a tile's rows are it.
-/
module

public import proofs.«01_k».proof.Proof.Region
public import proofs.«01_k».proof.Proof.Consts
public import Idealize.ShloMosaic.Lib.Pointwise

@[expose] public section

set_option maxRecDepth 100000

noncomputable section

namespace Cert.Feed

open Idealize.ShloMosaic Idealize.ShloMosaic.Tactic

/-- The clamped gate times its logistic, times the clamped linear half plus one. -/
def act (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)

/-- A row times a matrix plus a bias: lane `j`. -/
def affine {n : ℕ} (x : Fin 1024 → EReal) (W : Fin 1024 → Fin n → EReal) (b : Fin n → EReal) (j : Fin n) : EReal := (∑ k, x k * W k j) + b j

def lo (k : Fin 1024) : Fin 2048 := ⟨k.val, by omega⟩
def hi (k : Fin 1024) : Fin 2048 := ⟨1024 + k.val, by omega⟩

/-- One row through one expert: lane `d`. -/
def feed (x : Fin 1024 → EReal) (Wu : Fin 1024 → Fin 2048 → EReal) (bu : Fin 2048 → EReal) (Wd : Fin 1024 → Fin 1024 → EReal) (bd : Fin 1024 → EReal)
    (d : Fin 1024) : EReal :=
  affine (fun k => act (affine x Wu bu (lo k)) (affine x Wu bu (hi k))) Wd bd d

open Cert.ExpertsIdeal Cert.ExpertsIdeal.Gen Cert.Proof.Grouped Cert.Fox

theorem tile_at (X : S512x1024.Idx → EReal) (up : S1024x2048.Idx → EReal) (bu : S1x1x2048.Idx → EReal) (dn : S1024x1024.Idx → EReal)
    (bd : S1x1x1024.Idx → EReal) (r : Fin 512) (d : Fin 1024) :
    tile (F := Ideal) X up bu dn bd (ix2 r d)
      = feed (fun k => X (ix2 r k)) (fun k j => up (ix2 k j)) (fun j => bu (ix3 0 0 j)) (fun k j => dn (ix2 k j)) (fun j => bd (ix3 0 0 j)) d := by
  have hl : ∀ (r : Fin 512) (d : Fin 1024), (lift (ix2 r d)) = ix3 0 r d := fun r d => by
    refine (Shape.reshapeEquiv_cons_one _ (ix2 r d)).trans ?_
    funext i; match i with | ⟨0, _⟩ => rfl | ⟨1, _⟩ => rfl | ⟨2, _⟩ => rfl
  have hl' : ∀ (r : Fin 512) (d : Fin 1024), (lift.symm (ix3 0 r d)) = ix2 r d := fun r d => by
    rw [← hl, Equiv.symm_apply_apply]
  unfold tile
  rw [hl]
  pointwise [k0_pay6, k0_pay1]
  simp only [hl']
  rfl
end Cert.Feed
-- ==== Proof.Entry.lean ====
/-
  The kernel's result array, entry by entry, read from the arguments.
-/
module

public import proofs.«01_k».proof.Proof.Feed
public import Idealize.ShloMosaic.Lib.StableHlo.ReadAt
public import Idealize.ShloMosaic.Lib.Pipeline.ValueKit

@[expose] public section

set_option maxRecDepth 100000

noncomputable section

namespace Cert.Feed

open Cert.ExpertsIdeal Cert.ExpertsIdeal.Gen Cert.Proof.Grouped Idealize.ShloMosaic Idealize.ShloMosaic.TcCoe Idealize.SL.Sem
  Idealize.ShloMosaic.Tactic

variable (m : (ℓ : Loc nD τ sig) → Buf (Elt Ideal) ℓ)

theorem step0 (t : Fin grid0.N) : cc0_transform_0 (grid0.coords t) = ![t.val, 0, 0] :=
  (by decide +kernel : ∀ t : Fin grid0.N, cc0_transform_0 (grid0.coords t) = ![t.val, 0, 0]) t
theorem step1 (t : Fin grid0.N) : cc0_transform_1 (grid0.coords t) = ![t.val, 0, 0] :=
  (by decide +kernel : ∀ t : Fin grid0.N, cc0_transform_1 (grid0.coords t) = ![t.val, 0, 0]) t
theorem step2 (t : Fin grid0.N) : cc0_transform_2 (grid0.coords t) = ![t.val, 0, 0] :=
  (by decide +kernel : ∀ t : Fin grid0.N, cc0_transform_2 (grid0.coords t) = ![t.val, 0, 0]) t
theorem step3 (t : Fin grid0.N) : cc0_transform_3 (grid0.coords t) = ![t.val, 0, 0] :=
  (by decide +kernel : ∀ t : Fin grid0.N, cc0_transform_3 (grid0.coords t) = ![t.val, 0, 0]) t

theorem V_v0 (c : Dev nD) : V m c main_v0 = broadcastInDim S32x1x2048 ![0, 2] bcast_S32x2048_S32x1x2048_0_2 (m ((c : Thread nD τ).loc main_arg3)) := by
  after_reads_at
theorem V_v1 (c : Dev nD) : V m c main_v1 = broadcastInDim S32x1x1024 ![0, 2] bcast_S32x1024_S32x1x1024_0_2 (m ((c : Thread nD τ).loc main_arg5)) := by
  after_reads_at

theorem up_at (c : Dev nD) (e : Fin 32) (k : Fin 1024) (j : Fin 2048) :
    iblk m c 0 (pt m e) (ix3 0 k j) = m ((c : Thread nD τ).loc main_arg2) (ix3 e k j) := by
  have h : iblk m c 0 (pt m e) (ix3 0 k j) = V m c main_arg2 (ix3 e k j) := by
    show V m c main_arg2 _ = _
    refine congrArg (V m c main_arg2) ?_
    have hs := step0 (pt m e)
    funext x; fin_cases x
    · apply Fin.ext
      show cc0_transform_0 (grid0.coords (pt m e)) 0 * 1 + 1 * 0 = e.val
      rw [hs]; show e.val * 1 + 1 * 0 = e.val; omega
    · apply Fin.ext
      show cc0_transform_0 (grid0.coords (pt m e)) 1 * 1024 + 1 * k.val = k.val
      rw [hs]; show 0 * 1024 + 1 * k.val = k.val; omega
    · apply Fin.ext
      show cc0_transform_0 (grid0.coords (pt m e)) 2 * 2048 + 1 * j.val = j.val
      rw [hs]; show 0 * 2048 + 1 * j.val = j.val; omega
  rw [h, V_arg2]

theorem bu_at (c : Dev nD) (e : Fin 32) (j : Fin 2048) :
    iblk m c 1 (pt m e) (ix3 0 0 j) = m ((c : Thread nD τ).loc main_arg3) (ix2 e j) := by
  have h : iblk m c 1 (pt m e) (ix3 0 0 j) = V m c main_v0 (ix3 e 0 j) := by
    show V m c main_v0 _ = _
    refine congrArg (V m c main_v0) ?_
    have hs := step1 (pt m e)
    funext x; fin_cases x
    · apply Fin.ext
      show cc0_transform_1 (grid0.coords (pt m e)) 0 * 1 + 1 * 0 = e.val
      rw [hs]; show e.val * 1 + 1 * 0 = e.val; omega
    · apply Fin.ext
      show cc0_transform_1 (grid0.coords (pt m e)) 1 * 1 + 1 * 0 = 0
      rw [hs]; show 0 * 1 + 1 * 0 = 0; omega
    · apply Fin.ext
      show cc0_transform_1 (grid0.coords (pt m e)) 2 * 2048 + 1 * j.val = j.val
      rw [hs]; show 0 * 2048 + 1 * j.val = j.val; omega
  rw [h, V_v0]; pointwise

theorem dn_at (c : Dev nD) (e : Fin 32) (k j : Fin 1024) :
    iblk m c 2 (pt m e) (ix3 0 k j) = m ((c : Thread nD τ).loc main_arg4) (ix3 e k j) := by
  have h : iblk m c 2 (pt m e) (ix3 0 k j) = V m c main_arg4 (ix3 e k j) := by
    show V m c main_arg4 _ = _
    refine congrArg (V m c main_arg4) ?_
    have hs := step2 (pt m e)
    funext x; fin_cases x
    · apply Fin.ext
      show cc0_transform_2 (grid0.coords (pt m e)) 0 * 1 + 1 * 0 = e.val
      rw [hs]; show e.val * 1 + 1 * 0 = e.val; omega
    · apply Fin.ext
      show cc0_transform_2 (grid0.coords (pt m e)) 1 * 1024 + 1 * k.val = k.val
      rw [hs]; show 0 * 1024 + 1 * k.val = k.val; omega
    · apply Fin.ext
      show cc0_transform_2 (grid0.coords (pt m e)) 2 * 1024 + 1 * j.val = j.val
      rw [hs]; show 0 * 1024 + 1 * j.val = j.val; omega
  rw [h, V_arg4]

theorem bd_at (c : Dev nD) (e : Fin 32) (j : Fin 1024) :
    iblk m c 3 (pt m e) (ix3 0 0 j) = m ((c : Thread nD τ).loc main_arg5) (ix2 e j) := by
  have h : iblk m c 3 (pt m e) (ix3 0 0 j) = V m c main_v1 (ix3 e 0 j) := by
    show V m c main_v1 _ = _
    refine congrArg (V m c main_v1) ?_
    have hs := step3 (pt m e)
    funext x; fin_cases x
    · apply Fin.ext
      show cc0_transform_3 (grid0.coords (pt m e)) 0 * 1 + 1 * 0 = e.val
      rw [hs]; show e.val * 1 + 1 * 0 = e.val; omega
    · apply Fin.ext
      show cc0_transform_3 (grid0.coords (pt m e)) 1 * 1 + 1 * 0 = 0
      rw [hs]; show 0 * 1 + 1 * 0 = 0; omega
    · apply Fin.ext
      show cc0_transform_3 (grid0.coords (pt m e)) 2 * 1024 + 1 * j.val = j.val
      rw [hs]; show 0 * 1024 + 1 * j.val = j.val; omega
  rw [h, V_v1]; pointwise

theorem x_at (c : Dev nD) (XA) (b : Fin 344) (r : Fin 512) (k : Fin 1024) :
    xload (F := Ideal) c XA b (ix2 r k) = XA (ix2 ⟨b.val * 512 + r.val, by omega⟩ k) := by
  show XA _ = _
  refine congrArg XA ?_
  funext a; fin_cases a
  · apply Fin.ext
    show b.val * 512 + 1 * r.val = b.val * 512 + r.val
    omega
  · apply Fin.ext
    show 0 + 1 * k.val = k.val
    omega

theorem pay4_at (v : S1x1024x2048.Idx → EReal) (k : Fin 1024) (j : Fin 2048) : k0_pay4 (F := Ideal) v (ix2 k j) = v (ix3 0 k j) := by
  pointwise [k0_pay4]
theorem pay5_at (v : S1x1024x1024.Idx → EReal) (k j : Fin 1024) : k0_pay5 (F := Ideal) v (ix2 k j) = v (ix3 0 k j) := by
  pointwise [k0_pay5]
theorem pay3_at (k : Fin 512) (j : Fin 1024) : k0_pay3 (F := Ideal) (ix2 k j) = 0 := by
  pointwise [k0_pay3]

/-- One row of the tokens through expert `e`, from the arrays. -/
def one (X : S176128x1024.Idx → EReal) (Up : S32x1024x2048.Idx → EReal) (Bu : S32x2048.Idx → EReal) (Dn : S32x1024x1024.Idx → EReal)
    (Bd : S32x1024.Idx → EReal) (e : Fin 32) (r : Fin 176128) (d : Fin 1024) : EReal :=
  feed (fun k => X (ix2 r k)) (fun k j => Up (ix3 e k j)) (fun j => Bu (ix2 e j)) (fun k j => Dn (ix3 e k j)) (fun j => Bd (ix2 e j)) d

/-- The result's entry: the row's expert is the number of experts whose tiles end at or before the row's, and rows behind the last are zero. -/
theorem entry (c : Dev nD) (r : Fin 176128) (d : Fin 1024) :
    arrOf (rows m c) (ix2 r d)
      = if h : cnt m (r.val / 512) < 32 then
          one (m ((c : Thread nD τ).loc main_arg1)) (m ((c : Thread nD τ).loc main_arg2)) (m ((c : Thread nD τ).loc main_arg3))
            (m ((c : Thread nD τ).loc main_arg4)) (m ((c : Thread nD τ).loc main_arg5)) ⟨cnt m (r.val / 512), h⟩ r d
        else 0 := by
  show rows m c ⟨r.val / 512, _⟩ (ix2 ⟨r.val % 512, _⟩ d) = _
  unfold rows
  by_cases h : cnt m (r.val / 512) < 32
  · rw [dif_pos h, dif_pos h]
    unfold rowsAt
    refine (tile_at _ _ _ _ _ _ _).trans ?_
    unfold one
    simp only [pay4_at, pay5_at, up_at, bu_at, dn_at, bd_at, x_at, V_arg1]
    have hu : ∀ e : Fin 32, (fun (k : Fin 1024) (j : Fin 2048) => k0_pay4 (F := Ideal) (iblk m c 0 (pt m e)) (ix2 k j))
        = fun k j => m ((c : Thread nD τ).loc main_arg2) (ix3 e k j) := fun e =>
      funext fun k => funext fun j => (pay4_at _ k j).trans (up_at m c e k j)
    have hd : ∀ e : Fin 32, (fun (k j : Fin 1024) => k0_pay5 (F := Ideal) (iblk m c 2 (pt m e)) (ix2 k j))
        = fun k j => m ((c : Thread nD τ).loc main_arg4) (ix3 e k j) := fun e =>
      funext fun k => funext fun j => (pay5_at _ k j).trans (dn_at m c e k j)
    rw [hu, hd]
    congr 1
    funext k
    refine (x_at c _ _ _ k).trans ?_
    rw [V_arg1]
    refine congrArg (fun i => m ((c : Thread nD τ).loc main_arg1) (ix2 i k)) (Fin.ext ?_)
    show r.val / 512 * 512 + r.val % 512 = r.val
    omega
  · rw [dif_neg h, dif_neg h, pay3_at]

end Cert.Feed
-- ==== Proof.Dense.lean ====
/-
  The reference's rows through every expert, entry by entry, and the sum over the experts that picks one.
-/
module

public import proofs.«01_k».proof.Proof.Entry
public import proofs.«01_k».proof.Proof.Gen.ExpertsReferenceIdeal.Read
public import Idealize.ShloMosaic.Lib.WordCmp

@[expose] public section

set_option maxRecDepth 100000

noncomputable section

namespace Cert.Feed

open Cert.ExpertsReferenceIdeal Cert.ExpertsReferenceIdeal.Gen Cert.ExpertsReferenceIdeal.Read Idealize.ShloMosaic Cert.Fox

variable (x0 : S32.Idx → BitVec 32) (x1 : S176128x1024.Idx → EReal) (x2 : S32x1024x2048.Idx → EReal) (x3 : S32x2048.Idx → EReal)
  (x4 : S32x1024x1024.Idx → EReal) (x5 : S32x1024.Idx → EReal)

theorem ext1 {s : Fin 1 → ℕ} {i j : (⟨1, s⟩ : Shape).Idx} (h0 : (i 0).val = (j 0).val) : i = j :=
  funext fun a => Fin.ext (by match a with | ⟨0, _⟩ => exact h0)
theorem ext2 {s : Fin 2 → ℕ} {i j : (⟨2, s⟩ : Shape).Idx} (h0 : (i 0).val = (j 0).val) (h1 : (i 1).val = (j 1).val) : i = j :=
  funext fun a => Fin.ext (by match a with | ⟨0, _⟩ => exact h0 | ⟨1, _⟩ => exact h1)
theorem ext3 {s : Fin 3 → ℕ} {i j : (⟨3, s⟩ : Shape).Idx} (h0 : (i 0).val = (j 0).val) (h1 : (i 1).val = (j 1).val) (h2 : (i 2).val = (j 2).val) : i = j :=
  funext fun a => Fin.ext (by match a with | ⟨0, _⟩ => exact h0 | ⟨1, _⟩ => exact h1 | ⟨2, _⟩ => exact h2)

theorem hid_at (e : Fin 32) (r : Fin 176128) (j : Fin 2048) :
    val_main_v14 (F := Ideal) x1 x2 x3 (ix3 e r j)
      = affine (fun k => x1 (ix2 r k)) (fun k j => x2 (ix3 e k j)) (fun j => x3 (ix2 e j)) j := by
  rw [val_main_v14_apply, val_main_v11_apply, val_main_v13_apply, val_main_v12_apply, val_main_v10_apply]
  show (_ : EReal) + _ = _
  unfold affine
  refine congrArg₂ (· + ·) (Finset.sum_congr rfl fun k _ => ?_) (congrArg x3 (ext2 rfl rfl))
  rw [mul_comm]
  exact congrArg₂ (· * ·) (congrArg x1 (ext2 rfl rfl)) (congrArg x2 (ext3 rfl rfl rfl))

theorem act_at (e : Fin 32) (r : Fin 176128) (k : Fin 1024) :
    val_main_v31 (F := Ideal) x1 x2 x3 (ix3 e r k)
      = act (val_main_v14 (F := Ideal) x1 x2 x3 (ix3 e r (lo k))) (val_main_v14 (F := Ideal) x1 x2 x3 (ix3 e r (hi k))) := by
  rw [val_main_v31_apply, val_main_v28_apply, val_main_v30_apply, val_main_v27_apply, val_main_v25_apply, val_main_v23_apply, val_main_v22_apply,
    val_main_v21_apply, val_main_v19_apply, val_main_call2_v2_apply, val_main_v18_apply, val_main_v15_apply, val_main_v16_apply,
    val_main_v17_apply, val_main_v20_apply, val_main_v24_apply, val_main_v26_apply, val_main_v29_apply, val_main_call2_v1_apply, val_main_call2_v4_apply,
    val_main_call2_v0_apply, val_main_call2_v3_apply, val_main_cst_apply, val_main_cst_1_apply, val_main_cst_2_apply, val_main_cst_3_apply,
    val_main_cst_4_apply, val_main_cst_5_apply, val_main_cst_6_apply]
  rw [show idx_main_v15 (ix3 e r k) = ix3 e r (lo k) from ext3 rfl rfl rfl, show idx_main_v16 (ix3 e r k) = ix3 e r (hi k) from ext3 rfl rfl rfl]
  generalize val_main_v14 (F := Ideal) x1 x2 x3 (ix3 e r (lo k)) = g
  generalize val_main_v14 (F := Ideal) x1 x2 x3 (ix3 e r (hi k)) = u
  have h1 : (FloatOps.ofBits .f32 0x3F800000#32 : Ideal .f32) = (1 : EReal) := ofBits_one
  rw [h1]
  rfl

theorem out_at (e : Fin 32) (r : Fin 176128) (d : Fin 1024) :
    val_main_v35 (F := Ideal) x1 x2 x3 x4 x5 (ix3 e r d) = one x1 x2 x3 x4 x5 e r d := by
  rw [val_main_v35_apply, val_main_v32_apply, val_main_v34_apply, val_main_v33_apply]
  show (_ : EReal) + _ = _
  unfold one feed affine
  refine congrArg₂ (· + ·) (Finset.sum_congr rfl fun k _ => ?_) (congrArg x5 (ext2 rfl rfl))
  refine congrArg₂ (· * ·) ?_ (congrArg x4 (ext3 rfl rfl rfl))
  rw [show lidx_main_v32 (ix3 e r d) k = ix3 e r k from ext3 rfl rfl rfl, act_at, hid_at, hid_at]
  rfl

end Cert.Feed
-- ==== Proof.Mask.lean ====
/-
  The reference's expert of each row: the tile of a row, the number of experts that end at or before it, and its indicator.
-/
module

public import proofs.«01_k».proof.Proof.Dense
public import proofs.«01_k».proof.Proof.Point

@[expose] public section

set_option maxRecDepth 100000

noncomputable section

namespace Cert.Feed

open Cert.ExpertsReferenceIdeal Cert.ExpertsReferenceIdeal.Gen Cert.ExpertsReferenceIdeal.Read Idealize.ShloMosaic Cert.Fox Cert.Proof.Grouped

/-- Signed division of a non-negative word by 512 is division. -/
theorem sdiv_512 (r : ℕ) (h : r < 2 ^ 31) : (BitVec.ofNat 32 r).sdiv 512#32 = BitVec.ofNat 32 (r / 512) := by
  have hm : (BitVec.ofNat 32 r).msb = false := by rw [BitVec.msb_eq_decide, BitVec.toNat_ofNat]; simp; omega
  have h5 : (512#32).msb = false := by decide
  rw [BitVec.sdiv_eq, hm, h5]
  apply BitVec.eq_of_toNat_eq
  show ((BitVec.ofNat 32 r).udiv 512#32).toNat = _
  rw [BitVec.udiv_eq, BitVec.toNat_udiv, BitVec.toNat_ofNat, BitVec.toNat_ofNat]
  show r % 2 ^ 32 / 512 = r / 512 % 2 ^ 32
  omega

theorem sign_pos (r : ℕ) (h : r < 2 ^ 31) (h0 : r ≠ 0) :
    (if BitVec.ofNat 32 r = 0 then 0 else if (BitVec.ofNat 32 r).msb then -1 else 1 : BitVec 32) = 1 := by
  have hm : (BitVec.ofNat 32 r).msb = false := by rw [BitVec.msb_eq_decide, BitVec.toNat_ofNat]; simp; omega
  have hz : BitVec.ofNat 32 r ≠ 0 := fun e => by
    have := congrArg BitVec.toNat e
    rw [BitVec.toNat_ofNat] at this
    have h2 : (0 : BitVec 32).toNat = 0 := rfl
    omega
  rw [if_neg hz, hm]; rfl

/-- The tile of a row. -/
theorem tile_of (r : Fin 176128) : val_main_v1 (F := Ideal) (ix1 r) = BitVec.ofNat 32 (r.val / 512) := by
  have hr : r.val < 2 ^ 31 := by omega
  have hq : val_main_call0_v2 (F := Ideal) (ix1 r) = BitVec.ofNat 32 (r.val / 512) := by
    rw [val_main_call0_v2_apply, val_main_v0_apply, val_main_call0_v1_apply, val_main_call0_v0_apply, val_main_c_apply]
    show IntOp.divsi .host (BitVec.ofNat 32 r.val) 512#32 = _
    unfold IntOp.divsi
    rw [if_neg, sdiv_512 _ hr]
    rintro (h | h)
    · exact absurd h (by decide)
    · exact absurd h.2 (by decide)
  have hc : val_main_call0_v11 (F := Ideal) (ix1 r) = 0#1 := by
    rw [val_main_call0_v11_apply]
    by_cases h0 : r.val = 0
    · rw [val_main_call0_v10_apply, val_main_call0_v8_apply, val_main_v0_apply, val_main_call0_v7_apply, val_main_call0_v0_apply, val_main_c_apply,
        val_main_call0_v9_apply, val_main_call0_c_apply]
      show IntOp.andi _ (IntOp.cmpi .ne (IntOp.remsi .host (BitVec.ofNat 32 r.val) 512#32) 0#32) = 0#1
      rw [h0]
      rw [show IntOp.cmpi .ne (IntOp.remsi .host 0#32 512#32) 0#32 = 0#1 by decide]
      exact BitVec.and_zero
    · rw [val_main_call0_v6_apply]
      have hs : val_main_call0_v3 (F := Ideal) (ix1 r) = 1 := sign_pos _ hr h0
      have h5 : val_main_call0_v5 (F := Ideal) (ix1 r) = 1 := by
        rw [val_main_call0_v5_apply]; exact sign_pos 512 (by decide) (by decide)
      rw [hs, h5]
      show IntOp.andi (IntOp.cmpi .ne (1 : BitVec 32) 1) _ = 0#1
      rw [show IntOp.cmpi .ne (1 : BitVec 32) 1 = 0#1 by decide]
      exact BitVec.zero_and
  rw [val_main_v1_apply, hc, hq]
  rfl

/-- How many experts end at or before tile `b`. -/
def upto (E : S32.Idx → BitVec 32) (b : ℕ) : ℕ := (Finset.univ.filter fun e : Fin 32 => (E (ix1 e)).toNat ≤ b).card

variable (x0 : S32.Idx → BitVec 32)

theorem past_at (hw : Ordered (fun e => x0 (ix1 e))) (r : Fin 176128) (e : Fin 32) :
    val_main_v7 (F := Ideal) x0 (ix2 r e) = BitVec.ofNat 32 (if (x0 (ix1 e)).toNat ≤ r.val / 512 then 1 else 0) := by
  rw [val_main_v7_apply, val_main_v6_apply, val_main_v4_apply, val_main_v2_apply, val_main_v5_apply, val_main_v3_apply]
  rw [show idx_main_v2 (idx_main_v4 (ix2 r e)) = ix1 r from ext1 rfl, show idx_main_v3 (idx_main_v5 (ix2 r e)) = ix1 e from ext1 rfl, tile_of]
  have he : (x0 (ix1 e)).toNat ≤ 344 := (hw.mono e 31 (by omega)).trans hw.le
  have hn : (BitVec.ofNat 32 (r.val / 512)).toNat = r.val / 512 := by rw [BitVec.toNat_ofNat]; omega
  rw [WordCmp.cmpi_sge_of_lt (by rw [hn]; omega) (by omega), hn]
  by_cases h : (x0 (ix1 e)).toNat ≤ r.val / 512
  · rw [if_pos h, decide_eq_true h]; rfl
  · rw [if_neg h, decide_eq_false h]; rfl

theorem fold_add (f : Fin 32 → ℕ) (s : Finset (Fin 32)) :
    s.fold (IntOp.addi : BitVec 32 → BitVec 32 → BitVec 32) 0#32 (fun e => BitVec.ofNat 32 (f e)) = BitVec.ofNat 32 (∑ e ∈ s, f e) := by
  induction s using Finset.induction_on with
  | empty => rfl
  | insert a s ha ih => rw [Finset.fold_insert ha, ih, Finset.sum_insert ha, BitVec.ofNat_add]; rfl

theorem expert_at (hw : Ordered (fun e => x0 (ix1 e))) (r : Fin 176128) :
    val_main_v8 (F := Ideal) x0 (ix1 r) = BitVec.ofNat 32 (upto x0 (r.val / 512)) := by
  have h7 := past_at x0 hw r
  unfold val_main_v8
  generalize val_main_v7 (F := Ideal) x0 = y at h7 ⊢
  rw [Host.reduce_eq_fold_single IntOp.addi y _ reducesTo_S176128x32_S176128_d1 (by decide) h_S_]
  unfold upto
  rw [Finset.card_filter]
  refine Eq.trans ?_ (fold_add (fun e => if (x0 (ix1 e)).toNat ≤ r.val / 512 then 1 else 0) Finset.univ)
  refine congrArg (fun g : Fin 32 → BitVec 32 => Finset.univ.fold IntOp.addi 0#32 g) (funext fun k => ?_)
  rw [← h7 k]
  exact congrArg y (ext2 rfl rfl)

theorem pick_at (hw : Ordered (fun e => x0 (ix1 e))) (r : Fin 176128) (e : Fin 32) :
    val_main_v9 (F := Ideal) x0 (ix2 r e) = if upto x0 (r.val / 512) = e.val then (1 : EReal) else 0 := by
  rw [val_main_v9_apply, val_main_call1_v4_apply, val_main_call1_v2_apply, val_main_call1_v0_apply, val_main_call1_v3_apply, val_main_call1_v1_apply]
  rw [show idx_main_call1_v0 (idx_main_call1_v2 (ix2 r e)) = ix1 r from ext1 rfl, expert_at x0 hw]
  have hu : upto x0 (r.val / 512) ≤ 32 := (Finset.card_filter_le _ _).trans (by simp)
  show FloatOps.uitofp .f32 (IntOp.cmpi .eq (BitVec.ofNat 32 _) (BitVec.ofNat 32 e.val)) = _
  rw [WordCmp.cmpi_eq_ofNat (by omega) (by omega)]
  by_cases h : upto x0 (r.val / 512) = e.val
  · rw [if_pos h, decide_eq_true h]
    show ((((BitVec.ofBool true).toNat : ℕ) : ℝ) : EReal) = 1
    simp
  · rw [if_neg h, decide_eq_false h]
    show ((((BitVec.ofBool false).toNat : ℕ) : ℝ) : EReal) = 0
    simp

variable (x1 : S176128x1024.Idx → EReal) (x2 : S32x1024x2048.Idx → EReal) (x3 : S32x2048.Idx → EReal)
  (x4 : S32x1024x1024.Idx → EReal) (x5 : S32x1024.Idx → EReal)

/-- The reference's entry. -/
theorem sum_at (hw : Ordered (fun e => x0 (ix1 e))) (r : Fin 176128) (d : Fin 1024) :
    val_main_v40 (F := Ideal) x0 x1 x2 x3 x4 x5 (ix2 r d)
      = if h : upto x0 (r.val / 512) < 32 then one x1 x2 x3 x4 x5 ⟨upto x0 (r.val / 512), h⟩ r d else 0 := by
  have hk : ∀ e : Fin 32, (val_main_v39 (F := Ideal) x0 x1 x2 x3 x4 x5 (idx_main_v40 (ix2 r d) e) : EReal)
      = (if upto x0 (r.val / 512) = e.val then (1 : EReal) else 0) * one x1 x2 x3 x4 x5 e r d := by
    intro e
    rw [show idx_main_v40 (ix2 r d) e = ix3 e r d from ext3 rfl rfl rfl, val_main_v39_apply, val_main_v38_apply, val_main_v37_apply, val_main_v36_apply,
      show idx_main_v36 (idx_main_v37 (idx_main_v38 (ix3 e r d))) = ix2 r e from ext2 rfl rfl, pick_at x0 hw, out_at]
    rfl
  rw [val_main_v40_apply, val_main_cst_7_apply]
  rw [show (FloatOps.ofBits .f32 0x00000000#32 : Ideal .f32) = (0 : EReal) from ofBits_zero]
  refine (zero_add (_ : EReal)).trans ?_
  refine (Finset.sum_congr rfl fun e _ => hk e).trans ?_
  by_cases h : upto x0 (r.val / 512) < 32
  · rw [dif_pos h, Finset.sum_eq_single (⟨upto x0 (r.val / 512), h⟩ : Fin 32)]
    · rw [if_pos rfl, one_mul]
    · intro e _ he
      rw [if_neg fun q => he (Fin.ext q.symm), zero_mul]
    · intro q; exact absurd (Finset.mem_univ _) q
  · rw [dif_neg h]
    refine Finset.sum_eq_zero fun e _ => ?_
    rw [if_neg (by omega), zero_mul]

end Cert.Feed
-- ==== Proof.Same.lean ====
/-
  The experts call's two programs have one text: their bodies, their tables of bodies and their mains are the same.
-/
module

public import proofs.«01_k».proof.Defs
public import proofs.«01_k».proof.Proof.Gen.Experts
public import proofs.«01_k».proof.Proof.Gen.ExpertsIdeal

@[expose] public section

noncomputable section

namespace Cert.Proof.Grouped

open Idealize.ShloMosaic Idealize.SL.Sem
variable {F : FTy → Type} [FloatOps F]

theorem main_same : Cert.Experts.main (F := F) = Cert.ExpertsIdeal.main (F := F) := rfl
set_option maxHeartbeats 1000000 in
theorem cc0_experts_same : @Cert.Experts.cc0_experts F _ _ = @Cert.ExpertsIdeal.cc0_experts F _ _ := rfl
theorem defs0_same : Cert.Experts.defs₀ (F := F) = Cert.ExpertsIdeal.defs₀ (F := F) := by
  unfold Cert.Experts.defs₀ Cert.ExpertsIdeal.defs₀
  rw [cc0_experts_same]
  refine congrArg Defs.onTc (funext fun x => ?_)
  match x with
  | ⟨0, _⟩ => rfl
  | ⟨k + 1, h⟩ => exact absurd h (Nat.not_lt.2 (Nat.le_add_left _ _))
theorem pcfgs_same : Cert.Experts.pcfgs (F := F) = Cert.ExpertsIdeal.pcfgs (F := F) := rfl
theorem defs_same : Cert.Experts.defs (F := F) = Cert.ExpertsIdeal.defs (F := F) := by
  unfold Cert.Experts.defs Cert.ExpertsIdeal.defs
  rw [defs0_same]
  rfl
end Cert.Proof.Grouped
-- ==== Proof.Given.lean ====
/-
  What the precondition says of the table, and the two frames of the experts call.
-/
module

public import proofs.«01_k».proof.Defs
public import proofs.«01_k».proof.Proof.Run
public import proofs.«01_k».proof.Proof.Same
public import proofs.«01_k».proof.Proof.Gen.Pre_grouped
public import Idealize.ShloMosaic.Lib.WordCmp

@[expose] public section

noncomputable section

namespace Cert.Proof.Grouped

open Idealize.ShloMosaic Idealize.SL.Sem

theorem ofBool_one {b : Bool} (h : BitVec.ofBool b = 1#1) : b = true := by cases b <;> simp_all

/-- The slice of one word, read as a scalar, is the word. -/
theorem word_at (E : IVec Cert.Pre_grouped.S32 32) (n : ℕ) (hn : n < 32) (h : Cert.Pre_grouped.S32.Slices ![n] Cert.Pre_grouped.S1)
    (h' : Cert.Pre_grouped.S1.ShapeCasts Cert.Pre_grouped.S_) (i : Cert.Pre_grouped.S_.Idx) :
    shapeCast Cert.Pre_grouped.S_ (extractStridedSlice Cert.Pre_grouped.S1 ![n] E h) h' i = E (ix1 ⟨n, hn⟩) := by
  unfold shapeCast extractStridedSlice
  refine congrArg E (funext fun a => ?_)
  fin_cases a
  apply Fin.ext
  show n + _ = n
  have h1 : ∀ k : Fin 1, k.val = 0 := fun k => by omega
  exact congrArg (n + ·) (h1 _)

theorem ordered_of {F : FTy → Type} [FloatOps F] (E : IVec Cert.Pre_grouped.S32 32) (x1 x2 x3 x4 x5)
    (h : (Cert.Pre_grouped.fn (F := F) E x1 x2 x3 x4 x5).1 = (fun _ => 1#1) ∧ (Cert.Pre_grouped.fn (F := F) E x1 x2 x3 x4 x5).2.1 = (fun _ => 1#1)
      ∧ (Cert.Pre_grouped.fn (F := F) E x1 x2 x3 x4 x5).2.2 = (fun _ => 1#1)) : Ordered (fun e : Fin 32 => E (ix1 e)) := by
  obtain ⟨h0, h1, h2⟩ := h
  have g0 : 0 ≤ (E (ix1 (0 : Fin 32))).toInt := by
    have := congrFun h0 (fun a => a.elim0)
    have h3 : IntOp.cmpi .sge (shapeCast Cert.Pre_grouped.S_ (extractStridedSlice Cert.Pre_grouped.S1 ![0] E Cert.Pre_grouped.Facts.slices_S32_S1_0) Cert.Pre_grouped.Facts.shapeCasts_S1_S_ (fun a => a.elim0)) 0#32 = 1#1 := this
    rw [word_at E 0 (by decide), WordCmp.cmpi_sge_eq] at h3
    have := of_decide_eq_true (ofBool_one h3)
    exact this
  have g2 : (E (ix1 (31 : Fin 32))).toInt ≤ 344 := by
    have := congrFun h2 (fun a => a.elim0)
    have h3 : IntOp.cmpi .sle (shapeCast Cert.Pre_grouped.S_ (extractStridedSlice Cert.Pre_grouped.S1 ![31] E Cert.Pre_grouped.Facts.slices_S32_S1_31) Cert.Pre_grouped.Facts.shapeCasts_S1_S_ (fun a => a.elim0)) 344#32 = 1#1 := this
    rw [word_at E 31 (by decide), WordCmp.cmpi_sle_eq] at h3
    have := of_decide_eq_true (ofBool_one h3)
    exact this
  have g1 : ∀ k : ℕ, ∀ hk : k + 1 < 32, (E (ix1 (⟨k, by omega⟩ : Fin 32))).toInt ≤ (E (ix1 (⟨k + 1, hk⟩ : Fin 32))).toInt := by
    intro k hk
    have := congrFun h1 (ix1 (⟨k, by omega⟩ : Fin 31))
    have h3 : IntOp.cmpi .sge (extractStridedSlice Cert.Pre_grouped.S31 ![1] E Cert.Pre_grouped.Facts.slices_S32_S31_1 (ix1 (⟨k, by omega⟩ : Fin 31)))
      (extractStridedSlice Cert.Pre_grouped.S31 ![0] E Cert.Pre_grouped.Facts.slices_S32_S31_0 (ix1 (⟨k, by omega⟩ : Fin 31))) = 1#1 := this
    rw [WordCmp.cmpi_sge_eq] at h3
    have h4 := of_decide_eq_true (ofBool_one h3)
    have ea : extractStridedSlice Cert.Pre_grouped.S31 ![1] E Cert.Pre_grouped.Facts.slices_S32_S31_1 (ix1 (⟨k, by omega⟩ : Fin 31)) = E (ix1 (⟨k + 1, hk⟩ : Fin 32)) := by
      unfold extractStridedSlice
      refine congrArg E (funext fun a => ?_); fin_cases a; apply Fin.ext; show 1 + k = k + 1; omega
    have eb : extractStridedSlice Cert.Pre_grouped.S31 ![0] E Cert.Pre_grouped.Facts.slices_S32_S31_0 (ix1 (⟨k, by omega⟩ : Fin 31)) = E (ix1 (⟨k, by omega⟩ : Fin 32)) := by
      unfold extractStridedSlice
      refine congrArg E (funext fun a => ?_); fin_cases a; apply Fin.ext; show 0 + k = k; omega
    rw [ea, eb] at h4
    exact h4
  have mono : ∀ d k : ℕ, ∀ hk : k + d < 32, (E (ix1 (⟨k, by omega⟩ : Fin 32))).toInt ≤ (E (ix1 (⟨k + d, hk⟩ : Fin 32))).toInt := by
    intro d
    induction d with
    | zero => intro k hk; exact le_refl _
    | succ d ih => intro k hk; exact (ih k (by omega)).trans (g1 (k + d) hk)
  have nonneg : ∀ e : Fin 32, 0 ≤ (E (ix1 e)).toInt := fun e => by
    have := mono e.val 0 (by omega)
    refine g0.trans (this.trans (le_of_eq ?_))
    congr 3; apply Fin.ext; show 0 + e.val = e.val; omega
  have nat : ∀ e : Fin 32, ((E (ix1 e)).toNat : ℤ) = (E (ix1 e)).toInt := fun e => by
    have h3 := nonneg e
    rw [BitVec.toInt_eq_toNat_cond] at h3 ⊢
    have := (E (ix1 e)).isLt
    split at h3
    · rw [if_pos ‹_›]
    · rw [if_neg ‹_›]; omega
  refine ⟨fun e e' he => ?_, ?_⟩
  · have := mono (e'.val - e.val) e.val (by omega)
    have e1 : (⟨e.val + (e'.val - e.val), by omega⟩ : Fin 32) = e' := Fin.ext (by show e.val + (e'.val - e.val) = e'.val; have : e.val ≤ e'.val := he; omega)
    rw [e1] at this
    have n1 := nat e; have n2 := nat e'
    show (E (ix1 e)).toNat ≤ (E (ix1 e')).toNat
    have h5 : (E (ix1 e)).toInt ≤ (E (ix1 e')).toInt := this
    omega
  · have n1 := nat 31
    show (E (ix1 (31 : Fin 32))).toNat ≤ 344
    omega

theorem frame_ideal : Cert.quiescent_ExpertsIdeal (hExpertsIdeal := Cert.ExpertsIdeal.Gen.facts) (hPre_grouped := Cert.Pre_grouped.Gen.facts) := fun m ρ h =>
  (θ_run Cert.ExpertsIdeal.defs _ _).mono (fun _ h => ⟨fun c => let q := h.1 c; ⟨q.1, q.2.1, q.2.2.1, q.2.2.2.1, q.2.2.2.2.1, q.2.2.2.2.2.1⟩, h.2⟩)
    (ran (F := Ideal) m ρ (ordered_of _ _ _ _ _ _ (h 0)))

theorem frame_bits : Cert.quiescent_Experts (hExperts := Cert.Experts.Gen.facts) (hPre_grouped := Cert.Pre_grouped.Gen.facts) := fun m ρ h => by
  rw [defs_same, main_same]
  exact (θ_run (Cert.ExpertsIdeal.defs (F := Bits)) _ _).mono (fun _ h => ⟨fun c => let q := h.1 c; ⟨q.1, q.2.1, q.2.2.1, q.2.2.2.1, q.2.2.2.2.1, q.2.2.2.2.2.1⟩, h.2⟩)
    (ran (F := Bits) m ρ (ordered_of (F := Bits) _ _ _ _ _ _ (h 0)))

end Cert.Proof.Grouped
-- ==== Proof.Match.lean ====
/-
  The experts' kernel and its reference compute the same array.
-/
module

public import proofs.«01_k».proof.Proof.Mask
public import proofs.«01_k».proof.Proof.Given

@[expose] public section

set_option maxRecDepth 100000

noncomputable section

namespace Cert.Feed

open Idealize.ShloMosaic Idealize.ShloMosaic.TcCoe Idealize.SL.Sem Cert.Proof.Grouped

/-- The kernel's array is the reference's result. -/
theorem same_array (m : (ℓ : Loc Cert.ExpertsIdeal.nD Cert.ExpertsIdeal.τ Cert.ExpertsIdeal.sig) → Buf (Elt Ideal) ℓ) (hw : Ordered (word m))
    (c : Dev Cert.ExpertsIdeal.nD) :
    Cert.ExpertsReferenceIdeal.Read.val_main_v40 (F := Ideal) (m (c.tc.loc Cert.ExpertsIdeal.main_arg0)) (m (c.tc.loc Cert.ExpertsIdeal.main_arg1))
        (m (c.tc.loc Cert.ExpertsIdeal.main_arg2)) (m (c.tc.loc Cert.ExpertsIdeal.main_arg3)) (m (c.tc.loc Cert.ExpertsIdeal.main_arg4))
        (m (c.tc.loc Cert.ExpertsIdeal.main_arg5))
      = arrOf (rows m c) := by
  have hc : c = 0 := Subsingleton.elim _ _
  subst hc
  funext i
  have hi : i = ix2 (i 0) (i 1) := ext2 rfl rfl
  rw [hi]
  exact (sum_at (ends m) _ _ _ _ _ hw (i 0) (i 1)).trans (entry m 0 (i 0) (i 1)).symm

theorem algebraic_experts : Cert.algebraic_ExpertsIdeal_ExpertsReferenceIdeal (hExpertsIdeal := Cert.ExpertsIdeal.Gen.facts)
    (hExpertsReferenceIdeal := Cert.ExpertsReferenceIdeal.Gen.facts) (hPre_grouped := Cert.Pre_grouped.Gen.facts) := by
  intro m g m' g' hpre hagree
  have hw : Ordered (word m) := ordered_of _ _ _ _ _ _ (hpre 0)
  refine ⟨fun c => arrOf (rows m c), ?_, ?_⟩
  · exact (θ_run Cert.ExpertsIdeal.defs _ _).mono
      (fun _ h c => let q := h.1 c; ⟨q.2.2.2.2.2.2, q.1, q.2.1, q.2.2.1, q.2.2.2.1, q.2.2.2.2.1, q.2.2.2.2.2.1⟩) (ran (F := Ideal) m g hw)
  · refine (θ_run _ _ _).mono (fun r h c => ⟨(h c).1.trans ?_, (h c).2⟩) (Cert.ExpertsReferenceIdeal.Value.run m' g')
    refine Eq.trans ?_ (same_array m hw c)
    rw [Cert.ExpertsReferenceIdeal.Read.val_main_v40_eq, (hagree c).1, (hagree c).2.1, (hagree c).2.2.1, (hagree c).2.2.2.1, (hagree c).2.2.2.2.1,
      (hagree c).2.2.2.2.2]

/-- The reference runs, keeps its arguments and leaves every counter at zero. -/
theorem frame_reference : Cert.quiescent_ExpertsReferenceIdeal (hExpertsReferenceIdeal := Cert.ExpertsReferenceIdeal.Gen.facts) := by
  intro m g _
  exact (θ_run _ _ _).mono (fun r h => ⟨fun c => (h c).2, sem_eq_zero_of_no_sems rfl _⟩) (Cert.ExpertsReferenceIdeal.Value.run m g)

end Cert.Feed
-- ==== Proof.Norm.lean ====
/-
  The root-mean-square norm of a row over the extended reals.
-/
module

public import proofs.«01_k».proof.Proof.Consts
public import Idealize.ShloMosaic.PureOps.Ideal.Laws

@[expose] public section

noncomputable section

namespace Cert.Norm

open Idealize.ShloMosaic

/-- Lane `j` of the row `x` of length `N`, divided by its root mean square (with `e` added under the root) and scaled by `g`. -/
def rms {n : ℕ} (N e : EReal) (x g : Fin n → EReal) (j : Fin n) : EReal := x j * Ideal.rsqrt (Ideal.div (∑ k, x k * x k) N + e) * g j

/-- The norms' constants: the lengths of a row and of a head, and what is added under the root. -/
def len : EReal := Ideal.ofBits .f32 0x44800000#32
def head : EReal := Ideal.ofBits .f32 0x43000000#32
def epsRow : EReal := Ideal.ofBits .f32 0x3727C5AC#32
def epsHead : EReal := Ideal.ofBits .f32 0x358637BD#32

end Cert.Norm
-- ==== Proof.Memory.lean ====
/-
  The memory's keys and values: what a grid point writes.
-/
module

public import proofs.«01_k».proof.Proof.Norm
public import proofs.«01_k».proof.Proof.Gen.MemoryIdeal.Value
public import Idealize.ShloMosaic.Lib.Pointwise

@[expose] public section

set_option maxRecDepth 100000

noncomputable section

namespace Cert.Store

open Cert.MemoryIdeal Cert.MemoryIdeal.Gen Cert.MemoryIdeal.Value Idealize.ShloMosaic Idealize.ShloMosaic.Tactic Cert.Norm

variable (P0 : S512x1024.Idx → EReal) (P1 : S1x1024.Idx → EReal) (P2 : S1024x1024.Idx → EReal) (P3 : S1x128.Idx → EReal)

/-- Keys and values of a row, before the keys' norm: lane `j`. -/
def kv (r : Fin 512) (j : Fin 1024) : EReal :=
  ∑ k : Fin 1024, rms len epsRow (fun k => P0 (ix2 r k)) (fun k => P1 (ix2 0 k)) k * P2 (ix2 k j)

theorem pay3_at (r : Fin 512) (j : Fin 1024) : k0_pay3 (F := Ideal) P0 P1 P2 (ix2 r j) = kv P0 P1 P2 r j := by
  pointwise [k0_pay3]
  rfl

theorem pay6_at (v : S512x128.Idx → EReal) (r : Fin 512) (j : Fin 128) :
    k0_pay6 (F := Ideal) v P3 (ix2 r j) = rms head epsHead (fun k => v (ix2 r k)) (fun k => P3 (ix2 0 k)) j := by
  pointwise [k0_pay6]
  rfl

/-- Lane `d` of head `h`, among a row's lanes. -/
def lane (h : Fin 4) (d : Fin 128) : Fin 1024 := ⟨h.val * 128 + d.val, by omega⟩

/-- The normed key of a row: head `h`, lane `d`. -/
def key (r : Fin 512) (h : Fin 4) (d : Fin 128) : EReal :=
  rms head epsHead (fun k => kv P0 P1 P2 r (lane h k)) (fun k => P3 (ix2 0 k)) d

theorem pay4_at (r : Fin 512) (j : Fin 128) : k0_pay4 (F := Ideal) P0 P1 P2 P3 (ix2 r j) = key P0 P1 P2 P3 r 0 j := by
  pointwise [k0_pay4]
  simp only [pay3_at]
  unfold key rms
  dsimp only
  have e : ∀ k : Fin 128, (⟨k.val, by omega⟩ : Fin 1024) = lane 0 k := fun k => Fin.ext (by show k.val = 0 * 128 + k.val; omega)
  simp only [e]
  rfl
theorem pay56_at (r : Fin 512) (j : Fin 128) : k0_pay6 (F := Ideal) (k0_pay5 P0 P1 P2) P3 (ix2 r j) = key P0 P1 P2 P3 r 1 j := by
  pointwise [k0_pay5, k0_pay6]
  simp only [pay3_at]
  rfl
theorem pay7_at (r : Fin 512) (j : Fin 128) : k0_pay7 (F := Ideal) (k0_pay3 P0 P1 P2) P3 (ix2 r j) = key P0 P1 P2 P3 r 2 j := by
  pointwise [k0_pay7]
  simp only [pay3_at]
  rfl
theorem pay1_at (r : Fin 512) (j : Fin 128) :
    k0_pay1 (F := Ideal) (k0_pay8 (k0_pay3 P0 P1 P2)) (k0_pay9 P3) (k0_pay10 (k0_pay3 P0 P1 P2)) (k0_pay11 (F := Ideal)) (ix2 r j)
      = key P0 P1 P2 P3 r 3 j := by
  pointwise [k0_pay1, k0_pay8, k0_pay9, k0_pay10, k0_pay11]
  simp only [pay3_at]
  rfl

/-- The keys' block, entry by entry. -/
def keys (y : S512x512.Idx) : EReal :=
  key P0 P1 P2 P3 (y 0) ⟨(y 1).val / 128, by have h : (y 1).val < 512 := (y 1).isLt; omega⟩ ⟨(y 1).val % 128, Nat.mod_lt _ (by norm_num)⟩

theorem piece (h : Fin 4) {off : Fin 2 → ℕ} {inb : ∀ a, off a + S512x128.size a ≤ S512x512.size a} (h0 : off 0 = 0) (h1 : off 1 = 128 * h.val)
    (w : S512x128.Idx → EReal) (hw : ∀ r j, w (ix2 r j) = key P0 P1 P2 P3 r h j) (x : S512x128.Idx) :
    w x = keys P0 P1 P2 P3 ((Rect.unit (s := S512x512) off S512x128.size inb).emb x) := by
  have hx : (x 1).val < 128 := (x 1).isLt
  refine (congrArg w (eq_ix2 x)).trans ((hw (x 0) (x 1)).trans ?_)
  unfold keys
  congr 1
  · exact Fin.ext (by show (x 0).val = off 0 + 1 * (x 0).val; omega)
  · exact Fin.ext (by show h.val = (off 1 + 1 * (x 1).val) / 128; omega)
  · exact Fin.ext (by show (x 1).val = (off 1 + 1 * (x 1).val) % 128; omega)

/-- What a grid point writes to the keys' array. -/
theorem keys_eq : out0_4 (F := Ideal) P0 P1 P2 P3 = keys P0 P1 P2 P3 := by
  funext y
  unfold out0_4 k0_pay12
  have l0 : View.ld (Val := Elt Ideal) (S := S512x1024) (e' := .f32) P0 r0_0 = P0 := View.ld_unit_zero (Val := Elt Ideal) (S := S512x1024) (by funext a; fin_cases a <;> rfl) _ _
  have l1 : View.ld (Val := Elt Ideal) (S := S1x1024) (e' := .f32) P1 r0_1 = P1 := View.ld_unit_zero (Val := Elt Ideal) (S := S1x1024) (by funext a; fin_cases a <;> rfl) _ _
  have l2 : View.ld (Val := Elt Ideal) (S := S1024x1024) (e' := .bf16) P2 r0_2 = P2 := View.ld_unit_zero (Val := Elt Ideal) (S := S1024x1024) (by funext a; fin_cases a <;> rfl) _ _
  have l3 : View.ld (Val := Elt Ideal) (S := S1x128) (e' := .f32) P3 r0_3 = P3 := View.ld_unit_zero (Val := Elt Ideal) (S := S1x128) (by funext a; fin_cases a <;> rfl) _ _
  rw [l0, l1, l2, l3]
  refine View.canon_apply_of_pieces (Val := Elt Ideal) (e := .bf16) (keys P0 P1 P2 P3) _ ?_ y (cover0_4 _ _ _ _ y)
  intro p hp
  simp only [List.mem_cons, List.not_mem_nil, or_false] at hp
  rcases hp with rfl | rfl | rfl | rfl
  · exact piece P0 P1 P2 P3 3 rfl rfl (inb := inb_S512x512_S512x128_0_384) _ (pay1_at P0 P1 P2 P3)
  · exact piece P0 P1 P2 P3 2 rfl rfl (inb := inb_S512x512_S512x128_0_256) _ (pay7_at P0 P1 P2 P3)
  · exact piece P0 P1 P2 P3 1 rfl rfl (inb := inb_S512x512_S512x128_0_128) _ (pay56_at P0 P1 P2 P3)
  · exact piece P0 P1 P2 P3 0 rfl rfl (inb := inb_S512x512_S512x128_0_0) _ (pay4_at P0 P1 P2 P3)

/-- Head and lane of a key's lane. -/
def hd (l : Fin 512) : Fin 4 := ⟨l.val / 128, by omega⟩
def ln (l : Fin 512) : Fin 128 := ⟨l.val % 128, by omega⟩

theorem keys_at (r l : Fin 512) : out0_4 (F := Ideal) P0 P1 P2 P3 (ix2 r l) = key P0 P1 P2 P3 r (hd l) (ln l) := by
  rw [keys_eq]
  rfl

/-- What a grid point writes to the values' array. -/
theorem values_at (r j : Fin 512) : out0_5 (F := Ideal) P0 P1 P2 P3 (ix2 r j) = kv P0 P1 P2 r ⟨512 + j.val, by omega⟩ := by
  unfold out0_5 k0_pay12
  have l0 : View.ld (Val := Elt Ideal) (S := S512x1024) (e' := .f32) P0 r0_0 = P0 := View.ld_unit_zero (Val := Elt Ideal) (S := S512x1024) (by funext a; fin_cases a <;> rfl) _ _
  have l1 : View.ld (Val := Elt Ideal) (S := S1x1024) (e' := .f32) P1 r0_1 = P1 := View.ld_unit_zero (Val := Elt Ideal) (S := S1x1024) (by funext a; fin_cases a <;> rfl) _ _
  have l2 : View.ld (Val := Elt Ideal) (S := S1024x1024) (e' := .bf16) P2 r0_2 = P2 := View.ld_unit_zero (Val := Elt Ideal) (S := S1024x1024) (by funext a; fin_cases a <;> rfl) _ _
  rw [l0, l1, l2, View.canon_unit_zero (by funext a; fin_cases a <;> rfl)]
  pointwise [k0_pay2]
  simp only [pay3_at]

end Cert.Store
-- ==== Proof.Recall.lean ====
/-
  The memory's keys and values: the reference's results, entry by entry.
-/
module

public import proofs.«01_k».proof.Proof.Memory
public import proofs.«01_k».proof.Proof.Dense
public import proofs.«01_k».proof.Proof.Gen.MemoryReferenceIdeal.Read

@[expose] public section

set_option maxRecDepth 100000

noncomputable section

namespace Cert.Recall

open Cert.MemoryReferenceIdeal Cert.MemoryReferenceIdeal.Gen Cert.MemoryReferenceIdeal.Read Idealize.ShloMosaic Idealize.ShloMosaic.Tactic Cert.Norm Cert.Store Cert.Fox

/-- A row's keys and values, before the keys' norm, from the row, its norm's scales and the weights. -/
def lin (x g : Fin 1024 → EReal) (w : Fin 1024 → Fin 1024 → EReal) (j : Fin 1024) : EReal := ∑ k, rms len epsRow x g k * w k j

variable (x0 : FVec Ideal S16x256x1024 .f32) (x1 : FVec Ideal S1024 .f32) (x2 : FVec Ideal S1024x1024 .f32) (x3 : FVec Ideal S128 .f32)

theorem v12_at (b : Fin 16) (s : Fin 256) (k : Fin 1024) :
    val_main_v12 (F := Ideal) x0 x1 (ix3 b s k) = rms len epsRow (fun k => x0 (ix3 b s k)) (fun k => x1 (ix1 k)) k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rfl

theorem v13_at (b : Fin 16) (s : Fin 256) (j : Fin 1024) :
    val_main_v13 (F := Ideal) x0 x1 x2 (ix3 b s j)
      = lin (fun k => x0 (ix3 b s k)) (fun k => x1 (ix1 k)) (fun k j => x2 (ix2 k j)) j := by
  pointwise [val_main_v13]
  simp only [v12_at]
  rfl

theorem v29_at (b : Fin 16) (s : Fin 256) (h : Fin 4) (d : Fin 128) :
    val_main_v29 (F := Ideal) x0 x1 x2 x3 (ix4 b s h d)
      = rms head epsHead (fun k => lin (fun k => x0 (ix3 b s k)) (fun k => x1 (ix1 k)) (fun k j => x2 (ix2 k j)) (lane h k)) (fun k => x3 (ix1 k)) d := by
  pointwise [val_main_v29, val_main_v28, val_main_v27, val_main_v26, val_main_v25, val_main_v24, val_main_v23, val_main_v22, val_main_cst_4,
    val_main_v21, val_main_v20, val_main_cst_3, val_main_v19, val_main_v18, val_main_cst_2, val_main_v17, val_main_v16, val_main_v14]
  simp only [v13_at]
  rfl

/-- Row `s` of the memory `b`, among all rows. -/
def rowOf (b : Fin 16) (s : Fin 256) : Fin 4096 := ⟨256 * b.val + s.val, by omega⟩
/-- Lane `d` of head `h`, among the keys' lanes. -/
def colOf (h : Fin 4) (d : Fin 128) : Fin 512 := ⟨128 * h.val + d.val, by omega⟩

theorem v31_at (b : Fin 16) (s : Fin 256) (h : Fin 4) (d : Fin 128) :
    val_main_v31 (F := Ideal) x0 x1 x2 x3 (ix2 (rowOf b s) (colOf h d))
      = rms head epsHead (fun k => lin (fun k => x0 (ix3 b s k)) (fun k => x1 (ix1 k)) (fun k j => x2 (ix2 k j)) (lane h k)) (fun k => x3 (ix1 k)) d := by
  rw [← v29_at]
  have e : idx_main_v30 (ix2 (rowOf b s) (colOf h d)) = ix4 b s h d := funext fun a => Fin.ext (by
    match a with
    | ⟨0, _⟩ => show ((256 * b.val + s.val) * 512 + (128 * h.val + d.val)) / 131072 = b.val; omega
    | ⟨1, _⟩ => show ((256 * b.val + s.val) * 512 + (128 * h.val + d.val)) / 512 % 256 = s.val; omega
    | ⟨2, _⟩ => show ((256 * b.val + s.val) * 512 + (128 * h.val + d.val)) / 128 % 4 = h.val; omega
    | ⟨3, _⟩ => show ((256 * b.val + s.val) * 512 + (128 * h.val + d.val)) % 128 = d.val; omega)
  rw [val_main_v31_apply, val_main_v30_apply, e]
  rfl

theorem v33_at (b : Fin 16) (s : Fin 256) (j : Fin 512) :
    val_main_v33 (F := Ideal) x0 x1 x2 (ix2 (rowOf b s) j)
      = lin (fun k => x0 (ix3 b s k)) (fun k => x1 (ix1 k)) (fun k j => x2 (ix2 k j)) ⟨512 + j.val, by omega⟩ := by
  rw [← v13_at]
  have e : idx_main_v15 (idx_main_v32 (ix2 (rowOf b s) j)) = ix3 b s ⟨512 + j.val, by omega⟩ := funext fun a => Fin.ext (by
    match a with
    | ⟨0, _⟩ => show ((256 * b.val + s.val) * 512 + j.val) / 131072 = b.val; omega
    | ⟨1, _⟩ => show ((256 * b.val + s.val) * 512 + j.val) / 512 % 256 = s.val; omega
    | ⟨2, _⟩ => show 512 + ((256 * b.val + s.val) * 512 + j.val) % 512 = 512 + j.val; omega)
  rw [val_main_v33_apply, val_main_v32_apply, val_main_v15_apply, e]
  rfl

end Cert.Recall
-- ==== Proof.Remember.lean ====
/-
  The memory's keys and values: the kernel's arrays are the reference's results.
-/
module

public import proofs.«01_k».proof.Defs
public import proofs.«01_k».proof.Proof.Recall
public import Idealize.ShloMosaic.Lib.Claim
public import Idealize.ShloMosaic.Lib.Quiescent

@[expose] public section

set_option maxRecDepth 100000

noncomputable section

namespace Cert.Store

open Cert.MemoryIdeal Cert.MemoryIdeal.Gen Cert.MemoryIdeal.Value Idealize.ShloMosaic Idealize.ShloMosaic.TcCoe Idealize.ShloMosaic.Tactic
  Idealize.SL.Sem Cert.Norm Cert.Recall

variable (m : (ℓ : Loc nD τ sig) → Buf (Elt Ideal) ℓ) (c : Dev nD)

/-- The arguments as launched. -/
abbrev a0 : S16x256x1024.Idx → EReal := m (c, Proc.tc.devRef main_arg0)
abbrev a1 : S1024.Idx → EReal := m (c, Proc.tc.devRef main_arg1)
abbrev a2 : S1024x1024.Idx → EReal := m (c, Proc.tc.devRef main_arg2)
abbrev a3 : S128.Idx → EReal := m (c, Proc.tc.devRef main_arg3)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

theorem N_eq : cfg0.N = 8 := by decide

/-- The memory and the row a block's row is of. -/
def bat (t : Fin cfg0.N) (r : Fin 512) : Fin 16 := ⟨(512 * t.val + r.val) / 256, by have := t.isLt; have := N_eq; omega⟩
def pos (t : Fin cfg0.N) (r : Fin 512) : Fin 256 := ⟨(512 * t.val + r.val) % 256, by omega⟩

theorem row_lt (t : Fin cfg0.N) (r : Fin 512) : 512 * t.val + r.val < 4096 := by have := t.isLt; have := N_eq; omega

theorem row_eq (t : Fin cfg0.N) (r : Fin 512) : rowOf (bat t r) (pos t r) = ⟨512 * t.val + r.val, row_lt t r⟩ :=
  Fin.ext (by show 256 * ((512 * t.val + r.val) / 256) + (512 * t.val + r.val) % 256 = 512 * t.val + r.val; omega)

theorem rows_at (b : Fin 16) (s : Fin 256) (k : Fin 1024) : V m c main_v0 (ix2 (rowOf b s) k) = a0 m c (ix3 b s k) := by
  unfold V
  after_reads_at
  unfold rowOf
  refine congrArg (a0 m c) ?_
  refine Cert.Feed.ext3 ?_ ?_ ?_
  · show (256 * b.val + s.val) / 256 = b.val; omega
  · show (256 * b.val + s.val) % 256 = s.val; omega
  · rfl

theorem blk0_at (t : Fin cfg0.N) (r : Fin 512) (k : Fin 1024) : iblk m c 0 t (ix2 r k) = a0 m c (ix3 (bat t r) (pos t r) k) := by
  have h : V m c main_v0 (ix2 (rowOf (bat t r) (pos t r)) k) = a0 m c (ix3 (bat t r) (pos t r) k) := rows_at m c _ _ k
  have h' : iblk m c 0 t (ix2 r k) = V m c main_v0 (ix2 (rowOf (bat t r) (pos t r)) k) := by
    rw [row_eq]
    blk_simp [iblk]
    refine congrArg _ ?_
    blk_ext [idx0 t]
  exact h'.trans h

theorem blk1_at (t : Fin cfg0.N) (k : Fin 1024) : iblk m c 1 t (ix2 0 k) = a1 m c (ix1 k) := by
  have h : V m c main_v1 (ix2 0 k) = a1 m c (ix1 k) := by
    unfold V
    after_reads_at
  rw [← h]
  blk_simp [iblk]
  refine congrArg _ ?_
  blk_ext [idx1 t]

theorem blk2_at (t : Fin cfg0.N) (k j : Fin 1024) : iblk m c 2 t (ix2 k j) = a2 m c (ix2 k j) := by
  have h : V m c main_v2 (ix2 k j) = a2 m c (ix2 k j) := by
    unfold V
    after_reads_at
  rw [← h]
  blk_simp [iblk]
  refine congrArg _ ?_
  blk_ext [idx2 t]

theorem blk3_at (t : Fin cfg0.N) (k : Fin 128) : iblk m c 3 t (ix2 0 k) = a3 m c (ix1 k) := by
  have h : V m c main_v3 (ix2 0 k) = a3 m c (ix1 k) := by
    unfold V
    after_reads_at
  rw [← h]
  blk_simp [iblk]
  refine congrArg _ ?_
  blk_ext [idx3 t]

theorem kv_eq (t : Fin cfg0.N) (r : Fin 512) (j : Fin 1024) :
    kv (iblk m c 0 t) (iblk m c 1 t) (iblk m c 2 t) r j
      = lin (fun k => a0 m c (ix3 (bat t r) (pos t r) k)) (fun k => a1 m c (ix1 k)) (fun k j => a2 m c (ix2 k j)) j := by
  unfold kv lin
  simp only [blk0_at, blk1_at, blk2_at]

theorem key_eq (t : Fin cfg0.N) (r : Fin 512) (h : Fin 4) (d : Fin 128) :
    key (iblk m c 0 t) (iblk m c 1 t) (iblk m c 2 t) (iblk m c 3 t) r h d
      = rms head epsHead (fun k => lin (fun k => a0 m c (ix3 (bat t r) (pos t r) k)) (fun k => a1 m c (ix1 k)) (fun k j => a2 m c (ix2 k j)) (lane h k))
          (fun k => a3 m c (ix1 k)) d := by
  unfold key
  simp only [kv_eq, blk3_at]

theorem keys_array : (dats m 0 c).arrAt 4 cfg0.N
    = Cert.MemoryReferenceIdeal.Read.val_main_v31 (F := Ideal) (a0 m c) (a1 m c) (a2 m c) (a3 m c) := by
  refine (dats m 0 c).arrAt_eq_of_covers 4 _ (by decide +kernel) fun t hf y => ?_
  blk_simp
  obtain ⟨r, l, rfl⟩ : ∃ (r l : Fin 512), y = ix2 r l := ⟨y 0, y 1, eq_ix2 y⟩
  rw [after0_4, keys_at, key_eq]
  have e : (win0_4.blk t).view.emb (ix2 r l) = ix2 (rowOf (bat t r) (pos t r)) (colOf (hd l) (ln l)) := by
    have e' : colOf (hd l) (ln l) = l := Fin.ext (by show 128 * (l.val / 128) + l.val % 128 = l.val; omega)
    rw [row_eq, e']
    blk_ext [idx4 t]
  rw [e, v31_at]

theorem values_array : (dats m 0 c).arrAt 5 cfg0.N
    = Cert.MemoryReferenceIdeal.Read.val_main_v33 (F := Ideal) (a0 m c) (a1 m c) (a2 m c) := by
  refine (dats m 0 c).arrAt_eq_of_covers 5 _ (by decide +kernel) fun t hf y => ?_
  blk_simp
  obtain ⟨r, l, rfl⟩ : ∃ (r l : Fin 512), y = ix2 r l := ⟨y 0, y 1, eq_ix2 y⟩
  rw [after0_5, values_at, kv_eq]
  have e : (win0_5.blk t).view.emb (ix2 r l) = ix2 (rowOf (bat t r) (pos t r)) l := by
    rw [row_eq]
    blk_ext [idx5 t]
  rw [e, v33_at]

theorem algebraic_memory : Cert.algebraic_MemoryIdeal_MemoryReferenceIdeal (hMemoryIdeal := Cert.MemoryIdeal.Gen.facts)
    (hMemoryReferenceIdeal := Cert.MemoryReferenceIdeal.Gen.facts) := by
  intro m g m' g' _ hagree
  refine ⟨fun c => (dats m 0 c).arrAt 4 cfg0.N, fun c => (dats m 0 c).arrAt 5 cfg0.N, Cert.MemoryIdeal.Value.run_blocks m g, ?_⟩
  refine (θ_run _ _ _).mono (fun r h c => ⟨(h c).1.trans ?_, (h c).2.1.trans ?_, (h c).2.2⟩) (Cert.MemoryReferenceIdeal.Value.run m' g')
  · refine Eq.trans ?_ (keys_array m c).symm
    rw [Cert.MemoryReferenceIdeal.Read.val_main_v31_eq, (hagree c).1, (hagree c).2.1, (hagree c).2.2.1, (hagree c).2.2.2]
  · refine Eq.trans ?_ (values_array m c).symm
    rw [Cert.MemoryReferenceIdeal.Read.val_main_v33_eq, (hagree c).1, (hagree c).2.1, (hagree c).2.2.1]

/-- The reference runs, keeps its arguments and leaves every counter at zero. -/
theorem frame_reference : Cert.quiescent_MemoryReferenceIdeal (hMemoryReferenceIdeal := Cert.MemoryReferenceIdeal.Gen.facts) := by
  intro m g _
  exact (θ_run _ _ _).mono (fun r h => ⟨fun c => (h c).2.2, sem_eq_zero_of_no_sems rfl _⟩) (Cert.MemoryReferenceIdeal.Value.run m g)

end Cert.Store
-- ==== Proof.Chunks.lean ====
/-
  The combined projection: what a grid point leaves in its output blocks, as four chunks of 512 rows.
-/
module

public import proofs.«01_k».proof.Proof.Gen.ProjectionIdeal.Value
public import Idealize.ShloMosaic.Lib.Pointwise
public import Idealize.ShloMosaic.Lib.Pipeline.Value
public import Idealize.ShloMosaic.Lib.Pipeline.ReadBack

@[expose] public section

set_option maxRecDepth 1000000

noncomputable section

namespace Cert.Proj

open Cert.ProjectionIdeal Cert.ProjectionIdeal.Gen Idealize.ShloMosaic Idealize.ShloMosaic.TcCoe Idealize.SL.Sem Idealize.ShloMosaic.Tactic

variable {F : FTy → Type} [FloatOps F] [Named F]

section tile
variable (x : Vec F S512x1024 .f32) (g : Vec F S1x1024 .f32) (w : Vec F S1024x1536 .bf16) (wf : Vec F S1024x128 .bf16) (bf : Vec F S1x128 .f32)
  (gq gk : Vec F S1x512 .f32) (bd : Vec F S256x256 .bf16) (tri : Vec F S512x512 .bf16)

/-- A chunk's queries, keys and values. -/
def qT : FVec F S512x512 .bf16 := k0_pay12 (k0_pay8 (k0_pay7 x g w) gq bd bd)
def kT : FVec F S512x512 .bf16 := k0_pay13 (k0_pay9 (k0_pay6 x g w)) (k0_pay10 gk) (k0_pay11 (k0_pay6 x g w) bd bd)
def vT : FVec F S512x512 .bf16 := k0_pay14 (k0_pay6 x g w)

/-- A chunk's cumulated log gates: from the sums before the chunk. -/
def cT (p : FVec F S1x128 .f32) : FVec F S512x128 .f32 :=
  k0_pay19 p (k0_pay17 (k0_pay5 x g) wf bf tri) (k0_pay18 (k0_pay5 x g) wf bf tri)
/-- The sums after the chunk. -/
def nT (p : FVec F S1x128 .f32) : FVec F S1x128 .f32 :=
  k0_pay20 p (k0_pay17 (k0_pay5 x g) wf bf tri) (k0_pay18 (k0_pay5 x g) wf bf tri)
/-- What is stored of the chunk's cumulated log gates. -/
def gT (p : FVec F S1x128 .f32) : FVec F S8x512 .f32 :=
  k0_pay21 p (k0_pay17 (k0_pay5 x g) wf bf tri) (k0_pay18 (k0_pay5 x g) wf bf tri)
end tile

/-- Chunk `n` of the rows. -/
def chunk (x : Vec F S2048x1024 .f32) (n : Fin 4) : Vec F S512x1024 .f32 :=
  View.ld x (Rect.unit ![512 * n.val, 0] S512x1024.size (by
    intro a; fin_cases a
    · show 512 * n.val + 512 ≤ 2048; omega
    · show 0 + 1024 ≤ 1024; omega))

/-- The sums before the first chunk. -/
def zeroT : FVec F S1x128 .f32 := View.ld (Val := Elt F) (S := S8x128) (e' := .f32) (k0_pay4 (F := F)) (Rect.unit (s := S8x128) ![0, 0] S1x128.size inb_S8x128_S1x128_0_0)

theorem fill_at (v : View sig .tc .vmem S8x128 .f32) (h) (h') :
    v.readCov [(⟨Rect.unit (s := S8x128) ![0, 0] ![8, 128] h, k0_pay4 (F := F)⟩ : View.Piece (Elt F) S8x128 .f32)]
      (Rect.unit (s := S8x128) ![0, 0] ![1, 128] h').toLoadRect = zeroT := by
  exact View.readCov_fill (Val := Elt F) (s := S8x128) (e := .f32) v h _ _ _ (fun a => by match a with | ⟨0, _⟩ => rfl | ⟨1, _⟩ => rfl)

section block
variable (x0 : Vec F S2048x1024 .f32) (x1 : Vec F S1x1024 .f32) (x2 : Vec F S1024x1536 .bf16) (x3 : Vec F S1024x128 .bf16) (x4 : Vec F S1x128 .f32)
  (x5 x6 : Vec F S1x512 .f32) (x7 : Vec F S256x256 .bf16) (x8 : Vec F S512x512 .bf16)

/-- The sums before each chunk. -/
def preT : ℕ → FVec F S1x128 .f32
  | 0 => zeroT
  | n + 1 => nT (chunk x0 (Fin.ofNat 4 n)) x1 x3 x4 x8 (preT n)

def rowsBlk (f : Fin 4 → FVec F S512x512 .bf16) : Vec F S2048x512 .bf16 := View.canon [
  (⟨Rect.unit ![1536, 0] S512x512.size inb_S2048x512_S512x512_1536_0, f 3⟩ : View.Piece (Elt F) S2048x512 .bf16),
  ⟨Rect.unit ![1024, 0] S512x512.size inb_S2048x512_S512x512_1024_0, f 2⟩,
  ⟨Rect.unit ![512, 0] S512x512.size inb_S2048x512_S512x512_512_0, f 1⟩,
  ⟨Rect.unit ![0, 0] S512x512.size inb_S2048x512_S512x512_0_0, f 0⟩]

def colsBlk (f : Fin 4 → FVec F S8x512 .f32) : Vec F S8x2048 .f32 := View.canon [
  (⟨Rect.unit ![0, 1536] S8x512.size inb_S8x2048_S8x512_0_1536, f 3⟩ : View.Piece (Elt F) S8x2048 .f32),
  ⟨Rect.unit ![0, 1024] S8x512.size inb_S8x2048_S8x512_0_1024, f 2⟩,
  ⟨Rect.unit ![0, 512] S8x512.size inb_S8x2048_S8x512_0_512, f 1⟩,
  ⟨Rect.unit ![0, 0] S8x512.size inb_S8x2048_S8x512_0_0, f 0⟩]

theorem whole1 (h) : View.ld (Val := Elt F) (S := S1x1024) (e' := .f32) x1 (Rect.unit (s := S1x1024) ![0, 0] ![1, 1024] h) = x1 :=
  View.ld_unit_zero (by funext a; fin_cases a <;> rfl) _ _
theorem whole2 (h) : View.ld (Val := Elt F) (S := S1024x1536) (e' := .bf16) x2 (Rect.unit (s := S1024x1536) ![0, 0] ![1024, 1536] h) = x2 :=
  View.ld_unit_zero (by funext a; fin_cases a <;> rfl) _ _
theorem whole3 (h) : View.ld (Val := Elt F) (S := S1024x128) (e' := .bf16) x3 (Rect.unit (s := S1024x128) ![0, 0] ![1024, 128] h) = x3 :=
  View.ld_unit_zero (by funext a; fin_cases a <;> rfl) _ _
theorem whole4 (h) : View.ld (Val := Elt F) (S := S1x128) (e' := .f32) x4 (Rect.unit (s := S1x128) ![0, 0] ![1, 128] h) = x4 :=
  View.ld_unit_zero (by funext a; fin_cases a <;> rfl) _ _
theorem whole5 (h) : View.ld (Val := Elt F) (S := S1x512) (e' := .f32) x5 (Rect.unit (s := S1x512) ![0, 0] ![1, 512] h) = x5 :=
  View.ld_unit_zero (by funext a; fin_cases a <;> rfl) _ _
theorem whole7 (h) : View.ld (Val := Elt F) (S := S256x256) (e' := .bf16) x7 (Rect.unit (s := S256x256) ![0, 0] ![256, 256] h) = x7 :=
  View.ld_unit_zero (by funext a; fin_cases a <;> rfl) _ _
theorem whole8 (h) : View.ld (Val := Elt F) (S := S512x512) (e' := .bf16) x8 (Rect.unit (s := S512x512) ![0, 0] ![512, 512] h) = x8 :=
  View.ld_unit_zero (by funext a; fin_cases a <;> rfl) _ _

set_option maxHeartbeats 4000000 in
theorem out9_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S256x256 .bf16) (harg8 : arg8.IsWhole) (arg9 : Memref sig .tc .vmem S512x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S8x2048 .f32) (harg13 : arg13.IsWhole) (arg14 : Memref sig .tc .vmem S8x128 .f32) (harg14 : arg14.IsWhole) (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = rowsBlk fun n => qT (chunk x0 n) x1 x2 x5 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp (disch := decide) only [View.readCov_cons_toLoadRect, fill_at, View.readAt_eq_ld, harg1.read_unread, harg2.read_unread, harg3.read_unread, harg4.read_unread, harg5.read_unread, harg6.read_unread, harg7.read_unread, harg8.read_unread, harg9.read_unread, whole1, whole2, whole3, whole4, whole5, whole7, whole8]
  exact rfl

set_option maxHeartbeats 4000000 in
theorem out10_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S256x256 .bf16) (harg8 : arg8.IsWhole) (arg9 : Memref sig .tc .vmem S512x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S8x2048 .f32) (harg13 : arg13.IsWhole) (arg14 : Memref sig .tc .vmem S8x128 .f32) (harg14 : arg14.IsWhole) (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = rowsBlk fun n => kT (chunk x0 n) x1 x2 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp (disch := decide) only [View.readCov_cons_toLoadRect, fill_at, View.readAt_eq_ld, harg1.read_unread, harg2.read_unread, harg3.read_unread, harg4.read_unread, harg5.read_unread, harg6.read_unread, harg7.read_unread, harg8.read_unread, harg9.read_unread, whole1, whole2, whole3, whole4, whole5, whole7, whole8]
  exact rfl

set_option maxHeartbeats 4000000 in
theorem out11_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S256x256 .bf16) (harg8 : arg8.IsWhole) (arg9 : Memref sig .tc .vmem S512x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S8x2048 .f32) (harg13 : arg13.IsWhole) (arg14 : Memref sig .tc .vmem S8x128 .f32) (harg14 : arg14.IsWhole) (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = rowsBlk fun n => vT (chunk x0 n) x1 x2 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp (disch := decide) only [View.readCov_cons_toLoadRect, fill_at, View.readAt_eq_ld, harg1.read_unread, harg2.read_unread, harg3.read_unread, harg4.read_unread, harg5.read_unread, harg6.read_unread, harg7.read_unread, harg8.read_unread, harg9.read_unread, whole1, whole2, whole3, whole4, whole5, whole7, whole8]
  exact rfl

set_option maxHeartbeats 4000000 in
theorem out12_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S256x256 .bf16) (harg8 : arg8.IsWhole) (arg9 : Memref sig .tc .vmem S512x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S8x2048 .f32) (harg13 : arg13.IsWhole) (arg14 : Memref sig .tc .vmem S8x128 .f32) (harg14 : arg14.IsWhole) (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = colsBlk fun n => gT (chunk x0 n) x1 x3 x4 x8 (preT x0 x1 x3 x4 x8 n) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp (disch := decide) only [View.readCov_cons_toLoadRect, fill_at, View.readAt_eq_ld, harg1.read_unread, harg2.read_unread, harg3.read_unread, harg4.read_unread, harg5.read_unread, harg6.read_unread, harg7.read_unread, harg8.read_unread, harg9.read_unread, whole1, whole2, whole3, whole4, whole5, whole7, whole8]
  exact rfl
end block

end Cert.Proj
-- ==== Proof.Running.lean ====
/-
  Running sums and the logarithm of a sigmoid over the extended reals.
-/
module

public import proofs.«01_k».proof.Proof.Norm
public import Idealize.ShloMosaic.Lib.Pointwise
public import Idealize.ShloMosaic.Lib.IdealHost

@[expose] public section

set_option maxRecDepth 100000

noncomputable section

namespace Cert.Norm

open Idealize.ShloMosaic Cert.Fox

/-- The logarithm of the sigmoid. -/
def lsig (z : EReal) : EReal := min z 0 - Ideal.log (1 + Ideal.exp (0 - max z (-z)))

theorem tail_real (z : EReal) : ∃ l : ℝ, Ideal.log (1 + Ideal.exp (0 - max z (-z))) = (l : EReal) := by
  induction z with
  | bot =>
    refine ⟨0, ?_⟩
    rw [EReal.neg_bot, max_eq_right bot_le, zero_sub, EReal.neg_top, Ideal.exp_bot, add_zero, ← EReal.coe_one, Ideal.log_coe, if_neg (by norm_num), Real.log_one]
  | top =>
    refine ⟨0, ?_⟩
    rw [EReal.neg_top, max_eq_left bot_le, zero_sub, EReal.neg_top, Ideal.exp_bot, add_zero, ← EReal.coe_one, Ideal.log_coe, if_neg (by norm_num), Real.log_one]
  | coe r =>
    have h : (0 : EReal) - max (r : EReal) (-(r : EReal)) = ((0 - max r (-r) : ℝ) : EReal) := by
      rw [EReal.coe_sub, EReal.coe_zero, EReal.coe_strictMono.monotone.map_max, EReal.coe_neg]
    have hp : (0 : ℝ) < Real.exp (0 - max r (-r)) := Real.exp_pos _
    rw [h, Ideal.exp_coe, ← EReal.coe_one, ← EReal.coe_add, Ideal.log_coe, if_neg (by linarith)]
    exact ⟨_, rfl⟩

/-- The reference's form of it. -/
theorem lsig_neg (z : EReal) : -(max (-z) 0 + Ideal.log (1 + Ideal.exp (-(max (-z) (-(-z)))))) = lsig z := by
  unfold lsig
  rw [neg_neg, max_comm (-z) z, ← zero_sub (max z (-z))]
  obtain ⟨l, hl⟩ := tail_real z
  rw [hl, EReal.neg_add (Or.inr (EReal.coe_ne_top l)) (Or.inr (EReal.coe_ne_bot l))]
  refine congrArg (· - (l : EReal)) ?_
  rcases le_total z 0 with h | h
  · rw [min_eq_left h, max_eq_left (by rw [← neg_zero]; exact EReal.neg_le_neg_iff.2 h), neg_neg]
  · rw [min_eq_right h, max_eq_right (by rw [← neg_zero]; exact EReal.neg_le_neg_iff.2 h), neg_zero]

/-- It is never infinite above, so that what rounding it leaves adds nothing. -/
theorem lsig_split (z : EReal) : lsig z + (lsig z - lsig z) = lsig z := by
  have h : lsig z ≠ ⊤ := by
    unfold lsig
    obtain ⟨l, hl⟩ := tail_real z
    rw [hl]
    intro h
    have h0 : min z 0 - (l : EReal) ≤ ((0 - l : ℝ) : EReal) := by
      rw [EReal.coe_sub, EReal.coe_zero]
      exact EReal.sub_le_sub (min_le_right _ _) le_rfl
    rw [h] at h0
    exact EReal.coe_ne_top _ (top_le_iff.1 h0)
  revert h
  generalize lsig z = a
  intro h
  induction a with
  | bot => rfl
  | top => exact absurd rfl h
  | coe r => rw [← EReal.coe_sub, sub_self, EReal.coe_zero, add_zero]

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

theorem window_sum (f : ℕ → EReal) (t : ℕ) (ht : t < 2048) :
    ∑ w ∈ Finset.range 2048, (if 2047 ≤ t + w then f (t + w - 2047) else 0) = ∑ k ∈ Finset.range (t + 1), f k := by
  obtain ⟨d, hd⟩ : ∃ d, 2048 = d + (t + 1) := ⟨2047 - t, by omega⟩
  rw [hd, Finset.sum_range_add, Finset.sum_eq_zero (fun w hw => if_neg (by have := Finset.mem_range.1 hw; omega)), zero_add]
  refine Finset.sum_congr rfl fun k _ => ?_
  rw [if_pos (by omega)]
  exact congrArg f (by omega)

/-- A window of the whole length that ends at each entry sums the entries up to it. -/
theorem cumsum_at {B C : ℕ} (x : (⟨3, ![B, 2048, C]⟩ : Shape).Idx → EReal) (init : (⟨0, ![]⟩ : Shape).Idx → EReal)
    (h : (⟨3, ![B, 2048, C]⟩ : Shape).ReduceWindows (![1, 2048, 1] : Fin 3 → ℕ) ![1, 1, 1] ![0, 2047, 0] ![0, 0, 0] ⟨3, ![B, 2048, C]⟩)
    (hu : 0 < (⟨0, ![]⟩ : Shape).numel) (hi : init (Shape.Idx.first hu) = 0) (f : ℕ → EReal) (b : Fin B) (c : Fin C)
    (hf : ∀ k : Fin 2048, x (ix3 b k c) = f k.val) (t : Fin 2048) :
    Host.reduceWindow (fun a b : EReal => a + b) ![1, 2048, 1] ![1, 1, 1] ![0, 2047, 0] ![0, 0, 0] x init h hu (ix3 b t c)
      = ∑ k ∈ Finset.range (t.val + 1), f k := by
  have hn : (⟨3, (![1, 2048, 1] : Fin 3 → ℕ)⟩ : Shape).numel = 2048 := by decide
  have hs : ∀ n : Fin (⟨3, (![1, 2048, 1] : Fin 3 → ℕ)⟩ : Shape).numel,
      (⟨3, (![1, 2048, 1] : Fin 3 → ℕ)⟩ : Shape).rowMajor.symm n = ix3 (0 : Fin 1) (n.cast hn) (0 : Fin 1) := fun n =>
    ((⟨3, (![1, 2048, 1] : Fin 3 → ℕ)⟩ : Shape).rowMajor.symm_apply_eq).2 (Fin.ext (by
      rw [Shape.rowMajor_val_three]
      show n.val = (0 * 2048 + n.val) * 1 + 0
      omega))
  unfold Host.reduceWindow
  dsimp only
  rw [hi, foldl_sum, zero_add, ← Fin.sum_univ_def, ← window_sum f t.val t.isLt]
  have hw : ∑ w ∈ Finset.range 2048, (if 2047 ≤ t.val + w then f (t.val + w - 2047) else 0)
      = ∑ n : Fin (⟨3, (![1, 2048, 1] : Fin 3 → ℕ)⟩ : Shape).numel, (if 2047 ≤ t.val + n.val then f (t.val + n.val - 2047) else 0) := by
    rw [Fin.sum_univ_eq_sum_range (fun w => if 2047 ≤ t.val + w then f (t.val + w - 2047) else 0), hn]
  rw [hw]
  refine Finset.sum_congr rfl fun n _ => ?_
  have hlt : n.val < 2048 := (n.cast hn).isLt
  split
  · next hin =>
    have h0 := hin 1
    simp only [hs] at h0
    change 2047 ≤ t.val * 1 + n.val ∧ t.val * 1 + n.val - 2047 < 2048 at h0
    rw [if_pos (by omega), show t.val + n.val - 2047 = (⟨t.val + n.val - 2047, by omega⟩ : Fin 2048).val from rfl, ← hf]
    refine congrArg x (funext fun a => Fin.ext ?_)
    simp only [hs]
    match a with
    | ⟨0, _⟩ => show b.val * 1 + 0 - 0 = b.val; omega
    | ⟨1, _⟩ => show t.val * 1 + n.val - 2047 = t.val + n.val - 2047; omega
    | ⟨2, _⟩ => show c.val * 1 + 0 - 0 = c.val; omega
  · next hin =>
    rw [if_neg]
    intro hle
    refine hin fun a => ?_
    simp only [hs]
    match a with
    | ⟨0, _⟩ => show 0 ≤ b.val * 1 + 0 ∧ b.val * 1 + 0 - 0 < B; omega
    | ⟨1, _⟩ => show 2047 ≤ t.val * 1 + n.val ∧ t.val * 1 + n.val - 2047 < 2048; omega
    | ⟨2, _⟩ => show 0 ≤ c.val * 1 + 0 ∧ c.val * 1 + 0 - 0 < C; omega

/-- A sum over a chunk's rows up to one of them. -/
theorem masked_sum (g : ℕ → EReal) (r : Fin 512) :
    ∑ s : Fin 512, (if s.val ≤ r.val then g s.val else 0) = ∑ s ∈ Finset.range (r.val + 1), g s := by
  rw [Fin.sum_univ_eq_sum_range (fun s => if s ≤ r.val then g s else 0), ← Finset.sum_filter]
  refine Finset.sum_congr (Finset.ext fun n => ?_) fun _ _ => rfl
  rw [Finset.mem_range, Finset.mem_filter, Finset.mem_range]
  omega

/-- A head's length in the combined projection. -/
def head64 : EReal := Ideal.ofBits .f32 0x42800000#32

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- The norm with the mean taken by a multiplication. -/
theorem rms_mul (e : EReal) (x g : Fin 64 → EReal) (j : Fin 64) :
    x j * Ideal.rsqrt ((∑ d, x d * x d) * Ideal.ofBits .f32 0x3C800000#32 + e) * g j = rms head64 e x g j := by
  unfold rms head64
  rw [ofBits_64, ofBits_64th, Ideal.div_coe (by norm_num)]

/-- A normed row times a matrix: lane `j`. -/
def mix {n : ℕ} (x g : Fin 1024 → EReal) (w : Fin 1024 → Fin n → EReal) (j : Fin n) : EReal := ∑ k, rms len epsRow x g k * w k j

/-- The lanes of one head, picked out of a half of the lanes by a 0/1 matrix. -/
theorem head_sum (f : Fin 256 → EReal) (c : Fin 4) (d : Fin 256 → EReal) (hd : ∀ k, d k = if k.val / 64 = c.val then 1 else 0) :
    ∑ k, f k * d k = ∑ j : Fin 64, f ⟨c.val * 64 + j.val, by omega⟩ := by
  have e : ∀ k, f k * d k = if k.val / 64 = c.val then f k else 0 := fun k => by
    rw [hd]
    split
    · rw [mul_one]
    · rw [mul_zero]
  simp only [e]
  rw [← Finset.sum_filter]
  symm
  refine Finset.sum_bij (fun (j : Fin 64) _ => (⟨c.val * 64 + j.val, by omega⟩ : Fin 256)) (fun j _ => ?_) (fun i _ j _ h => ?_) (fun k hk => ?_) (fun _ _ => rfl)
  · rw [Finset.mem_filter]
    exact ⟨Finset.mem_univ _, by show (c.val * 64 + j.val) / 64 = c.val; omega⟩
  · have := congrArg Fin.val h
    exact Fin.ext (by change c.val * 64 + i.val = c.val * 64 + j.val at this; omega)
  · rw [Finset.mem_filter] at hk
    exact ⟨⟨k.val % 64, by omega⟩, Finset.mem_univ _, Fin.ext (by show c.val * 64 + k.val % 64 = k.val; omega)⟩

/-- A function on the positions of a sequence, as one on all naturals. -/
def ext (f : Fin 2048 → EReal) (k : ℕ) : EReal := if h : k < 2048 then f ⟨k, h⟩ else 0

end Cert.Norm
-- ==== Proof.Tiled.lean ====
/-
  The combined projection: the chunks' entries.
-/
module

public import proofs.«01_k».proof.Proof.Chunks
public import proofs.«01_k».proof.Proof.Running

@[expose] public section

set_option maxRecDepth 100000

noncomputable section

namespace Cert.Proj

open Cert.ProjectionIdeal Cert.ProjectionIdeal.Gen Idealize.ShloMosaic Idealize.ShloMosaic.Tactic Cert.Norm Cert.Fox

variable (x : S512x1024.Idx → EReal) (g : S1x1024.Idx → EReal) (w : S1024x1536.Idx → EReal) (wf : S1024x128.Idx → EReal) (bf : S1x128.Idx → EReal)
  (gq gk : S1x512.Idx → EReal) (bd : S256x256.Idx → EReal) (tri : S512x512.Idx → EReal)

theorem pay5_at (r : Fin 512) (k : Fin 1024) :
    k0_pay5 (F := Ideal) x g (ix2 r k) = rms len epsRow (fun k => x (ix2 r k)) (fun k => g (ix2 0 k)) k := by
  pointwise [k0_pay5]
  rfl

theorem pay6_at (r : Fin 512) (j : Fin 1536) :
    k0_pay6 (F := Ideal) x g w (ix2 r j) = mix (fun k => x (ix2 r k)) (fun k => g (ix2 0 k)) (fun k j => w (ix2 k j)) j := by
  pointwise [k0_pay6]
  simp only [pay5_at]
  rfl

/-- Lane `d` of head `h`. -/
def lane (h : Fin 8) (d : Fin 64) : Fin 512 := ⟨h.val * 64 + d.val, by omega⟩

/-- The sum over a head's lanes, taken in the half of the lanes that the head lies in. -/
theorem half_sum (hbd : ∀ i j : Fin 256, bd (ix2 i j) = if i.val / 64 = j.val / 64 then 1 else 0) (f : Fin 512 → EReal) (h : Fin 8) (d : Fin 64) :
    (if hl : (lane h d).val < 256 then ∑ k : Fin 256, f ⟨k.val, by omega⟩ * bd (ix2 k ⟨(lane h d).val, hl⟩)
      else ∑ k : Fin 256, f ⟨256 + k.val, by omega⟩ * bd (ix2 k ⟨(lane h d).val - 256, by omega⟩)) = ∑ k, f (lane h k) := by
  have hd : (lane h d).val = h.val * 64 + d.val := rfl
  split
  · next hl =>
    refine (head_sum (fun k : Fin 256 => f ⟨k.val, by omega⟩) ⟨h.val, by omega⟩ _ (fun k => ?_)).trans (Finset.sum_congr rfl fun k _ => rfl)
    rw [hbd]
    exact if_congr (by show k.val / 64 = (lane h d).val / 64 ↔ k.val / 64 = h.val; omega) rfl rfl
  · next hl =>
    refine (head_sum (fun k : Fin 256 => f ⟨256 + k.val, by omega⟩) ⟨h.val - 4, by omega⟩ _ (fun k => ?_)).trans
      (Finset.sum_congr rfl fun k _ => congrArg f (Fin.ext (by show 256 + ((h.val - 4) * 64 + k.val) = h.val * 64 + k.val; omega)))
    rw [hbd]
    exact if_congr (by show k.val / 64 = ((lane h d).val - 256) / 64 ↔ k.val / 64 = h.val - 4; omega) rfl rfl

theorem qscale_eq : (Named.named (F := Ideal) κ "qscale" 0x3E38AA3B#32 : Ideal .f32) = (((8 * Real.log 2)⁻¹ : ℝ) : EReal) :=
  IdealRules.named_const.ideal_named_scalar _ _ _ _ rfl
theorem log2e_eq : (Named.named (F := Ideal) κ "log2e" 0x3FB8AA3B#32 : Ideal .f32) = (((Real.log 2)⁻¹ : ℝ) : EReal) :=
  IdealRules.named_const.ideal_named_scalar _ _ _ _ rfl

/-- A lane of the three projections of a chunk's row. -/
def row (r : Fin 512) (j : Fin 1536) : EReal := mix (fun k => x (ix2 r k)) (fun k => g (ix2 0 k)) (fun k j => w (ix2 k j)) j

section heads
variable (hbd : ∀ i j : Fin 256, bd (ix2 i j) = if i.val / 64 = j.val / 64 then 1 else 0)
include hbd

theorem qT_at (r : Fin 512) (h : Fin 8) (d : Fin 64) :
    qT (F := Ideal) x g w gq bd (ix2 r (lane h d))
      = rms head64 epsHead (fun k => row x g w r ⟨h.val * 64 + k.val, by omega⟩) (fun k => gq (ix2 0 (lane h k))) d * (((8 * Real.log 2)⁻¹ : ℝ) : EReal) := by
  rw [← rms_mul, ← qscale_eq]
  unfold qT
  pointwise [k0_pay12, k0_pay8, k0_pay7]
  simp only [pay6_at]
  exact congrArg (fun S => row x g w r ⟨h.val * 64 + d.val, by omega⟩ * Ideal.rsqrt (S * Ideal.ofBits .f32 0x3C800000#32 + epsHead) * gq (ix2 0 (lane h d))
      * (Named.named (F := Ideal) κ "qscale" 0x3E38AA3B#32 : Ideal .f32))
    (half_sum bd hbd (fun l => row x g w r ⟨l.val, by omega⟩ * row x g w r ⟨l.val, by omega⟩) h d)

theorem kT_at (r : Fin 512) (h : Fin 8) (d : Fin 64) :
    kT (F := Ideal) x g w gk bd (ix2 r (lane h d))
      = rms head64 epsHead (fun k => row x g w r ⟨512 + (h.val * 64 + k.val), by omega⟩) (fun k => gk (ix2 0 (lane h k))) d := by
  rw [← rms_mul]
  unfold kT
  pointwise [k0_pay13, k0_pay9, k0_pay10, k0_pay11]
  simp only [pay6_at]
  exact congrArg (fun S => row x g w r ⟨512 + (h.val * 64 + d.val), by omega⟩ * Ideal.rsqrt (S * Ideal.ofBits .f32 0x3C800000#32 + epsHead) * gk (ix2 0 (lane h d)))
    (half_sum bd hbd (fun l => row x g w r ⟨512 + l.val, by omega⟩ * row x g w r ⟨512 + l.val, by omega⟩) h d)
end heads

theorem vT_at (r j : Fin 512) : vT (F := Ideal) x g w (ix2 r j) = row x g w r ⟨1024 + j.val, by omega⟩ := by
  unfold vT
  pointwise [k0_pay14]
  rw [pay6_at]
  rfl

/-- The log gate of a chunk's row. -/
def lgate (c : Fin 128) (r : Fin 512) : EReal := lsig (mix (fun k => x (ix2 r k)) (fun k => g (ix2 0 k)) (fun k j => wf (ix2 k j)) c + bf (ix2 0 c))

theorem pay15_at (r : Fin 512) (c : Fin 128) : k0_pay15 (F := Ideal) (k0_pay5 (F := Ideal) x g) wf bf (ix2 r c) = lgate x g wf bf c r := by
  pointwise [k0_pay15]
  simp only [pay5_at]
  rfl

section sums
variable (htri : ∀ i j : Fin 512, tri (ix2 i j) = if j.val ≤ i.val then 1 else 0)
include htri

theorem cT_at (p : S1x128.Idx → EReal) (r : Fin 512) (c : Fin 128) (f : ℕ → EReal) (hf : ∀ s : Fin 512, lgate x g wf bf c s = f s.val) :
    cT (F := Ideal) x g wf bf tri p (ix2 r c) = ∑ s ∈ Finset.range (r.val + 1), f s + p (ix2 0 c) := by
  pointwise [cT, k0_pay19, k0_pay17, k0_pay18, k0_pay16]
  simp only [pay15_at]
  refine congrArg (· + p (ix2 0 c)) ?_
  rw [← masked_sum, ← Finset.sum_add_distrib]
  refine Finset.sum_congr rfl fun s _ => ?_
  rw [htri, ← hf]
  split
  · rw [one_mul, one_mul]
    exact lsig_split _
  · rw [zero_mul, zero_mul, add_zero]

theorem nT_at (p : S1x128.Idx → EReal) (c : Fin 128) (f : ℕ → EReal) (hf : ∀ s : Fin 512, lgate x g wf bf c s = f s.val) :
    nT (F := Ideal) x g wf bf tri p (ix2 0 c) = ∑ s ∈ Finset.range 512, f s + p (ix2 0 c) := by
  refine Eq.trans ?_ (cT_at x g wf bf tri htri p 511 c f hf)
  unfold nT cT
  pointwise [k0_pay20]

theorem gT_at (p : S1x128.Idx → EReal) (h : Fin 8) (r : Fin 512) (f : ℕ → EReal) (hf : ∀ s : Fin 512, lgate x g wf bf ⟨h.val, by omega⟩ s = f s.val) :
    gT (F := Ideal) x g wf bf tri p (ix2 h r)
      = (∑ s ∈ Finset.range (r.val + 1), f s + p (ix2 0 ⟨h.val, by omega⟩)) * (((Real.log 2)⁻¹ : ℝ) : EReal) := by
  rw [← cT_at x g wf bf tri htri p r _ f hf, ← log2e_eq]
  unfold gT cT
  pointwise [k0_pay21]
end sums

theorem zeroT_at (c : Fin 128) : zeroT (F := Ideal) (ix2 0 c) = 0 := by
  unfold zeroT
  refine Eq.trans (b := k0_pay4 (F := Ideal) (ix2 0 c)) ?_ ?_
  · refine congrArg (k0_pay4 (F := Ideal)) (funext fun a => Fin.ext ?_)
    match a with
    | ⟨0, _⟩ => rfl
    | ⟨1, _⟩ => show 0 + 1 * c.val = c.val; omega
  · pointwise [k0_pay4]

end Cert.Proj
-- ==== Proof.Laid.lean ====
/-
  The combined projection: the output blocks of a grid point, entry by entry.
-/
module

public import proofs.«01_k».proof.Proof.Tiled
public import proofs.«01_k».proof.Proof.Dense

@[expose] public section

set_option maxRecDepth 100000

noncomputable section

namespace Cert.Proj

open Cert.ProjectionIdeal Cert.ProjectionIdeal.Gen Idealize.ShloMosaic Idealize.ShloMosaic.Tactic Cert.Norm

/-- Chunk and row, within the chunk, of a block's row. -/
def part (R : Fin 2048) : Fin 4 := ⟨R.val / 512, by omega⟩
def rest (R : Fin 2048) : Fin 512 := ⟨R.val % 512, by omega⟩

theorem part_rest (R : Fin 2048) : 512 * (part R).val + (rest R).val = R.val := by
  show 512 * (R.val / 512) + R.val % 512 = R.val
  omega

theorem rowsBlk_at (f : Fin 4 → S512x512.Idx → EReal) (R : Fin 2048) (l : Fin 512) :
    rowsBlk (F := Ideal) f (ix2 R l) = f (part R) (ix2 (rest R) l) := by
  have piece : ∀ (n : Fin 4) {off : Fin 2 → ℕ} {inb : ∀ a, off a + S512x512.size a ≤ S2048x512.size a} (_ : off 0 = 512 * n.val) (_ : off 1 = 0)
      (x : S512x512.Idx), f n x = (fun y : S2048x512.Idx => f (part (y 0)) (ix2 (rest (y 0)) (y 1))) ((Rect.unit (s := S2048x512) off S512x512.size inb).emb x) := by
    intro n off inb h0 h1 x
    have hx : (x 0).val < 512 := (x 0).isLt
    have e1 : part ((Rect.unit (s := S2048x512) off S512x512.size inb).emb x 0) = n := Fin.ext (by show (off 0 + 1 * (x 0).val) / 512 = n.val; omega)
    have e2 : ix2 (rest ((Rect.unit (s := S2048x512) off S512x512.size inb).emb x 0)) ((Rect.unit (s := S2048x512) off S512x512.size inb).emb x 1) = x :=
      (Cert.Feed.ext2 (by show (off 0 + 1 * (x 0).val) % 512 = (x 0).val; omega) (by show off 1 + 1 * (x 1).val = (x 1).val; omega)).trans (eq_ix2 x).symm
    dsimp only
    rw [e1]
    exact congrArg (f n) e2.symm
  unfold rowsBlk
  refine View.canon_apply_of_pieces (Val := Elt Ideal) (e := .bf16) (fun y : S2048x512.Idx => f (part (y 0)) (ix2 (rest (y 0)) (y 1))) _ ?_ (ix2 R l) ?_
  swap
  · refine View.cover_of_tiledL (Val := Elt Ideal) (s := S2048x512) (e := .bf16) _ ![512, 512] ?_ _
    sl_kernel_rfl
  intro p hp
  simp only [List.mem_cons, List.not_mem_nil, or_false] at hp
  rcases hp with rfl | rfl | rfl | rfl
  · exact piece 3 rfl rfl (inb := inb_S2048x512_S512x512_1536_0)
  · exact piece 2 rfl rfl (inb := inb_S2048x512_S512x512_1024_0)
  · exact piece 1 rfl rfl (inb := inb_S2048x512_S512x512_512_0)
  · exact piece 0 rfl rfl (inb := inb_S2048x512_S512x512_0_0)

theorem colsBlk_at (f : Fin 4 → S8x512.Idx → EReal) (h : Fin 8) (R : Fin 2048) :
    colsBlk (F := Ideal) f (ix2 h R) = f (part R) (ix2 h (rest R)) := by
  have piece : ∀ (n : Fin 4) {off : Fin 2 → ℕ} {inb : ∀ a, off a + S8x512.size a ≤ S8x2048.size a} (_ : off 0 = 0) (_ : off 1 = 512 * n.val)
      (x : S8x512.Idx), f n x = (fun y : S8x2048.Idx => f (part (y 1)) (ix2 (y 0) (rest (y 1)))) ((Rect.unit (s := S8x2048) off S8x512.size inb).emb x) := by
    intro n off inb h0 h1 x
    have hx : (x 1).val < 512 := (x 1).isLt
    have e1 : part ((Rect.unit (s := S8x2048) off S8x512.size inb).emb x 1) = n := Fin.ext (by show (off 1 + 1 * (x 1).val) / 512 = n.val; omega)
    have e2 : ix2 ((Rect.unit (s := S8x2048) off S8x512.size inb).emb x 0) (rest ((Rect.unit (s := S8x2048) off S8x512.size inb).emb x 1)) = x :=
      (Cert.Feed.ext2 (by show off 0 + 1 * (x 0).val = (x 0).val; omega) (by show (off 1 + 1 * (x 1).val) % 512 = (x 1).val; omega)).trans (eq_ix2 x).symm
    dsimp only
    rw [e1]
    exact congrArg (f n) e2.symm
  unfold colsBlk
  refine View.canon_apply_of_pieces (Val := Elt Ideal) (e := .f32) (fun y : S8x2048.Idx => f (part (y 1)) (ix2 (y 0) (rest (y 1)))) _ ?_ (ix2 h R) ?_
  swap
  · refine View.cover_of_tiledL (Val := Elt Ideal) (s := S8x2048) (e := .f32) _ ![8, 512] ?_ _
    sl_kernel_rfl
  intro p hp
  simp only [List.mem_cons, List.not_mem_nil, or_false] at hp
  rcases hp with rfl | rfl | rfl | rfl
  · exact piece 3 rfl rfl (inb := inb_S8x2048_S8x512_0_1536)
  · exact piece 2 rfl rfl (inb := inb_S8x2048_S8x512_0_1024)
  · exact piece 1 rfl rfl (inb := inb_S8x2048_S8x512_0_512)
  · exact piece 0 rfl rfl (inb := inb_S8x2048_S8x512_0_0)

variable (x0 : S2048x1024.Idx → EReal) (x1 : S1x1024.Idx → EReal) (x2 : S1024x1536.Idx → EReal) (x3 : S1024x128.Idx → EReal) (x4 : S1x128.Idx → EReal)
  (x5 x6 : S1x512.Idx → EReal) (x7 : S256x256.Idx → EReal) (x8 : S512x512.Idx → EReal)

theorem chunk_at (n : Fin 4) (r : Fin 512) (k : Fin 1024) :
    chunk (F := Ideal) x0 n (ix2 r k) = x0 (ix2 ⟨512 * n.val + r.val, by omega⟩ k) := by
  unfold chunk
  refine congrArg x0 (Cert.Feed.ext2 ?_ ?_)
  · show 512 * n.val + 1 * r.val = 512 * n.val + r.val; omega
  · show 0 + 1 * k.val = k.val; omega

/-- A lane of the projection of a block's row; the log gate of a block's row. -/
def brow (R : Fin 2048) (j : Fin 1536) : EReal := mix (fun k => x0 (ix2 R k)) (fun k => x1 (ix2 0 k)) (fun k j => x2 (ix2 k j)) j
def bgate (c : Fin 128) (R : Fin 2048) : EReal := lsig (mix (fun k => x0 (ix2 R k)) (fun k => x1 (ix2 0 k)) (fun k j => x3 (ix2 k j)) c + x4 (ix2 0 c))

theorem row_chunk (R : Fin 2048) (j : Fin 1536) : row (chunk (F := Ideal) x0 (part R)) x1 x2 (rest R) j = brow x0 x1 x2 R j := by
  unfold row brow
  simp only [chunk_at, part_rest]

theorem gate_chunk (n : Fin 4) (c : Fin 128) (r : Fin 512) :
    lgate (chunk (F := Ideal) x0 n) x1 x3 x4 c r = ext (bgate x0 x1 x3 x4 c) (512 * n.val + r.val) := by
  unfold ext
  rw [dif_pos (by omega)]
  unfold lgate bgate
  simp only [chunk_at]

section heads
variable (hbd : ∀ i j : Fin 256, x7 (ix2 i j) = if i.val / 64 = j.val / 64 then 1 else 0)
include hbd

theorem q_at (R : Fin 2048) (h : Fin 8) (d : Fin 64) :
    rowsBlk (F := Ideal) (fun n => qT (chunk x0 n) x1 x2 x5 x7) (ix2 R (lane h d))
      = rms head64 epsHead (fun k => brow x0 x1 x2 R ⟨h.val * 64 + k.val, by omega⟩) (fun k => x5 (ix2 0 (lane h k))) d * (((8 * Real.log 2)⁻¹ : ℝ) : EReal) := by
  rw [rowsBlk_at, qT_at _ _ _ _ _ hbd]
  simp only [row_chunk]

theorem k_at (R : Fin 2048) (h : Fin 8) (d : Fin 64) :
    rowsBlk (F := Ideal) (fun n => kT (chunk x0 n) x1 x2 x6 x7) (ix2 R (lane h d))
      = rms head64 epsHead (fun k => brow x0 x1 x2 R ⟨512 + (h.val * 64 + k.val), by omega⟩) (fun k => x6 (ix2 0 (lane h k))) d := by
  rw [rowsBlk_at, kT_at _ _ _ _ _ hbd]
  simp only [row_chunk]
end heads

theorem v_at (R : Fin 2048) (j : Fin 512) :
    rowsBlk (F := Ideal) (fun n => vT (chunk x0 n) x1 x2) (ix2 R j) = brow x0 x1 x2 R ⟨1024 + j.val, by omega⟩ := by
  rw [rowsBlk_at, vT_at, row_chunk]

section sums
variable (htri : ∀ i j : Fin 512, x8 (ix2 i j) = if j.val ≤ i.val then 1 else 0)
include htri

/-- Before a chunk, the gates of all earlier rows have been added up. -/
theorem preT_at (c : Fin 128) : ∀ n : ℕ, n ≤ 4 → preT (F := Ideal) x0 x1 x3 x4 x8 n (ix2 0 c) = ∑ k ∈ Finset.range (512 * n), ext (bgate x0 x1 x3 x4 c) k
  | 0, _ => by
    unfold preT
    rw [zeroT_at]
    rfl
  | n + 1, hn => by
    unfold preT
    rw [nT_at _ _ _ _ _ htri _ c (fun s => ext (bgate x0 x1 x3 x4 c) (512 * n + s)) (fun s => by
      rw [gate_chunk]
      exact congrArg (fun q => ext (bgate x0 x1 x3 x4 c) (512 * q + s.val)) (by show n % 4 = n; omega)), preT_at c n (by omega),
      show 512 * (n + 1) = 512 * n + 512 by omega, Finset.sum_range_add, add_comm]

theorem g_at (h : Fin 8) (R : Fin 2048) :
    colsBlk (F := Ideal) (fun n => gT (chunk x0 n) x1 x3 x4 x8 (preT x0 x1 x3 x4 x8 n)) (ix2 h R)
      = (∑ k ∈ Finset.range (R.val + 1), ext (bgate x0 x1 x3 x4 ⟨h.val, by omega⟩) k) * (((Real.log 2)⁻¹ : ℝ) : EReal) := by
  rw [colsBlk_at, gT_at _ _ _ _ _ htri _ h _ (fun s => ext (bgate x0 x1 x3 x4 ⟨h.val, by omega⟩) (512 * (part R).val + s)) (fun s => gate_chunk _ _ _ _ _ _ _),
    preT_at x0 x1 x3 x4 x8 htri _ _ (by omega), add_comm, ← Finset.sum_range_add, ← add_assoc, part_rest]
end sums

end Cert.Proj
-- ==== Proof.Fed.lean ====
/-
  The combined projection: what the grid points are given, in terms of the kernel's arguments.
-/
module

public import proofs.«01_k».proof.Proof.Laid
public import Idealize.ShloMosaic.Lib.WordCmp

@[expose] public section

set_option maxRecDepth 100000

noncomputable section

namespace Cert.Proj

open Cert.ProjectionIdeal Cert.ProjectionIdeal.Gen Cert.ProjectionIdeal.Value Idealize.ShloMosaic Idealize.ShloMosaic.TcCoe Idealize.ShloMosaic.Tactic
  Idealize.SL.Sem Cert.Norm Idealize.ShloMosaic.WordCmp

variable (m : (ℓ : Loc nD τ sig) → Buf (Elt Ideal) ℓ) (c : Dev nD)

/-- The arguments as launched. -/
abbrev a0 : S16x2048x1024.Idx → EReal := m (c, Proc.tc.devRef main_arg0)
abbrev a1 : S1024.Idx → EReal := m (c, Proc.tc.devRef main_arg1)
abbrev a2 : S1024x6664.Idx → EReal := m (c, Proc.tc.devRef main_arg2)
abbrev a3 : S8.Idx → EReal := m (c, Proc.tc.devRef main_arg3)
abbrev a4 : S64.Idx → EReal := m (c, Proc.tc.devRef main_arg4)
abbrev a5 : S64.Idx → EReal := m (c, Proc.tc.devRef main_arg5)

theorem rows_at (b : Fin 16) (s : Fin 2048) (k : Fin 1024) : V m c main_v5 (ix2 (⟨2048 * b.val + s.val, by omega⟩ : Fin 32768) k) = a0 m c (ix3 b s k) := by
  unfold V
  after_reads_at

theorem g1_at (k : Fin 1024) : V m c main_v6 (ix2 0 k) = a1 m c (ix1 k) := by
  unfold V
  after_reads_at

theorem w_at (k : Fin 1024) (j : Fin 1536) : V m c main_v1 (ix2 k j) = a2 m c (ix2 k ⟨j.val, by omega⟩) := by
  unfold V
  after_reads_at

theorem wf_at (k : Fin 1024) (h : Fin 8) : V m c main_v4 (ix2 k (⟨h.val, by omega⟩ : Fin 128)) = a2 m c (ix2 k ⟨1536 + h.val, by omega⟩) := by
  unfold V
  after_reads_at

theorem bf_at (h : Fin 8) : V m c main_v8 (ix2 0 (⟨h.val, by omega⟩ : Fin 128)) = a3 m c (ix1 h) := by
  unfold V
  after_reads_at

theorem lane_mod (h : Fin 8) (d : Fin 64) : (lane h d).val % 64 = d.val := by
  show (h.val * 64 + d.val) % 64 = d.val
  omega

theorem gq_at (h : Fin 8) (d : Fin 64) : V m c main_v12 (ix2 0 (lane h d)) = a4 m c (ix1 d) := by
  unfold V
  after_reads_at
  exact congrArg (a4 m c) (Cert.Feed.ext1 (lane_mod h d))

theorem gk_at (h : Fin 8) (d : Fin 64) : V m c main_v16 (ix2 0 (lane h d)) = a5 m c (ix1 d) := by
  unfold V
  after_reads_at
  exact congrArg (a5 m c) (Cert.Feed.ext1 (lane_mod h d))

theorem bit_at (p : Prop) [Decidable p] (φ : FTy) : (FloatOps.uitofp (F := Ideal) φ (BitVec.ofBool (decide p)) : EReal) = if p then (1 : EReal) else (0 : EReal) := by
  by_cases h : p
  · rw [if_pos h, decide_eq_true h]
    show (((1 : ℕ) : ℝ) : EReal) = 1
    norm_num
  · rw [if_neg h, decide_eq_false h]
    show (((0 : ℕ) : ℝ) : EReal) = 0
    norm_num

theorem tri_at (i j : Fin 512) : V m c main_v34 (ix2 i j) = if j.val ≤ i.val then (1 : EReal) else (0 : EReal) := by
  unfold V
  after_reads_at
  refine Eq.trans ?_ (bit_at (j.val ≤ i.val) .bf16)
  refine congrArg (FloatOps.uitofp (F := Ideal) .bf16) ?_
  rw [cmpi_sge_eq]
  refine congrArg BitVec.ofBool (decide_eq_decide.2 ?_)
  rw [toInt_eq_toNat_of_lt_half (by rw [BitVec.toNat_ofNat]; omega), toInt_eq_toNat_of_lt_half (by rw [BitVec.toNat_ofNat]; omega), BitVec.toNat_ofNat, BitVec.toNat_ofNat]
  omega

/-- A word divided by 64 and rounded down, as the host computes it. -/
def quot (v : BitVec 32) : BitVec 32 :=
  Scalar.select
    (IntOp.andi
      (IntOp.cmpi (w := 32) .ne (if v = 0 then 0 else if v.msb = true then -1 else 1) (if (64#32 : BitVec 32) = 0 then 0 else if (64#32 : BitVec 32).msb = true then -1 else 1))
      (IntOp.cmpi .ne (IntOp.remsi .host v 64#32) 0#32))
    (IntOp.subi (IntOp.divsi .host v 64#32) 1#32)
    (IntOp.divsi .host v 64#32)

theorem quot_at : ∀ i : Fin 256, quot (BitVec.ofNat 32 i.val) = BitVec.ofNat 32 (i.val / 64) := by decide +kernel

theorem bd_at (i j : Fin 256) : V m c main_v26 (ix2 i j) = if i.val / 64 = j.val / 64 then (1 : EReal) else (0 : EReal) := by
  unfold V
  after_reads_at
  refine Eq.trans ?_ (bit_at (i.val / 64 = j.val / 64) .bf16)
  refine congrArg (FloatOps.uitofp (F := Ideal) .bf16) ?_
  show IntOp.cmpi .eq (quot (BitVec.ofNat 32 i.val)) (quot (BitVec.ofNat 32 j.val)) = _
  rw [quot_at, quot_at, cmpi_eq_eq]
  refine congrArg BitVec.ofBool (decide_eq_decide.2 ⟨fun h => ?_, fun h => by rw [h]⟩)
  have h' := congrArg BitVec.toNat h
  rw [BitVec.toNat_ofNat, BitVec.toNat_ofNat] at h'
  omega

end Cert.Proj
-- ==== Proof.Split.lean ====
/-
  The combined projection: the reference's results, entry by entry.
-/
module

public import proofs.«01_k».proof.Proof.Running
public import proofs.«01_k».proof.Proof.Dense
public import proofs.«01_k».proof.Proof.Gen.ProjectionReferenceIdeal.Read

@[expose] public section

set_option maxRecDepth 100000

noncomputable section

namespace Cert.Split

open Cert.ProjectionReferenceIdeal Cert.ProjectionReferenceIdeal.Gen Cert.ProjectionReferenceIdeal.Read Idealize.ShloMosaic Idealize.ShloMosaic.Tactic
  Cert.Norm Cert.Fox

/-- The projection's lanes of head `h`: queries, keys; the values' lanes; the heads' forget logits. -/
def laneQ (h : Fin 8) (d : Fin 64) : Fin 6664 := ⟨h.val * 64 + d.val, by omega⟩
def laneK (h : Fin 8) (d : Fin 64) : Fin 6664 := ⟨512 + (h.val * 64 + d.val), by omega⟩
def laneV (j : Fin 512) : Fin 6664 := ⟨1024 + j.val, by omega⟩
def laneF (h : Fin 8) : Fin 6664 := ⟨1536 + h.val, by omega⟩

variable (x0 : FVec Ideal S16x2048x1024 .f32) (x1 : FVec Ideal S1024 .f32) (x2 : FVec Ideal S1024x6664 .f32) (x3 : FVec Ideal S8 .f32)
  (x4 x5 : FVec Ideal S64 .f32)

/-- A lane of the projection of a row. -/
def lin (b : Fin 16) (s : Fin 2048) (j : Fin 6664) : EReal := mix (fun k => x0 (ix3 b s k)) (fun k => x1 (ix1 k)) (fun k j => x2 (ix2 k j)) j

theorem v12_at (b : Fin 16) (s : Fin 2048) (k : Fin 1024) :
    val_main_v12 (F := Ideal) x0 x1 (ix3 b s k) = rms len epsRow (fun k => x0 (ix3 b s k)) (fun k => x1 (ix1 k)) k := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rfl

theorem v13_at (b : Fin 16) (s : Fin 2048) (j : Fin 6664) : val_main_v13 (F := Ideal) x0 x1 x2 (ix3 b s j) = lin x0 x1 x2 b s j := by
  pointwise [val_main_v13]
  simp only [v12_at]
  rfl

theorem v31_at (b : Fin 16) (s : Fin 2048) (h : Fin 8) (d : Fin 64) :
    val_main_v31 (F := Ideal) x0 x1 x2 x4 (ix4 b s h d)
      = rms head64 epsHead (fun k => lin x0 x1 x2 b s (laneQ h k)) (fun k => x4 (ix1 k)) d := by
  pointwise [val_main_v31, val_main_v30, val_main_v29, val_main_v28, val_main_v27, val_main_v26, val_main_v25, val_main_v24, val_main_cst_4,
    val_main_v23, val_main_v22, val_main_cst_3, val_main_v21, val_main_v20, val_main_cst_2, val_main_v19, val_main_v18, val_main_v14]
  simp only [v13_at]
  rfl

theorem v45_at (b : Fin 16) (s : Fin 2048) (h : Fin 8) (d : Fin 64) :
    val_main_v45 (F := Ideal) x0 x1 x2 x5 (ix4 b s h d)
      = rms head64 epsHead (fun k => lin x0 x1 x2 b s (laneK h k)) (fun k => x5 (ix1 k)) d := by
  pointwise [val_main_v45, val_main_v44, val_main_v43, val_main_v42, val_main_v41, val_main_v40, val_main_v39, val_main_v38, val_main_cst_7,
    val_main_v37, val_main_v36, val_main_cst_6, val_main_v35, val_main_v34, val_main_cst_5, val_main_v33, val_main_v32, val_main_v15]
  simp only [v13_at]
  rfl

theorem log_two : Ideal.log (Ideal.ofBits .f32 0x40000000#32) = (Real.log 2 : EReal) := by
  rw [ofBits_two, Ideal.log_coe, if_neg (by norm_num)]

theorem log_two_ne : Real.log 2 ≠ 0 := (Real.log_pos (by norm_num)).ne'

theorem v55_at (b : Fin 16) (s : Fin 2048) (h : Fin 8) (d : Fin 64) :
    val_main_v55 (F := Ideal) x0 x1 x2 x4 (ix4 b s h d)
      = rms head64 epsHead (fun k => lin x0 x1 x2 b s (laneQ h k)) (fun k => x4 (ix1 k)) d * (((8 * Real.log 2)⁻¹ : ℝ) : EReal) := by
  rw [← v31_at]
  pointwise [val_main_v55, val_main_v54, val_main_v53, val_main_v52, val_main_v51, val_main_cst_9, val_main_cst_8]
  rw [log_two, ofBits_eighth, Ideal.div_coe log_two_ne, mul_assoc, ← EReal.coe_mul]
  refine congrArg (fun r : ℝ => _ * (r : EReal)) ?_
  rw [mul_inv, one_div, one_div]

/-- Row `s` of sequence `b`, among all rows; lane `d` of head `h`, among the heads' lanes. -/
def rowOf (b : Fin 16) (s : Fin 2048) : Fin 32768 := ⟨2048 * b.val + s.val, by omega⟩
def colOf (h : Fin 8) (d : Fin 64) : Fin 512 := ⟨64 * h.val + d.val, by omega⟩

theorem v57_at (b : Fin 16) (s : Fin 2048) (h : Fin 8) (d : Fin 64) :
    val_main_v57 (F := Ideal) x0 x1 x2 x4 (ix2 (rowOf b s) (colOf h d))
      = rms head64 epsHead (fun k => lin x0 x1 x2 b s (laneQ h k)) (fun k => x4 (ix1 k)) d * (((8 * Real.log 2)⁻¹ : ℝ) : EReal) := by
  rw [← v55_at]
  have e : idx_main_v56 (ix2 (rowOf b s) (colOf h d)) = ix4 b s h d := funext fun a => Fin.ext (by
    match a with
    | ⟨0, _⟩ => show ((2048 * b.val + s.val) * 512 + (64 * h.val + d.val)) / 1048576 = b.val; omega
    | ⟨1, _⟩ => show ((2048 * b.val + s.val) * 512 + (64 * h.val + d.val)) / 512 % 2048 = s.val; omega
    | ⟨2, _⟩ => show ((2048 * b.val + s.val) * 512 + (64 * h.val + d.val)) / 64 % 8 = h.val; omega
    | ⟨3, _⟩ => show ((2048 * b.val + s.val) * 512 + (64 * h.val + d.val)) % 64 = d.val; omega)
  rw [val_main_v57_apply, val_main_v56_apply, e]
  rfl

theorem v59_at (b : Fin 16) (s : Fin 2048) (h : Fin 8) (d : Fin 64) :
    val_main_v59 (F := Ideal) x0 x1 x2 x5 (ix2 (rowOf b s) (colOf h d))
      = rms head64 epsHead (fun k => lin x0 x1 x2 b s (laneK h k)) (fun k => x5 (ix1 k)) d := by
  rw [← v45_at]
  have e : idx_main_v58 (ix2 (rowOf b s) (colOf h d)) = ix4 b s h d := funext fun a => Fin.ext (by
    match a with
    | ⟨0, _⟩ => show ((2048 * b.val + s.val) * 512 + (64 * h.val + d.val)) / 1048576 = b.val; omega
    | ⟨1, _⟩ => show ((2048 * b.val + s.val) * 512 + (64 * h.val + d.val)) / 512 % 2048 = s.val; omega
    | ⟨2, _⟩ => show ((2048 * b.val + s.val) * 512 + (64 * h.val + d.val)) / 64 % 8 = h.val; omega
    | ⟨3, _⟩ => show ((2048 * b.val + s.val) * 512 + (64 * h.val + d.val)) % 64 = d.val; omega)
  rw [val_main_v59_apply, val_main_v58_apply, e]
  rfl

theorem v61_at (b : Fin 16) (s : Fin 2048) (j : Fin 512) :
    val_main_v61 (F := Ideal) x0 x1 x2 (ix2 (rowOf b s) j) = lin x0 x1 x2 b s (laneV j) := by
  rw [← v13_at]
  have e : idx_main_v16 (idx_main_v60 (ix2 (rowOf b s) j)) = ix3 b s (laneV j) := funext fun a => Fin.ext (by
    match a with
    | ⟨0, _⟩ => show ((2048 * b.val + s.val) * 512 + j.val) / 1048576 = b.val; omega
    | ⟨1, _⟩ => show ((2048 * b.val + s.val) * 512 + j.val) / 512 % 2048 = s.val; omega
    | ⟨2, _⟩ => show 1024 + ((2048 * b.val + s.val) * 512 + j.val) % 512 = 1024 + j.val; omega)
  rw [val_main_v61_apply, val_main_v60_apply, val_main_v16_apply, e]
  rfl

/-- The log gate of a position and a head. -/
def gate (b : Fin 16) (h : Fin 8) (s : Fin 2048) : EReal := lsig (lin x0 x1 x2 b s (laneF h) + x3 (ix1 h))

theorem v49_at (b : Fin 16) (s : Fin 2048) (h : Fin 8) : val_main_v49 (F := Ideal) x0 x1 x2 x3 (ix3 b s h) = gate x0 x1 x2 x3 b h s := by
  unfold gate
  rw [← lsig_neg]
  pointwise [val_main_v49, val_main_call0_v1, val_main_call0_call0_v4, val_main_call0_call0_v6, val_main_call0_call0_v11, val_main_call0_call0_v1,
    val_main_call0_call0_v10, val_main_call0_call0_v9, val_main_call0_call0_v8, val_main_call0_call0_v7, val_main_call0_call0_v5,
    val_main_call0_call0_v3, val_main_call0_call0_v2, val_main_call0_call0_v0, val_main_call0_call0_cst, val_main_call0_v0, val_main_v48,
    val_main_v47, val_main_v46, val_main_v17]
  simp only [v13_at, ofBits_zero, sub_zero]
  rw [if_neg (not_not.2 rfl)]
  rfl

theorem v50_at (b : Fin 16) (t : Fin 2048) (h : Fin 8) :
    val_main_v50 (F := Ideal) x0 x1 x2 x3 (ix3 b t h) = ∑ k ∈ Finset.range (t.val + 1), ext (gate x0 x1 x2 x3 b h) k := by
  unfold val_main_v50 Host.reduceWindowAdd
  rw [Ideal.hostReduceWindowAdd_def]
  unfold Ideal.hostReduceWindowAdd
  refine cumsum_at _ _ _ _ ?_ _ b h (fun k => ?_) t
  · rw [val_main_call1_call0_v0_apply, val_main_call1_call0_cst_apply]; exact ofBits_zero
  · rw [v49_at]
    unfold ext
    rw [dif_pos k.isLt]

theorem v65_at (b : Fin 16) (t : Fin 2048) (h : Fin 8) :
    val_main_v65 (F := Ideal) x0 x1 x2 x3 (ix2 h (rowOf b t))
      = (∑ k ∈ Finset.range (t.val + 1), ext (gate x0 x1 x2 x3 b h) k) * (((Real.log 2)⁻¹ : ℝ) : EReal) := by
  have e : idx_main_v64 (idx_main_v65 (ix2 h (rowOf b t))) = ix3 b t h := funext fun a => Fin.ext (by
    match a with
    | ⟨0, _⟩ => show ((2048 * b.val + t.val) * 8 + h.val) / 16384 = b.val; omega
    | ⟨1, _⟩ => show ((2048 * b.val + t.val) * 8 + h.val) / 8 % 2048 = t.val; omega
    | ⟨2, _⟩ => show ((2048 * b.val + t.val) * 8 + h.val) % 8 = h.val; omega)
  rw [val_main_v65_apply, val_main_v64_apply, e, ← v50_at]
  pointwise [val_main_v63, val_main_v62, val_main_v51, val_main_cst_8]
  rw [log_two, Ideal.div_coe log_two_ne, one_div]

end Cert.Split
-- ==== Proof.Project.lean ====
/-
  The combined projection: the kernel's arrays are the reference's results.
-/
module

public import proofs.«01_k».proof.Defs
public import proofs.«01_k».proof.Proof.Fed
public import proofs.«01_k».proof.Proof.Split
public import proofs.«01_k».proof.Proof.Gen.ProjectionReferenceIdeal.Run
public import Idealize.ShloMosaic.Lib.Claim

@[expose] public section

set_option maxRecDepth 100000

noncomputable section

namespace Cert.Proj

open Cert.ProjectionIdeal Cert.ProjectionIdeal.Gen Cert.ProjectionIdeal.Value Idealize.ShloMosaic Idealize.ShloMosaic.TcCoe Idealize.ShloMosaic.Tactic
  Idealize.SL.Sem Cert.Norm Cert.Split

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![0, t.val] := (by decide +kernel : ∀ t : Fin grid0.N, win0_12.index t = ![0, t.val])

theorem N_eq : cfg0.N = 16 := by decide

/-- The sequence that a grid point works on. -/
def bat (t : Fin cfg0.N) : Fin 16 := ⟨t.val, N_eq ▸ t.isLt⟩

theorem row_lt (t : Fin cfg0.N) (R : Fin 2048) : 2048 * t.val + R.val < 32768 := by have := t.isLt; have := N_eq; omega

theorem row_eq (t : Fin cfg0.N) (R : Fin 2048) : rowOf (bat t) R = ⟨2048 * t.val + R.val, row_lt t R⟩ := rfl

theorem blk0_at (t : Fin cfg0.N) (R : Fin 2048) (k : Fin 1024) : iblk m c 0 t (ix2 R k) = a0 m c (ix3 (bat t) R k) := by
  rw [← rows_at]
  show _ = V m c main_v5 (ix2 (⟨2048 * t.val + R.val, row_lt t R⟩ : Fin 32768) k)
  blk_simp [iblk]
  refine congrArg _ ?_
  blk_ext [idx0 t]

theorem blk1_at (t : Fin cfg0.N) (k : Fin 1024) : iblk m c 1 t (ix2 0 k) = a1 m c (ix1 k) := by
  rw [← g1_at]
  blk_simp [iblk]
  refine congrArg _ ?_
  blk_ext [idx1 t]

theorem blk2_at (t : Fin cfg0.N) (k : Fin 1024) (j : Fin 1536) : iblk m c 2 t (ix2 k j) = a2 m c (ix2 k ⟨j.val, by omega⟩) := by
  rw [← w_at]
  blk_simp [iblk]
  refine congrArg _ ?_
  blk_ext [idx2 t]

theorem blk3_at (t : Fin cfg0.N) (k : Fin 1024) (h : Fin 8) :
    iblk m c 3 t (ix2 k (⟨h.val, by omega⟩ : Fin 128)) = a2 m c (ix2 k ⟨1536 + h.val, by omega⟩) := by
  rw [← wf_at]
  blk_simp [iblk]
  refine congrArg _ ?_
  blk_ext [idx3 t]

theorem blk4_at (t : Fin cfg0.N) (h : Fin 8) : iblk m c 4 t (ix2 0 (⟨h.val, by omega⟩ : Fin 128)) = a3 m c (ix1 h) := by
  rw [← bf_at]
  blk_simp [iblk]
  refine congrArg _ ?_
  blk_ext [idx4 t]

theorem blk5_at (t : Fin cfg0.N) (h : Fin 8) (d : Fin 64) : iblk m c 5 t (ix2 0 (lane h d)) = a4 m c (ix1 d) := by
  rw [← gq_at m c h d]
  blk_simp [iblk]
  refine congrArg _ ?_
  blk_ext [idx5 t]

theorem blk6_at (t : Fin cfg0.N) (h : Fin 8) (d : Fin 64) : iblk m c 6 t (ix2 0 (lane h d)) = a5 m c (ix1 d) := by
  rw [← gk_at m c h d]
  blk_simp [iblk]
  refine congrArg _ ?_
  blk_ext [idx6 t]

theorem blk7_at (t : Fin cfg0.N) (i j : Fin 256) : iblk m c 7 t (ix2 i j) = if i.val / 64 = j.val / 64 then (1 : EReal) else (0 : EReal) := by
  refine Eq.trans ?_ (bd_at m c i j)
  blk_simp [iblk]
  refine congrArg _ ?_
  blk_ext [idx7 t]

theorem blk8_at (t : Fin cfg0.N) (i j : Fin 512) : iblk m c 8 t (ix2 i j) = if j.val ≤ i.val then (1 : EReal) else (0 : EReal) := by
  refine Eq.trans ?_ (tri_at m c i j)
  blk_simp [iblk]
  refine congrArg _ ?_
  blk_ext [idx8 t]

theorem brow_eq (t : Fin cfg0.N) (R : Fin 2048) (j : Fin 1536) :
    brow (iblk m c 0 t) (iblk m c 1 t) (iblk m c 2 t) R j = lin (a0 m c) (a1 m c) (a2 m c) (bat t) R ⟨j.val, by omega⟩ := by
  unfold brow lin mix
  simp only [blk0_at, blk1_at, blk2_at]

theorem bgate_eq (t : Fin cfg0.N) (h : Fin 8) (R : Fin 2048) :
    bgate (iblk m c 0 t) (iblk m c 1 t) (iblk m c 3 t) (iblk m c 4 t) ⟨h.val, by omega⟩ R = gate (a0 m c) (a1 m c) (a2 m c) (a3 m c) (bat t) h R := by
  unfold bgate gate lin mix
  simp only [blk0_at, blk1_at, blk3_at, blk4_at]
  rfl

/-- Head and lane of one of the 512 lanes. -/
def hd (l : Fin 512) : Fin 8 := ⟨l.val / 64, by omega⟩
def ln (l : Fin 512) : Fin 64 := ⟨l.val % 64, by omega⟩

theorem lane_eq (l : Fin 512) : lane (hd l) (ln l) = l := Fin.ext (by show l.val / 64 * 64 + l.val % 64 = l.val; omega)
theorem col_eq (l : Fin 512) : colOf (hd l) (ln l) = l := Fin.ext (by show 64 * (l.val / 64) + l.val % 64 = l.val; omega)

theorem queries_array : (dats m 0 c).arrAt 9 cfg0.N
    = Cert.ProjectionReferenceIdeal.Read.val_main_v57 (F := Ideal) (a0 m c) (a1 m c) (a2 m c) (a4 m c) := by
  refine (dats m 0 c).arrAt_eq_of_covers 9 _ (by decide +kernel) fun t hf y => ?_
  blk_simp
  obtain ⟨R, l, rfl⟩ : ∃ (R : Fin 2048) (l : Fin 512), y = ix2 R l := ⟨y 0, y 1, eq_ix2 y⟩
  rw [after0_9]
  unfold outsAt0
  dsimp only
  rw [out9_eq]
  have e : (win0_9.blk t).view.emb (ix2 R l) = ix2 (rowOf (bat t) R) (colOf (hd l) (ln l)) := by
    rw [row_eq, col_eq]
    blk_ext [idx9 t]
  rw [e, v57_at]
  refine Eq.trans (congrArg (fun l' => rowsBlk (F := Ideal) (fun n => qT (chunk (iblk m c 0 t) n) (iblk m c 1 t) (iblk m c 2 t) (iblk m c 5 t) (iblk m c 7 t)) (ix2 R l')) (lane_eq l).symm) ?_
  rw [q_at _ _ _ _ _ (blk7_at m c t)]
  simp only [brow_eq, blk5_at]
  rfl

theorem keys_array : (dats m 0 c).arrAt 10 cfg0.N
    = Cert.ProjectionReferenceIdeal.Read.val_main_v59 (F := Ideal) (a0 m c) (a1 m c) (a2 m c) (a5 m c) := by
  refine (dats m 0 c).arrAt_eq_of_covers 10 _ (by decide +kernel) fun t hf y => ?_
  blk_simp
  obtain ⟨R, l, rfl⟩ : ∃ (R : Fin 2048) (l : Fin 512), y = ix2 R l := ⟨y 0, y 1, eq_ix2 y⟩
  rw [after0_10]
  unfold outsAt0
  dsimp only
  rw [out10_eq]
  have e : (win0_10.blk t).view.emb (ix2 R l) = ix2 (rowOf (bat t) R) (colOf (hd l) (ln l)) := by
    rw [row_eq, col_eq]
    blk_ext [idx10 t]
  rw [e, v59_at]
  refine Eq.trans (congrArg (fun l' => rowsBlk (F := Ideal) (fun n => kT (chunk (iblk m c 0 t) n) (iblk m c 1 t) (iblk m c 2 t) (iblk m c 6 t) (iblk m c 7 t)) (ix2 R l')) (lane_eq l).symm) ?_
  rw [k_at _ _ _ _ _ (blk7_at m c t)]
  simp only [brow_eq, blk6_at]
  rfl

theorem values_array : (dats m 0 c).arrAt 11 cfg0.N
    = Cert.ProjectionReferenceIdeal.Read.val_main_v61 (F := Ideal) (a0 m c) (a1 m c) (a2 m c) := by
  refine (dats m 0 c).arrAt_eq_of_covers 11 _ (by decide +kernel) fun t hf y => ?_
  blk_simp
  obtain ⟨R, l, rfl⟩ : ∃ (R : Fin 2048) (l : Fin 512), y = ix2 R l := ⟨y 0, y 1, eq_ix2 y⟩
  rw [after0_11]
  unfold outsAt0
  dsimp only
  rw [out11_eq]
  have e : (win0_11.blk t).view.emb (ix2 R l) = ix2 (rowOf (bat t) R) l := by
    rw [row_eq]
    blk_ext [idx11 t]
  rw [e, v61_at, v_at, brow_eq]
  rfl

theorem gates_array : (dats m 0 c).arrAt 12 cfg0.N
    = Cert.ProjectionReferenceIdeal.Read.val_main_v65 (F := Ideal) (a0 m c) (a1 m c) (a2 m c) (a3 m c) := by
  refine (dats m 0 c).arrAt_eq_of_covers 12 _ (by decide +kernel) fun t hf y => ?_
  blk_simp
  obtain ⟨h, R, rfl⟩ : ∃ (h : Fin 8) (R : Fin 2048), y = ix2 h R := ⟨y 0, y 1, eq_ix2 y⟩
  rw [after0_12]
  unfold outsAt0
  dsimp only
  rw [out12_eq]
  have e : (win0_12.blk t).view.emb (ix2 h R) = ix2 h (rowOf (bat t) R) := by
    rw [row_eq]
    blk_ext [idx12 t]
  rw [e, v65_at, g_at _ _ _ _ _ (blk8_at m c t)]
  have eg : bgate (iblk m c 0 t) (iblk m c 1 t) (iblk m c 3 t) (iblk m c 4 t) ⟨h.val, by omega⟩ = gate (a0 m c) (a1 m c) (a2 m c) (a3 m c) (bat t) h :=
    funext fun R => bgate_eq m c t h R
  rw [eg]

theorem algebraic_projection : Cert.algebraic_ProjectionIdeal_ProjectionReferenceIdeal (hProjectionIdeal := Cert.ProjectionIdeal.Gen.facts)
    (hProjectionReferenceIdeal := Cert.ProjectionReferenceIdeal.Gen.facts) := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, Cert.ProjectionIdeal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.ProjectionReferenceIdeal.Value.run m' g')
  · refine Eq.trans ?_ (queries_array m c).symm
    rw [Cert.ProjectionReferenceIdeal.Read.val_main_v57_eq, (hagree c).1, (hagree c).2.1, (hagree c).2.2.1, (hagree c).2.2.2.2.1]
  · refine Eq.trans ?_ (keys_array m c).symm
    rw [Cert.ProjectionReferenceIdeal.Read.val_main_v59_eq, (hagree c).1, (hagree c).2.1, (hagree c).2.2.1, (hagree c).2.2.2.2.2]
  · refine Eq.trans ?_ (values_array m c).symm
    rw [Cert.ProjectionReferenceIdeal.Read.val_main_v61_eq, (hagree c).1, (hagree c).2.1, (hagree c).2.2.1]
  · refine Eq.trans ?_ (gates_array m c).symm
    rw [Cert.ProjectionReferenceIdeal.Read.val_main_v65_eq, (hagree c).1, (hagree c).2.1, (hagree c).2.2.1, (hagree c).2.2.2.1]

end Cert.Proj
-- ==== Proof.Block.lean ====
module

public import proofs.«01_k».proof.Proof.Gen.KernelIdeal.Value
public import Idealize.ShloMosaic.Lib.Pointwise
public import Idealize.ShloMosaic.Lib.Pipeline.Value

/-! What one grid point of the attention leaves in its output block, as a composition of tile functions:
the score tile of a block of queries against a block of keys, and the step of the running softmax that
takes one such tile in. -/

@[expose] public section

set_option maxRecDepth 1000000

noncomputable section

namespace Cert.KernelIdeal.Fox

open Cert.KernelIdeal Cert.KernelIdeal.Gen Idealize.ShloMosaic Idealize.ShloMosaic.TcCoe Idealize.SL.Sem
  Idealize.ShloMosaic.Tactic

variable {F : FTy → Type} [FloatOps F] [Named F]

/-- The lanes of the pair's first (0) or second (1) head. -/
def lanes : Fin 2 → IVec S1x128 1 := ![k0_pay3, k0_pay4]

/-- The lanes of a head, spread over the rows of a block. -/
def lanesB (h : Fin 2) : IVec S512x128 1 :=
  broadcastTo S512x128 (shapeCast S1x128 (lanes h) shapeCasts_S1x128_S1x128) broadcasts_S1x128_S512x128

/-- The score tile: the head's queries against the keys, less the keys' cumulated gates. -/
def scoreT (h : Fin 2) (q k : Vec F S512x128 .bf16) (g : Vec F S1x512 .f32) : FVec F S512x512 .f32 :=
  subf (matmul dot_S512x128_S512x128_S512x512_1_1_0_0_n_n none
      (select (lanesB h) (shapeCast S512x128 q shapeCasts_S512x128_S512x128)
        (broadcast S512x128 (Scalar.ofBits .bf16 0x0000#16 : F .bf16)))
      (shapeCast S512x128 k shapeCasts_S512x128_S512x128) (constant S512x512 .f32 0x00000000#32))
    (broadcastTo S512x512 (shapeCast S1x512 g shapeCasts_S1x512_S1x512) broadcasts_S1x512_S512x512)

/-- The score tile as it lies in the scratch, and read back. -/
def heldT (h : Fin 2) (q k : Vec F S512x128 .bf16) (g : Vec F S1x512 .f32) : FVec F S512x512 .f32 :=
  shapeCast S512x512 (shapeCast S1x1x512x512 (scoreT h q k g) shapeCasts_S512x512_S1x1x512x512)
    shapeCasts_S1x1x512x512_S512x512

/-- The head's values; every lane of the other head holds a one. -/
def valT (h : Fin 2) (v : Vec F S512x128 .bf16) : FVec F S512x128 .bf16 :=
  select (lanesB h) (shapeCast S512x128 v shapeCasts_S512x128_S512x128)
    (broadcast S512x128 (Scalar.ofBits .bf16 0x3F80#16 : F .bf16))

/-- The mask of a tile on the diagonal. -/
def maskT (s : FVec F S512x512 .f32) : FVec F S512x512 .f32 :=
  select k0_pay2 s (broadcast S512x512 (Named.named κ "mask" 0xF149F2CA#32 : F .f32))

/-- The running maximum of a row with the tile taken in. -/
def maxT (m : FVec F S512x1 .f32) (s : FVec F S512x512 .f32) : FVec F S512x1 .f32 :=
  maximumf m (shapeCast S512x1
    (multiReduction .maximumf [1] S512 s 0xFF800000#32 reduces_S512x512_S512 (.inl rfl) rfl) shapeCasts_S512_S512x1)

/-- The running sums of a row with the tile taken in. -/
def accT (m m' : FVec F S512x1 .f32) (acc : FVec F S512x128 .f32) (s : FVec F S512x512 .f32)
    (v : FVec F S512x128 .bf16) : FVec F S512x128 .f32 :=
  addf (mulf (broadcastTo S512x128 (exp2 (subf m m')) broadcasts_S512x1_S512x128) acc)
    (matmul dot_S512x512_S512x128_S512x128_1_0_0_1_n_n none
      (truncf .bf16 (exp2 (subf s (broadcastTo S512x512 m' broadcasts_S512x1_S512x512))) bitsLt_bf16_f32) v
      (constant S512x128 .f32 0x00000000#32))

/-- One step of the running softmax. -/
def stepT (c : FVec F S512x1 .f32 × FVec F S512x128 .f32) (s : FVec F S512x512 .f32) (v : FVec F S512x128 .bf16) :
    FVec F S512x1 .f32 × FVec F S512x128 .f32 :=
  (maxT c.1 s, accT c.1 (maxT c.1 s) c.2 s v)

/-- Where a row begins. -/
def initT : FVec F S512x1 .f32 × FVec F S512x128 .f32 :=
  (broadcast S512x1 (Named.named κ "mask" 0xF149F2CA#32 : F .f32), broadcast S512x128 (Scalar.ofBits .f32 0x00000000#32 : F .f32))

/-- The two heads' quotients, each on its own lanes. -/
def outT (a0 a1 : FVec F S512x128 .f32) : FVec F S512x128 .bf16 :=
  truncf .bf16 (select
    (broadcastTo S512x128 (shapeCast S1x128
      (cmpi .slt (iota .tc S1x128 32 [1] iota_S1x128_d1_w32) (broadcast S1x128 64#32)) shapeCasts_S1x128_S1x128)
      broadcasts_S1x128_S512x128)
    (divf a0 (broadcastTo S512x128 (extractStridedSlice S512x1 ![0, 64] a0 slices_S512x128_o0_64_S512x1) broadcasts_S512x1_S512x128))
    (divf a1 (broadcastTo S512x128 (extractStridedSlice S512x1 ![0, 0] a1 slices_S512x128_o0_0_S512x1) broadcasts_S512x1_S512x128)))
    bitsLt_bf16_f32

/-- Block `n` of 512 rows of a staged window. -/
def rows (x : Vec F S2048x128 .bf16) (n : Fin 4) : Vec F S512x128 .bf16 :=
  View.ld x (Rect.unit ![512 * n.val, 0] S512x128.size (by
    intro a; fin_cases a
    · show 512 * n.val + 512 ≤ 2048; omega
    · show 0 + 128 ≤ 128; omega))

/-- The row of the gates that a head of the grid point's pair reads. -/
def gateRow (i : grid0.Coords) (h : Fin 2) : ℕ :=
  BitVec.toNat (Scalar.indexCast (Scalar.addi (Scalar.muli (BitVec.ofNat 32 ↑(i 1)) 2#32) (BitVec.ofNat 32 h.val)))

theorem gateRow_eq (i : grid0.Coords) (h : Fin 2) : gateRow i h = 2 * (i 1).val + h.val := by
  have H : ∀ (a : Fin 4) (h : Fin 2), BitVec.toNat (Scalar.indexCast (Scalar.addi (Scalar.muli (BitVec.ofNat 32 a.val) 2#32)
      (BitVec.ofNat 32 h.val))) = 2 * a.val + h.val := by decide
  exact H (i 1) h

/-- Block `n` of a head's cumulated gates. -/
def gates (x : Vec F S8x2048 .f32) (i : grid0.Coords) (h : Fin 2) (n : Fin 4) : Vec F S1x512 .f32 :=
  View.ld x (Rect.unit ![gateRow i h, 512 * n.val] S1x512.size (by
    have hi : (i 1).val < 4 := (i 1).isLt
    intro a; fin_cases a
    · show gateRow i h + 1 ≤ 8; rw [gateRow_eq]; omega
    · show 512 * n.val + 512 ≤ 2048; omega))

section
variable (i : grid0.Coords) (x0 x1 x2 : Vec F S2048x128 .bf16) (x3 : Vec F S8x2048 .f32)

/-- The tile of query block `a` against key block `b`. -/
def tile (h : Fin 2) (a b : Fin 4) : FVec F S512x512 .f32 :=
  heldT h (rows x0 a) (rows x1 b) (gates x3 i h b)

/-- The sums a head's query block ends with: the tiles left of the diagonal, then the masked one on it. -/
def accAt (h : Fin 2) : Fin 4 → FVec F S512x128 .f32 := ![
  (stepT initT (maskT (tile i x0 x1 x3 h 0 0)) (valT h (rows x2 0))).2,
  (stepT (stepT initT (tile i x0 x1 x3 h 1 0) (valT h (rows x2 0)))
    (maskT (tile i x0 x1 x3 h 1 1)) (valT h (rows x2 1))).2,
  (stepT (stepT (stepT initT (tile i x0 x1 x3 h 2 0) (valT h (rows x2 0)))
    (tile i x0 x1 x3 h 2 1) (valT h (rows x2 1)))
    (maskT (tile i x0 x1 x3 h 2 2)) (valT h (rows x2 2))).2,
  (stepT (stepT (stepT (stepT initT (tile i x0 x1 x3 h 3 0) (valT h (rows x2 0)))
    (tile i x0 x1 x3 h 3 1) (valT h (rows x2 1)))
    (tile i x0 x1 x3 h 3 2) (valT h (rows x2 2)))
    (maskT (tile i x0 x1 x3 h 3 3)) (valT h (rows x2 3))).2]

/-- The 512 rows stored for query block `a`. -/
def outAt (a : Fin 4) : FVec F S512x128 .bf16 := outT (accAt i x0 x1 x2 x3 0 a) (accAt i x0 x1 x2 x3 1 a)

/-- The output block: the four stores. -/
def outBlk : Vec F S2048x128 .bf16 := View.canon [
  (⟨Rect.unit ![1536, 0] S512x128.size inb_S2048x128_S512x128_1536_0, outAt i x0 x1 x2 x3 3⟩ : View.Piece (Elt F) S2048x128 .bf16),
  ⟨Rect.unit ![1024, 0] S512x128.size inb_S2048x128_S512x128_1024_0, outAt i x0 x1 x2 x3 2⟩,
  ⟨Rect.unit ![512, 0] S512x128.size inb_S2048x128_S512x128_512_0, outAt i x0 x1 x2 x3 1⟩,
  ⟨Rect.unit ![0, 0] S512x128.size inb_S2048x128_S512x128_0_0, outAt i x0 x1 x2 x3 0⟩]
end

/-- A load of a scratch tile reads past a store of another tile. -/
theorem readCov_other (v : View sig .tc .vmem S2x2x512x512 .f32) {o o' : Fin 4 → ℕ} (h) (h')
    (w) (L : List (View.Piece (Elt F) S2x2x512x512 .f32)) (ne : o 0 ≠ o' 0 ∨ o 1 ≠ o' 1) :
    v.readCov ((⟨Rect.unit o ![1, 1, 512, 512] h, w⟩ : View.Piece (Elt F) S2x2x512x512 .f32) :: L)
        (Rect.unit (s := S2x2x512x512) o' ![1, 1, 512, 512] h').toLoadRect
      = v.readCov L (Rect.unit (s := S2x2x512x512) o' ![1, 1, 512, 512] h').toLoadRect := by
  refine View.readCov_cons_of_disjoint _ _ _ _ ?_
  show Disjoint (Rect.unit (s := S2x2x512x512) o ![1, 1, 512, 512] h).set (Rect.unit (s := S2x2x512x512) o' ![1, 1, 512, 512] h').set
  rcases ne with ne | ne
  · exact Rect.unit_disjoint (s := S2x2x512x512) 0 (by
      rcases Nat.lt_or_gt_of_ne ne with h | h
      · left; show o 0 + 1 ≤ o' 0; omega
      · right; show o' 0 + 1 ≤ o 0; omega)
  · exact Rect.unit_disjoint (s := S2x2x512x512) 1 (by
      rcases Nat.lt_or_gt_of_ne ne with h | h
      · left; show o 1 + 1 ≤ o' 1; omega
      · right; show o' 1 + 1 ≤ o 1; omega)

set_option maxHeartbeats 2000000 in
theorem out_eq (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x2048 .f32) (harg5 : arg5.IsWhole) (arg6 : Memref sig .tc .vmem S2048x128 .bf16) (harg6 : arg6.IsWhole) (arg7 : Memref sig .tc .vmem S2x2x512x512 .f32) (harg7 : arg7.IsWhole)
    (x0 : Vec F S2048x128 .bf16) (x1 : Vec F S2048x128 .bf16) (x2 : Vec F S2048x128 .bf16) (x3 : Vec F S8x2048 .f32) :
    out0_A_4 c i arg2 harg2 arg3 harg3 arg4 harg4 arg5 harg5 arg6 harg6 arg7 harg7 x0 x1 x2 x3 = outBlk i x0 x1 x2 x3 := by
  unfold out0_A_4
  rw [View.read_writes_eq_canon _ _ _ (cover0_A_4 c _ _ _ _ _ _ _ _ _ _ _ _ _ _ _ _ _)]
  unfold kernelRun0_A
  dsimp only
  sl_unfold_words
  simp (disch := decide) only [View.readCov_cons_toLoadRect, readCov_other, View.readAt_eq_ld, harg2.read_unread,
    harg3.read_unread, harg4.read_unread, harg5.read_unread]
  exact rfl

end Cert.KernelIdeal.Fox
-- ==== Proof.Math.lean ====
module

public import Idealize.ShloMosaic.PureOps.Ideal

/-! The running softmax over the extended reals: a row's maximum and sums, tile by tile, and the quotient
they end in. -/

@[expose] public section

noncomputable section

namespace Cert.Fox

open Idealize.ShloMosaic

/-- A real factor that is not negative passes into a sum. -/
theorem coe_mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The coercion of a sum of reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A score and its weight: a masked score weighs nothing, a real score `σ` weighs `2 ^ σ`. -/
def Weighs (s : EReal) (w : ℝ) : Prop := (s = ⊥ ∧ w = 0) ∨ ∃ σ : ℝ, s = (σ : EReal) ∧ w = (2 : ℝ) ^ σ

theorem Weighs.nonneg {s : EReal} {w : ℝ} (h : Weighs s w) : 0 ≤ w := by
  rcases h with ⟨-, rfl⟩ | ⟨σ, -, rfl⟩
  · exact le_rfl
  · exact Real.rpow_nonneg (by norm_num) σ

theorem Weighs.ne_top {s : EReal} {w : ℝ} (h : Weighs s w) : s ≠ ⊤ := by
  rcases h with ⟨rfl, -⟩ | ⟨σ, rfl, -⟩
  · exact bot_ne_top
  · exact EReal.coe_ne_top σ

/-- The exponential of a score less a real is its weight scaled. -/
theorem Weighs.exp2_sub {s : EReal} {w : ℝ} (h : Weighs s w) (μ : ℝ) :
    Ideal.exp2 (s - (μ : EReal)) = (((2 : ℝ) ^ (-μ) * w : ℝ) : EReal) := by
  rcases h with ⟨rfl, rfl⟩ | ⟨σ, rfl, rfl⟩
  · rw [EReal.bot_sub, Ideal.exp2_bot, mul_zero, EReal.coe_zero]
  · rw [← EReal.coe_sub, Ideal.exp2_coe, Real.rpow_eq_pow, ← Real.rpow_add (by norm_num)]
    congr 2; ring

/-- A fold of `max` is real when one of its terms is real and none is infinite above. -/
theorem fold_max_real {n : ℕ} (f : Fin n → EReal) (m : EReal) (hm : m ≠ ⊤) (hf : ∀ x, f x ≠ ⊤) (x₀ : Fin n) (h₀ : f x₀ ≠ ⊥) :
    ∃ μ : ℝ, max m (Finset.univ.fold max ⊥ f) = (μ : EReal) := by
  have top : max m (Finset.univ.fold max ⊥ f) ≠ ⊤ := by
    refine ne_of_lt (max_lt (lt_top_iff_ne_top.mpr hm) ?_)
    rw [Finset.fold_max_lt]
    exact ⟨bot_lt_top, fun x _ => lt_top_iff_ne_top.mpr (hf x)⟩
  have bot : max m (Finset.univ.fold max ⊥ f) ≠ ⊥ := by
    refine ne_of_gt (lt_of_lt_of_le (bot_lt_iff_ne_bot.mpr h₀) (le_trans ?_ (le_max_right _ _)))
    rw [Finset.le_fold_max]
    exact Or.inr ⟨x₀, Finset.mem_univ _, le_rfl⟩
  exact ⟨_, (EReal.coe_toReal top bot).symm⟩

/-- Where a row stands after the first `n` tiles of 512 keys: untouched, or at a real maximum `μ` with every
lane holding the sum of the weights, scaled by `2 ^ (-μ)`, times the values. -/
def Stands (w : ℕ → ℝ) {L : Type} (V : ℕ → L → EReal) (n : ℕ) (m : EReal) (acc : L → EReal) : Prop :=
  (n = 0 ∧ m = ⊥ ∧ acc = fun _ => 0) ∨
    ∃ μ : ℝ, m = (μ : EReal) ∧ ∀ l, acc l = ∑ k ∈ Finset.range (512 * n), (((2 : ℝ) ^ (-μ) * w k : ℝ) : EReal) * V k l

/-- One tile taken in. -/
theorem Stands.step {w : ℕ → ℝ} {L : Type} {V : ℕ → L → EReal} {n : ℕ} {m : EReal} {acc : L → EReal} (h : Stands w V n m acc)
    (s : Fin 512 → EReal) (hs : ∀ x, Weighs (s x) (w (512 * n + x.val))) (h0 : s 0 ≠ ⊥)
    (v : Fin 512 → L → EReal) (hv : ∀ x l, v x l = V (512 * n + x.val) l) :
    Stands w V (n + 1) (max m (Finset.univ.fold max ⊥ s)) (fun l =>
      Ideal.exp2 (m - max m (Finset.univ.fold max ⊥ s)) * acc l
        + ∑ x, Ideal.exp2 (s x - max m (Finset.univ.fold max ⊥ s)) * v x l) := by
  have hm : m ≠ ⊤ := by
    rcases h with ⟨-, rfl, -⟩ | ⟨μ, rfl, -⟩
    · exact bot_ne_top
    · exact EReal.coe_ne_top μ
  obtain ⟨μ', hμ'⟩ := fold_max_real s m hm (fun x => (hs x).ne_top) 0 h0
  refine Or.inr ⟨μ', hμ', fun l => ?_⟩
  beta_reduce
  rw [hμ']
  have new : ∑ x, Ideal.exp2 (s x - (μ' : EReal)) * v x l
      = ∑ k ∈ Finset.range 512, (((2 : ℝ) ^ (-μ') * w (512 * n + k) : ℝ) : EReal) * V (512 * n + k) l := by
    rw [Finset.sum_range]
    exact Finset.sum_congr rfl fun x _ => by rw [(hs x).exp2_sub, hv]
  rw [new, Nat.mul_succ, Finset.sum_range_add]
  congr 1
  rcases h with ⟨rfl, rfl, rfl⟩ | ⟨μ, rfl, ha⟩
  · simp
  · rw [ha, ← EReal.coe_sub, Ideal.exp2_coe, Real.rpow_eq_pow, coe_mul_sum _ _ (Real.rpow_nonneg (by norm_num) _)]
    refine Finset.sum_congr rfl fun k _ => ?_
    rw [← mul_assoc, ← EReal.coe_mul, ← mul_assoc, ← Real.rpow_add (by norm_num)]
    congr 4; ring

/-- The quotient of a lane by a lane of ones: the values weighed by their shares. -/
theorem Stands.quotient {w : ℕ → ℝ} {L : Type} {V : ℕ → L → EReal} {n : ℕ} {m : EReal} {acc : L → EReal} (h : Stands w V n m acc)
    (hn : 0 < n) (hw : ∀ k, 0 ≤ w k) (hpos : 0 < ∑ k ∈ Finset.range (512 * n), w k) (o : L) (ho : ∀ k, V k o = 1) (l : L) :
    Ideal.div (acc l) (acc o)
      = ∑ k ∈ Finset.range (512 * n), ((w k / ∑ j ∈ Finset.range (512 * n), w j : ℝ) : EReal) * V k l := by
  rcases h with ⟨rfl, -, -⟩ | ⟨μ, -, ha⟩
  · exact absurd hn (lt_irrefl 0)
  have p : (0 : ℝ) < (2 : ℝ) ^ (-μ) := Real.rpow_pos_of_pos (by norm_num) _
  have eo : acc o = (((2 : ℝ) ^ (-μ) * ∑ k ∈ Finset.range (512 * n), w k : ℝ) : EReal) := by
    rw [ha, Finset.mul_sum, coe_sum]
    exact Finset.sum_congr rfl fun k _ => by rw [ho, mul_one]
  rw [eo, Ideal.div_coe (ne_of_gt (mul_pos p hpos)), ha, mul_comm, coe_mul_sum _ _ (by positivity)]
  refine Finset.sum_congr rfl fun k _ => ?_
  rw [← mul_assoc, ← EReal.coe_mul]
  congr 2
  field_simp

end Cert.Fox
-- ==== Proof.Tile.lean ====
module

public import proofs.«01_k».proof.Proof.Block
public import proofs.«01_k».proof.Proof.Math
public import proofs.«01_k».proof.Proof.Consts
public import Idealize.ShloMosaic.PureOps.IdealRules
public import Idealize.ShloMosaic.Lib.WordCmp

/-! The tile functions of the attention, read at an index over the exact values, and the row of a query
block's sums that they lead to. -/

@[expose] public section

set_option maxRecDepth 100000

noncomputable section

namespace Cert.KernelIdeal.Fox

open Cert.KernelIdeal Cert.KernelIdeal.Gen Idealize.ShloMosaic Idealize.ShloMosaic.TcCoe Idealize.SL.Sem
  Idealize.ShloMosaic.Tactic Cert.Fox

theorem named_mask : (Named.named κ "mask" 0xF149F2CA#32 : Ideal .f32) = ⊥ :=
  IdealRules.named_const.ideal_named_scalar _ _ _ _ rfl

theorem heldT_apply (h : Fin 2) (q k : Vec Ideal S512x128 .bf16) (g : Vec Ideal S1x512 .f32) (r c : Fin 512) :
    heldT h q k g (ix2 r c)
      = ∑ x, Scalar.select (lanesB h (ix2 r x)) (q (ix2 r x) * k (ix2 c x)) 0 - g (ix2 0 c) := by
  pointwise [heldT, scoreT]

theorem valT_apply (h : Fin 2) (v : Vec Ideal S512x128 .bf16) (r : Fin 512) (l : Fin 128) :
    valT h v (ix2 r l) = Scalar.select (lanesB h (ix2 r l)) (v (ix2 r l)) 1 := by
  pointwise [valT]

theorem diag_apply (r c : Fin 512) : k0_pay2 (ix2 r c) = if c.val ≤ r.val then 1#1 else 0#1 := by
  pointwise [k0_pay2]
  rw [WordCmp.cmpi_sle_ofNat (by omega) (by omega)]
  by_cases h : c.val ≤ r.val <;> simp [h]

theorem maskT_apply (s : FVec Ideal S512x512 .f32) (r c : Fin 512) :
    maskT s (ix2 r c) = if c.val ≤ r.val then s (ix2 r c) else ⊥ := by
  pointwise [maskT]
  rw [named_mask, diag_apply]
  split <;> rfl

theorem stepT_fst (c : FVec Ideal S512x1 .f32 × FVec Ideal S512x128 .f32) (s : FVec Ideal S512x512 .f32)
    (v : FVec Ideal S512x128 .bf16) (r : Fin 512) :
    (stepT c s v).1 (ix2 r 0) = max (c.1 (ix2 r 0)) (Finset.univ.fold max ⊥ fun x => s (ix2 r x)) := by
  pointwise [stepT, maxT]
  rw [ofBits_bot]

theorem stepT_snd (c : FVec Ideal S512x1 .f32 × FVec Ideal S512x128 .f32) (s : FVec Ideal S512x512 .f32)
    (v : FVec Ideal S512x128 .bf16) (r : Fin 512) (l : Fin 128) :
    (stepT c s v).2 (ix2 r l) = Ideal.exp2 (c.1 (ix2 r 0) - (stepT c s v).1 (ix2 r 0)) * c.2 (ix2 r l)
      + ∑ x, Ideal.exp2 (s (ix2 r x) - (stepT c s v).1 (ix2 r 0)) * v (ix2 x l) := by
  show accT c.1 (maxT c.1 s) c.2 s v (ix2 r l) = _
  pointwise [accT]
  rfl

theorem initT_fst (r : Fin 512) : (initT (F := Ideal)).1 (ix2 r 0) = ⊥ := named_mask

theorem initT_snd (r : Fin 512) (l : Fin 128) : (initT (F := Ideal)).2 (ix2 r l) = 0 := by
  pointwise [initT]

theorem outT_apply (a0 a1 : FVec Ideal S512x128 .f32) (r : Fin 512) (l : Fin 128) :
    outT a0 a1 (ix2 r l) = if l.val < 64 then Ideal.div (a0 (ix2 r l)) (a0 (ix2 r 64))
      else Ideal.div (a1 (ix2 r l)) (a1 (ix2 r 0)) := by
  pointwise [outT]
  have H : ∀ l : Fin 128, IntOp.cmpi CmpIPredicate.slt (BitVec.ofNat 32 l.val) 64#32 = if l.val < 64 then 1#1 else 0#1 := by decide
  rw [H]
  split <;> rfl

theorem lanesB_apply (h : Fin 2) (r : Fin 512) (l : Fin 128) :
    lanesB h (ix2 r l) = if l.val / 64 = h.val then 1#1 else 0#1 := by
  pointwise [lanesB]
  have H0 : ∀ l : Fin 128, lanes 0 (ix2 0 l) = if l.val / 64 = 0 then 1#1 else 0#1 := by
    intro l
    show k0_pay3 (ix2 0 l) = _
    pointwise [k0_pay3]
    revert l; decide
  have H1 : ∀ l : Fin 128, lanes 1 (ix2 0 l) = if l.val / 64 = 1 then 1#1 else 0#1 := by
    intro l
    show k0_pay4 (ix2 0 l) = _
    pointwise [k0_pay4]
    revert l; decide
  fin_cases h
  · exact H0 l
  · exact H1 l

end Cert.KernelIdeal.Fox
-- ==== Proof.Rows.lean ====
module

public import proofs.«01_k».proof.Proof.Tile

/-! The output block of one grid point, entry by entry: the values of the row's head weighed by the softmax of
its scores. -/

@[expose] public section

set_option maxRecDepth 100000

noncomputable section

namespace Cert.KernelIdeal.Fox

open Cert.KernelIdeal Cert.KernelIdeal.Gen Idealize.ShloMosaic Idealize.ShloMosaic.TcCoe Idealize.SL.Sem
  Idealize.ShloMosaic.Tactic Cert.Fox

theorem idx2_ext {n m : ℕ} {x y : (⟨2, ![n, m]⟩ : Shape).Idx} (h0 : (x 0).val = (y 0).val) (h1 : (x 1).val = (y 1).val) : x = y := by
  funext a
  fin_cases a
  · exact Fin.ext h0
  · exact Fin.ext h1

/-- Row `r` of block `n`. -/
def at512 (n : Fin 4) (r : Fin 512) : Fin 2048 := ⟨512 * n.val + r.val, by omega⟩

/-- A key's number as an index of the block. -/
def key (k : ℕ) : Fin 2048 := ⟨k % 2048, Nat.mod_lt _ (by norm_num)⟩

theorem key_at (n : Fin 4) (r : Fin 512) : key (512 * n.val + r.val) = at512 n r :=
  Fin.ext (Nat.mod_eq_of_lt (by show _ < 2048; omega))

theorem rows_apply (x : Vec Ideal S2048x128 .bf16) (n : Fin 4) (r : Fin 512) (l : Fin 128) :
    rows x n (ix2 r l) = x (ix2 (at512 n r) l) := by
  refine congrArg x (idx2_ext ?_ ?_)
  · show 512 * n.val + 1 * r.val = 512 * n.val + r.val; omega
  · show 0 + 1 * l.val = l.val; omega

/-- The gates' row of a head of the pair. -/
def gRow (i : grid0.Coords) (h : Fin 2) : Fin 8 :=
  ⟨2 * (i 1).val + h.val, by have hi : (i 1).val < 4 := (i 1).isLt; omega⟩

theorem gates_apply (x : Vec Ideal S8x2048 .f32) (i : grid0.Coords) (h : Fin 2) (n : Fin 4) (r : Fin 512) :
    gates x i h n (ix2 0 r) = x (ix2 (gRow i h) (at512 n r)) := by
  refine congrArg x (idx2_ext ?_ ?_)
  · show gateRow i h + 1 * 0 = 2 * (i 1).val + h.val; rw [gateRow_eq, Nat.mul_zero, Nat.add_zero]
  · show 512 * n.val + 1 * r.val = 512 * n.val + r.val; omega

section
variable (i : grid0.Coords) (x0 x1 x2 : Vec Ideal S2048x128 .bf16) (x3 : Vec Ideal S8x2048 .f32)

/-- The score, to the base two, of a query against a key in a head of the pair, the query's own gate left out. -/
def score (h : Fin 2) (t s : Fin 2048) : EReal :=
  ∑ x : Fin 128, (if x.val / 64 = h.val then x0 (ix2 t x) * x1 (ix2 s x) else 0) - x3 (ix2 (gRow i h) s)

theorem tile_apply (h : Fin 2) (a b : Fin 4) (r c : Fin 512) :
    tile i x0 x1 x3 h a b (ix2 r c) = score i x0 x1 x3 h (at512 a r) (at512 b c) := by
  unfold tile score
  rw [heldT_apply, gates_apply]
  refine congrArg (· - _) (Finset.sum_congr rfl fun x _ => ?_)
  rw [lanesB_apply, rows_apply, rows_apply]
  split <;> rfl

/-- The weight of a key in a query's row. -/
def weight (h : Fin 2) (t : Fin 2048) (k : ℕ) : ℝ :=
  if k ≤ t.val then (2 : ℝ) ^ (score i x0 x1 x3 h t (key k)).toReal else 0

/-- A key's values in a head, and ones in the other head's lanes. -/
def value (h : Fin 2) (k : ℕ) (l : Fin 128) : EReal := if l.val / 64 = h.val then x2 (ix2 (key k) l) else 1

theorem weight_nonneg (h : Fin 2) (t : Fin 2048) (k : ℕ) : 0 ≤ weight i x0 x1 x3 h t k := by
  unfold weight; split
  · exact Real.rpow_nonneg (by norm_num) _
  · exact le_rfl

theorem valT_eq (h : Fin 2) (b : Fin 4) (x : Fin 512) (l : Fin 128) :
    valT h (rows x2 b) (ix2 x l) = value x2 h (512 * b.val + x.val) l := by
  rw [valT_apply, lanesB_apply, rows_apply]
  unfold value
  rw [key_at]
  split <;> rfl

variable {i x0 x1 x2 x3}

theorem step_left {h : Fin 2} (real : ∀ t s, ∃ σ : ℝ, score i x0 x1 x3 h t s = (σ : EReal)) (a b : Fin 4) (hb : b < a) (r : Fin 512)
    (c : FVec Ideal S512x1 .f32 × FVec Ideal S512x128 .f32)
    (H : Stands (weight i x0 x1 x3 h (at512 a r)) (value x2 h) b.val (c.1 (ix2 r 0)) fun l : Fin 128 => c.2 (ix2 r l)) :
    Stands (weight i x0 x1 x3 h (at512 a r)) (value x2 h) (b.val + 1)
      ((stepT c (tile i x0 x1 x3 h a b) (valT h (rows x2 b))).1 (ix2 r 0))
      fun l : Fin 128 => (stepT c (tile i x0 x1 x3 h a b) (valT h (rows x2 b))).2 (ix2 r l) := by
  have S := H.step (fun x => tile i x0 x1 x3 h a b (ix2 r x)) (fun x => by
      obtain ⟨σ, hσ⟩ := real (at512 a r) (at512 b x)
      refine Or.inr ⟨σ, by rw [tile_apply, hσ], ?_⟩
      unfold weight
      rw [key_at, hσ, EReal.toReal_coe, if_pos]
      have : b.val < a.val := hb
      show 512 * b.val + x.val ≤ 512 * a.val + r.val
      omega) (by
      obtain ⟨σ, hσ⟩ := real (at512 a r) (at512 b 0)
      rw [tile_apply, hσ]; exact EReal.coe_ne_bot σ)
    (fun x l => valT h (rows x2 b) (ix2 x l)) (fun x l => valT_eq x2 h b x l)
  simp only [stepT_snd, stepT_fst]
  exact S

theorem step_diag {h : Fin 2} (real : ∀ t s, ∃ σ : ℝ, score i x0 x1 x3 h t s = (σ : EReal)) (a : Fin 4) (r : Fin 512)
    (c : FVec Ideal S512x1 .f32 × FVec Ideal S512x128 .f32)
    (H : Stands (weight i x0 x1 x3 h (at512 a r)) (value x2 h) a.val (c.1 (ix2 r 0)) fun l : Fin 128 => c.2 (ix2 r l)) :
    Stands (weight i x0 x1 x3 h (at512 a r)) (value x2 h) (a.val + 1)
      ((stepT c (maskT (tile i x0 x1 x3 h a a)) (valT h (rows x2 a))).1 (ix2 r 0))
      fun l : Fin 128 => (stepT c (maskT (tile i x0 x1 x3 h a a)) (valT h (rows x2 a))).2 (ix2 r l) := by
  have S := H.step (fun x => maskT (tile i x0 x1 x3 h a a) (ix2 r x)) (fun x => by
      rw [maskT_apply]
      unfold weight
      obtain ⟨σ, hσ⟩ := real (at512 a r) (at512 a x)
      by_cases hx : x.val ≤ r.val
      · refine Or.inr ⟨σ, by rw [if_pos hx, tile_apply, hσ], ?_⟩
        rw [key_at, hσ, EReal.toReal_coe, if_pos]
        show 512 * a.val + x.val ≤ 512 * a.val + r.val
        omega
      · refine Or.inl ⟨if_neg hx, if_neg ?_⟩
        show ¬ 512 * a.val + x.val ≤ 512 * a.val + r.val
        omega) (by
      obtain ⟨σ, hσ⟩ := real (at512 a r) (at512 a 0)
      beta_reduce
      rw [maskT_apply, if_pos (show (0 : Fin 512).val ≤ r.val from Nat.zero_le _), tile_apply, hσ]; exact EReal.coe_ne_bot σ)
    (fun x l => valT h (rows x2 a) (ix2 x l)) (fun x l => valT_eq x2 h a x l)
  simp only [stepT_snd, stepT_fst]
  exact S

theorem step_init {h : Fin 2} (a : Fin 4) (r : Fin 512) :
    Stands (weight i x0 x1 x3 h (at512 a r)) (value x2 h) 0 ((initT (F := Ideal)).1 (ix2 r 0))
      fun l : Fin 128 => (initT (F := Ideal)).2 (ix2 r l) :=
  Or.inl ⟨rfl, initT_fst r, funext fun l => initT_snd r l⟩

/-- Every query block ends with its row standing after the tiles up to the diagonal. -/
theorem acc_stands {h : Fin 2} (real : ∀ t s, ∃ σ : ℝ, score i x0 x1 x3 h t s = (σ : EReal)) (a : Fin 4) (r : Fin 512) :
    ∃ m, Stands (weight i x0 x1 x3 h (at512 a r)) (value x2 h) (a.val + 1) m
      fun l : Fin 128 => accAt i x0 x1 x2 x3 h a (ix2 r l) := by
  fin_cases a
  · exact ⟨_, step_diag real 0 r _ (step_init 0 r)⟩
  · exact ⟨_, step_diag real 1 r _ (step_left real 1 0 (by decide) r _ (step_init 1 r))⟩
  · exact ⟨_, step_diag real 2 r _ (step_left real 2 1 (by decide) r _ (step_left real 2 0 (by decide) r _ (step_init 2 r)))⟩
  · exact ⟨_, step_diag real 3 r _ (step_left real 3 2 (by decide) r _ (step_left real 3 1 (by decide) r _
      (step_left real 3 0 (by decide) r _ (step_init 3 r))))⟩

/-- What a row comes to: the head's values weighed by the keys' shares. -/
def mean (w : ℕ → ℝ) (v : ℕ → EReal) : EReal :=
  ∑ k ∈ Finset.range 2048, ((w k / ∑ j ∈ Finset.range 2048, w j : ℝ) : EReal) * v k

theorem weight_zero_past (h : Fin 2) (a : Fin 4) (r : Fin 512) (k : ℕ) (hk : k ∉ Finset.range (512 * (a.val + 1))) :
    weight i x0 x1 x3 h (at512 a r) k = 0 := by
  unfold weight
  refine if_neg ?_
  rw [Finset.mem_range] at hk
  show ¬ k ≤ 512 * a.val + r.val
  omega

theorem acc_quotient {h : Fin 2} (real : ∀ t s, ∃ σ : ℝ, score i x0 x1 x3 h t s = (σ : EReal)) (a : Fin 4) (r : Fin 512)
    (o : Fin 128) (ho : o.val / 64 ≠ h.val) (l : Fin 128) :
    Ideal.div (accAt i x0 x1 x2 x3 h a (ix2 r l)) (accAt i x0 x1 x2 x3 h a (ix2 r o))
      = mean (weight i x0 x1 x3 h (at512 a r)) (fun k => value x2 h k l) := by
  obtain ⟨m, H⟩ := acc_stands (x2 := x2) real a r
  have sub : Finset.range (512 * (a.val + 1)) ⊆ Finset.range 2048 := Finset.range_subset_range.mpr (by omega)
  have tot : ∑ j ∈ Finset.range (512 * (a.val + 1)), weight i x0 x1 x3 h (at512 a r) j
      = ∑ j ∈ Finset.range 2048, weight i x0 x1 x3 h (at512 a r) j :=
    Finset.sum_subset sub fun k _ hk => weight_zero_past h a r k hk
  have Q := H.quotient (Nat.succ_pos _) (weight_nonneg i x0 x1 x3 h _) (by
    refine Finset.sum_pos' (fun k _ => weight_nonneg i x0 x1 x3 h _ k) ⟨0, Finset.mem_range.mpr (by omega), ?_⟩
    unfold weight
    rw [if_pos (Nat.zero_le _)]
    exact Real.rpow_pos_of_pos (by norm_num) _) o (fun k => if_neg ho) l
  rw [tot] at Q
  rw [Q]
  unfold mean
  refine Finset.sum_subset sub fun k _ hk => ?_
  rw [weight_zero_past h a r k hk, zero_div, EReal.coe_zero, zero_mul]

/-- The head of the pair a lane belongs to. -/
def half (l : Fin 128) : Fin 2 := ⟨l.val / 64, by omega⟩

/-- The entry of the output block at a row and a lane. -/
def entry (i : grid0.Coords) (x0 x1 x2 : Vec Ideal S2048x128 .bf16) (x3 : Vec Ideal S8x2048 .f32) (t : Fin 2048) (l : Fin 128) : EReal :=
  mean (weight i x0 x1 x3 (half l) t) (fun k => x2 (ix2 (key k) l))

theorem outAt_apply (real : ∀ h t s, ∃ σ : ℝ, score i x0 x1 x3 h t s = (σ : EReal)) (a : Fin 4) (r : Fin 512) (l : Fin 128) :
    outAt i x0 x1 x2 x3 a (ix2 r l) = entry i x0 x1 x2 x3 (at512 a r) l := by
  unfold outAt entry
  rw [outT_apply]
  by_cases hl : l.val < 64
  · have e : half l = 0 := Fin.ext (by show l.val / 64 = 0; omega)
    rw [if_pos hl, acc_quotient (real 0) a r 64 (by decide) l, e]
    unfold mean value
    exact Finset.sum_congr rfl fun k _ => by beta_reduce; rw [if_pos (by show l.val / 64 = 0; omega)]
  · have e : half l = 1 := Fin.ext (by show l.val / 64 = 1; omega)
    rw [if_neg hl, acc_quotient (real 1) a r 0 (by decide) l, e]
    unfold mean value
    exact Finset.sum_congr rfl fun k _ => by beta_reduce; rw [if_pos (by show l.val / 64 = 1; omega)]

theorem piece_apply (real : ∀ h t s, ∃ σ : ℝ, score i x0 x1 x3 h t s = (σ : EReal)) (a : Fin 4) (off : Fin 2 → ℕ)
    (h0 : off 0 = 512 * a.val) (h1 : off 1 = 0) {inb : ∀ a, off a + S512x128.size a ≤ S2048x128.size a} (x : S512x128.Idx) :
    outAt i x0 x1 x2 x3 a x = (fun y : S2048x128.Idx => entry i x0 x1 x2 x3 (y 0) (y 1))
      ((Rect.unit (s := S2048x128) off S512x128.size inb).emb x) := by
  refine (congrArg _ (eq_ix2 x)).trans ((outAt_apply real a (x 0) (x 1)).trans ?_)
  beta_reduce
  congr 1
  · exact Fin.ext (by show 512 * a.val + (x 0).val = off 0 + 1 * (x 0).val; omega)
  · exact Fin.ext (by show (x 1).val = off 1 + 1 * (x 1).val; omega)

theorem mem_piece {off : Fin 2 → ℕ} {inb : ∀ a, off a + S512x128.size a ≤ S2048x128.size a} (t : Fin 2048) (l : Fin 128)
    (h1 : off 1 = 0) (lo : off 0 ≤ t.val) (hi : t.val < off 0 + 512) :
    (ix2 t l : S2048x128.Idx) ∈ (Rect.unit (s := S2048x128) off S512x128.size inb).set := by
  refine Rect.mem_set_unit.mpr fun a => ?_
  fin_cases a
  · exact ⟨lo, hi⟩
  · exact ⟨show off 1 ≤ l.val by omega, show l.val < off 1 + 128 by have := l.isLt; omega⟩

theorem outBlk_apply (real : ∀ h t s, ∃ σ : ℝ, score i x0 x1 x3 h t s = (σ : EReal)) (t : Fin 2048) (l : Fin 128) :
    outBlk i x0 x1 x2 x3 (ix2 t l) = entry i x0 x1 x2 x3 t l := by
  unfold outBlk
  refine View.canon_apply_of_pieces (Val := Elt Ideal) (e := .bf16) (fun y : S2048x128.Idx => entry i x0 x1 x2 x3 (y 0) (y 1)) _ ?_ (ix2 t l) ?_
  · intro p hp
    simp only [List.mem_cons, List.not_mem_nil, or_false] at hp
    rcases hp with rfl | rfl | rfl | rfl
    · exact piece_apply real 3 _ rfl rfl (inb := inb_S2048x128_S512x128_1536_0)
    · exact piece_apply real 2 _ rfl rfl (inb := inb_S2048x128_S512x128_1024_0)
    · exact piece_apply real 1 _ rfl rfl (inb := inb_S2048x128_S512x128_512_0)
    · exact piece_apply real 0 _ rfl rfl (inb := inb_S2048x128_S512x128_0_0)
  · have ht := t.isLt
    by_cases h3 : 1536 ≤ t.val
    · exact ⟨_, List.mem_cons_self, mem_piece (inb := inb_S2048x128_S512x128_1536_0) t l rfl h3 (show t.val < 1536 + 512 by omega)⟩
    by_cases h2 : 1024 ≤ t.val
    · exact ⟨_, List.mem_cons_of_mem _ List.mem_cons_self,
        mem_piece (inb := inb_S2048x128_S512x128_1024_0) t l rfl h2 (show t.val < 1024 + 512 by omega)⟩
    by_cases h1 : 512 ≤ t.val
    · exact ⟨_, List.mem_cons_of_mem _ (List.mem_cons_of_mem _ List.mem_cons_self),
        mem_piece (inb := inb_S2048x128_S512x128_512_0) t l rfl h1 (show t.val < 512 + 512 by omega)⟩
    · exact ⟨_, List.mem_cons_of_mem _ (List.mem_cons_of_mem _ (List.mem_cons_of_mem _ List.mem_cons_self)),
        mem_piece (inb := inb_S2048x128_S512x128_0_0) t l rfl (Nat.zero_le _) (show t.val < 0 + 512 by omega)⟩

end

end Cert.KernelIdeal.Fox
-- ==== Proof.Softmax.lean ====
module

public import proofs.«01_k».proof.Proof.Math

/-! The softmax of one causal row with a forget bias: the key's share is its weight over the weights' total,
whatever part of the score depends on the query alone. -/

@[expose] public section

noncomputable section

namespace Cert.Fox

open Idealize.ShloMosaic

/-- The weight of key `s` in row `t`: two to the score in base two, the query's own cumulated gate left out. -/
def rowWeight (a C : Fin 2048 → ℝ) (t s : Fin 2048) : ℝ :=
  if s.val ≤ t.val then (2 : ℝ) ^ ((a s * (1 / 8) - C s) / Real.log 2) else 0

/-- The score of key `s` in row `t`, with the causal mask. -/
def rowScore (a C : Fin 2048 → ℝ) (t s : Fin 2048) : EReal :=
  if s.val ≤ t.val then ((a s * (1 / 8) + (C t - C s) : ℝ) : EReal) else ⊥

theorem two_rpow_log (x : ℝ) : (2 : ℝ) ^ (x / Real.log 2) = Real.exp x := by
  rw [Real.rpow_def_of_pos (by norm_num), mul_div_cancel₀ _ (Real.log_pos (by norm_num)).ne']

theorem exp_rowScore (a C : Fin 2048 → ℝ) (t s : Fin 2048) (M : ℝ) :
    Ideal.exp (rowScore a C t s - (M : EReal)) = ((Real.exp (C t - M) * rowWeight a C t s : ℝ) : EReal) := by
  unfold rowScore rowWeight
  split
  · rw [← EReal.coe_sub, Ideal.exp_coe, two_rpow_log, ← Real.exp_add]
    congr 2; ring
  · rw [EReal.bot_sub, Ideal.exp_bot, mul_zero, EReal.coe_zero]

theorem rowWeight_nonneg (a C : Fin 2048 → ℝ) (t s : Fin 2048) : 0 ≤ rowWeight a C t s := by
  unfold rowWeight
  split
  · exact Real.rpow_nonneg (by norm_num) _
  · exact le_rfl

theorem rowWeight_sum_pos (a C : Fin 2048 → ℝ) (t : Fin 2048) : 0 < ∑ s, rowWeight a C t s := by
  refine Finset.sum_pos' (fun s _ => rowWeight_nonneg a C t s) ⟨t, Finset.mem_univ t, ?_⟩
  unfold rowWeight
  rw [if_pos le_rfl]
  exact Real.rpow_pos_of_pos (by norm_num) _

theorem rowMax_real (a C : Fin 2048 → ℝ) (t : Fin 2048) :
    ∃ M : ℝ, max ⊥ (Finset.univ.fold max ⊥ (rowScore a C t)) = (M : EReal) := by
  refine fold_max_real _ ⊥ bot_ne_top (fun s => ?_) t ?_
  · unfold rowScore
    split
    · exact EReal.coe_ne_top _
    · exact bot_ne_top
  · unfold rowScore
    rw [if_pos le_rfl]
    exact EReal.coe_ne_bot _

/-- A key's share of its row. -/
theorem rowShare (a C : Fin 2048 → ℝ) (t s : Fin 2048) :
    Ideal.div (Ideal.exp (rowScore a C t s - max ⊥ (Finset.univ.fold max ⊥ (rowScore a C t))))
        (0 + ∑ x, Ideal.exp (rowScore a C t x - max ⊥ (Finset.univ.fold max ⊥ (rowScore a C t))))
      = ((rowWeight a C t s / ∑ x, rowWeight a C t x : ℝ) : EReal) := by
  obtain ⟨M, hM⟩ := rowMax_real a C t
  rw [hM, zero_add]
  simp only [exp_rowScore]
  rw [← coe_sum, ← Finset.mul_sum, Ideal.div_coe (mul_pos (Real.exp_pos _) (rowWeight_sum_pos a C t)).ne', ← EReal.coe_mul,
    mul_one_div, mul_div_mul_left _ _ (Real.exp_pos _).ne']

end Cert.Fox
-- ==== Proof.Array.lean ====
module

public import proofs.«01_k».proof.Proof.Rows
public import proofs.«01_k».proof.Proof.Softmax
public import Idealize.ShloMosaic.Lib.StableHlo.ReadAt
public import Idealize.ShloMosaic.Lib.Pipeline.ValueKit

/-! The kernel's result array, entry by entry: the blocks of its grid read from the arguments. -/

@[expose] public section

set_option maxRecDepth 100000

noncomputable section

namespace Cert.KernelIdeal.Fox

open Cert.KernelIdeal Cert.KernelIdeal.Gen Cert.KernelIdeal.Value Idealize.ShloMosaic Idealize.ShloMosaic.TcCoe Idealize.SL.Sem
  Idealize.ShloMosaic.Tactic Cert.Fox

variable (m : (ℓ : Loc nD τ sig) → Buf (Elt Ideal) ℓ)

theorem idx0 : ∀ t : Fin cfg0.N, win0_0.index t = ![(grid0.coords t 0).val, (grid0.coords t 1).val] :=
  (by decide +kernel : ∀ t : Fin grid0.N, win0_0.index t = ![(grid0.coords t 0).val, (grid0.coords t 1).val])
theorem idx1 : ∀ t : Fin cfg0.N, win0_1.index t = ![(grid0.coords t 0).val, (grid0.coords t 1).val] :=
  (by decide +kernel : ∀ t : Fin grid0.N, win0_1.index t = ![(grid0.coords t 0).val, (grid0.coords t 1).val])
theorem idx2 : ∀ t : Fin cfg0.N, win0_2.index t = ![(grid0.coords t 0).val, (grid0.coords t 1).val] :=
  (by decide +kernel : ∀ t : Fin grid0.N, win0_2.index t = ![(grid0.coords t 0).val, (grid0.coords t 1).val])
theorem idx3 : ∀ t : Fin cfg0.N, win0_3.index t = ![0, (grid0.coords t 0).val] :=
  (by decide +kernel : ∀ t : Fin grid0.N, win0_3.index t = ![0, (grid0.coords t 0).val])
theorem idx4 : ∀ t : Fin cfg0.N, win0_4.index t = ![(grid0.coords t 0).val, (grid0.coords t 1).val] :=
  (by decide +kernel : ∀ t : Fin grid0.N, win0_4.index t = ![(grid0.coords t 0).val, (grid0.coords t 1).val])

theorem coord0_lt (i : grid0.Coords) : (i 0).val < 16 := (i 0).isLt
theorem coord1_lt (i : grid0.Coords) : (i 1).val < 4 := (i 1).isLt

/-- The sequence of a grid point. -/
def seqOf (i : grid0.Coords) : Fin 16 := ⟨(i 0).val, coord0_lt i⟩
/-- The head of a grid point and a lane half. -/
def headOf (i : grid0.Coords) (h : Fin 2) : Fin 8 := ⟨2 * (i 1).val + h.val, by have := coord1_lt i; omega⟩

/-- Row `t` of a sequence, in the array of all rows. -/
def rowOf (b : Fin 16) (t : Fin 2048) : Fin 32768 := ⟨2048 * b.val + t.val, by omega⟩
/-- Lane `d` of a head, in the array of all heads. -/
def colOf (h : Fin 8) (d : Fin 64) : Fin 512 := ⟨64 * h.val + d.val, by omega⟩
/-- Lane `d` of a half, in the block of two heads. -/
def laneOf (h : Fin 2) (d : Fin 64) : Fin 128 := ⟨64 * h.val + d.val, by omega⟩

theorem iblk0_at (c : Dev nD) (t : Fin cfg0.N) (r : Fin 2048) (h : Fin 2) (d : Fin 64) :
    iblk m c 0 t (ix2 r (laneOf h d)) = V m c main_v11 (ix2 (rowOf (seqOf (grid0.coords t)) r) (colOf (headOf (grid0.coords t) h) d)) := by
  blk_simp [iblk]
  refine congrArg _ ?_
  unfold rowOf colOf seqOf headOf laneOf
  blk_ext [idx0 t]

theorem iblk1_at (c : Dev nD) (t : Fin cfg0.N) (r : Fin 2048) (h : Fin 2) (d : Fin 64) :
    iblk m c 1 t (ix2 r (laneOf h d)) = V m c main_v13 (ix2 (rowOf (seqOf (grid0.coords t)) r) (colOf (headOf (grid0.coords t) h) d)) := by
  blk_simp [iblk]
  refine congrArg _ ?_
  unfold rowOf colOf seqOf headOf laneOf
  blk_ext [idx1 t]

theorem iblk2_at (c : Dev nD) (t : Fin cfg0.N) (r : Fin 2048) (h : Fin 2) (d : Fin 64) :
    iblk m c 2 t (ix2 r (laneOf h d)) = V m c main_v15 (ix2 (rowOf (seqOf (grid0.coords t)) r) (colOf (headOf (grid0.coords t) h) d)) := by
  blk_simp [iblk]
  refine congrArg _ ?_
  unfold rowOf colOf seqOf headOf laneOf
  blk_ext [idx2 t]

theorem iblk3_at (c : Dev nD) (t : Fin cfg0.N) (r : Fin 2048) (h : Fin 8) :
    iblk m c 3 t (ix2 h r) = V m c main_v5 (ix2 h (rowOf (seqOf (grid0.coords t)) r)) := by
  blk_simp [iblk]
  refine congrArg _ ?_
  unfold rowOf seqOf
  blk_ext [idx3 t]

theorem emb4_at (t : Fin cfg0.N) (r : Fin 2048) (h : Fin 2) (d : Fin 64) :
    (win0_4.blk t).view.emb (ix2 r (laneOf h d)) = ix2 (rowOf (seqOf (grid0.coords t)) r) (colOf (headOf (grid0.coords t) h) d) := by
  unfold rowOf colOf seqOf headOf laneOf
  blk_ext [idx4 t]

end Cert.KernelIdeal.Fox
-- ==== Proof.Reference.lean ====
module

public import proofs.«01_k».proof.Proof.Gen.ReferenceIdeal.Read
public import proofs.«01_k».proof.Proof.Softmax
public import proofs.«01_k».proof.Proof.Consts
public import Idealize.ShloMosaic.Lib.Pointwise
public import Idealize.ShloMosaic.Lib.WordCmp

/-! The reference's result, entry by entry: the values of the entry's head weighed by the keys' shares. -/

@[expose] public section

set_option maxRecDepth 100000

noncomputable section

namespace Cert.ReferenceIdeal.Fox

open Cert.ReferenceIdeal Cert.ReferenceIdeal.Gen Cert.ReferenceIdeal.Read Idealize.ShloMosaic Idealize.ShloMosaic.TcCoe Idealize.SL.Sem
  Idealize.ShloMosaic.Tactic Cert.Fox

/-- A running sum of reals is real. -/
theorem foldl_real {α : Type} (l : List α) (f : α → EReal) (hf : ∀ n, ∃ r : ℝ, f n = (r : EReal)) (v : EReal)
    (hv : ∃ r : ℝ, v = (r : EReal)) : ∃ r : ℝ, l.foldl (fun r n => r + f n) v = (r : EReal) := by
  induction l generalizing v with
  | nil => exact hv
  | cons n l ih =>
    obtain ⟨a, ha⟩ := hv
    obtain ⟨b, hb⟩ := hf n
    exact ih _ ⟨a + b, by beta_reduce; rw [ha, hb, EReal.coe_add]⟩

/-- The cumulated log gates of finite log gates are finite. -/
theorem cum_real (x3 : FVec Ideal S16x2048x8 .f32) (h : ∀ i, ∃ r : ℝ, x3 i = (r : EReal)) (i : S16x2048x8.Idx) :
    ∃ r : ℝ, val_main_v0 (F := Ideal) x3 i = (r : EReal) := by
  have hz : ∃ r : ℝ, val_main_call0_call0_v0 (F := Ideal) (Shape.Idx.first h_S_) = (r : EReal) :=
    ⟨0, by rw [val_main_call0_call0_v0_apply, val_main_call0_call0_cst_apply]; exact ofBits_zero⟩
  unfold val_main_v0 Host.reduceWindowAdd
  rw [Ideal.hostReduceWindowAdd_def]
  unfold Ideal.hostReduceWindowAdd Host.reduceWindow
  refine foldl_real _ _ (fun n => ?_) _ hz
  split
  · exact h _
  · exact hz

variable (x0 x1 x2 : FVec Ideal S16x2048x8x64 .f32) (x3 : FVec Ideal S16x2048x8 .f32)

/-- The masked score of a query and a key. -/
theorem v18_at (b : Fin 16) (h : Fin 8) (t s : Fin 2048) :
    val_main_v18 (F := Ideal) x0 x1 x3 (ix4 b h t s)
      = if s.val ≤ t.val then (∑ x, x0 (ix4 b t h x) * x1 (ix4 b s h x)) * ((1 / 8 : ℝ) : EReal)
          + (val_main_v0 (F := Ideal) x3 (ix3 b t h) - val_main_v0 (F := Ideal) x3 (ix3 b s h)) else (⊥ : EReal) := by
  pointwise [val_main_v18, val_main_call1_v1, val_main_v16, val_main_v14, val_main_v15, val_main_v13, val_main_v12, val_main_v11, val_main_v10,
    val_main_v17, val_main_call1_v2, val_main_call1_v0, val_main_cst_0, val_main_v4, val_main_v9, val_main_v2, val_main_v3, val_main_cst, val_main_v7,
    val_main_v8, val_main_v5, val_main_v6, val_main_v1]
  rw [WordCmp.cmpi_sle_ofNat (by omega) (by omega), ofBits_eighth]
  by_cases hs : s.val ≤ t.val
  · rw [if_pos hs, decide_eq_true hs]; rfl
  · rw [if_neg hs, decide_eq_false hs]; exact ofBits_bot

theorem fold_max_at (y : S16x8x2048x2048.Idx → EReal) (b : Fin 16) (h : Fin 8) (t : Fin 2048) (init : S_.Idx → EReal)
    (hi : init (Shape.Idx.first h_S_) = ⊥) :
    Host.reduce (max : EReal → EReal → EReal) y init reducesTo_S16x8x2048x2048_S16x8x2048_d3 h_S_ (ix3 b h t)
      = Finset.univ.fold max ⊥ (fun s : Fin 2048 => y (ix4 b h t s)) := by
  rw [Host.reduce_eq_fold_single max y init reducesTo_S16x8x2048x2048_S16x8x2048_d3 (by decide) h_S_, hi]
  refine congrArg (fun g : Fin 2048 → EReal => Finset.univ.fold max ⊥ g) (funext fun k => ?_)
  exact congrArg y (funext fun a => Fin.ext (by match a with | ⟨0, _⟩ => rfl | ⟨1, _⟩ => rfl | ⟨2, _⟩ => rfl | ⟨3, _⟩ => rfl))

theorem v19_at (b : Fin 16) (h : Fin 8) (t : Fin 2048) :
    val_main_v19 (F := Ideal) x0 x1 x3 (ix3 b h t)
      = Finset.univ.fold max ⊥ (fun s : Fin 2048 => (val_main_v18 (F := Ideal) x0 x1 x3 (ix4 b h t s) : EReal)) := by
  unfold val_main_v19
  generalize val_main_v18 (F := Ideal) x0 x1 x3 = y
  exact fold_max_at y b h t _ ofBits_bot

theorem v25_at (b : Fin 16) (h : Fin 8) (t s : Fin 2048) :
    val_main_v25 (F := Ideal) x0 x1 x3 (ix4 b h t s)
      = Ideal.exp (val_main_v18 (F := Ideal) x0 x1 x3 (ix4 b h t s)
          - max ⊥ (Finset.univ.fold max ⊥ (fun s : Fin 2048 => (val_main_v18 (F := Ideal) x0 x1 x3 (ix4 b h t s) : EReal)))) := by
  have e : idx_main_v22 (idx_main_v23 (ix4 b h t s)) = ix3 b h t :=
    funext fun a => Fin.ext (by match a with | ⟨0, _⟩ => rfl | ⟨1, _⟩ => rfl | ⟨2, _⟩ => rfl)
  rw [val_main_v25_apply, val_main_v24_apply, val_main_v23_apply, val_main_v22_apply, val_main_v21_apply, val_main_v20_apply,
    val_main_cst_2_apply, e, v19_at]
  generalize Finset.univ.fold max ⊥ (fun s : Fin 2048 => (val_main_v18 (F := Ideal) x0 x1 x3 (ix4 b h t s) : EReal)) = M
  generalize val_main_v18 (F := Ideal) x0 x1 x3 (ix4 b h t s) = z
  exact congrArg (fun u : EReal => Ideal.exp ((z : EReal) - max u M)) ofBits_bot

theorem v26_at (b : Fin 16) (h : Fin 8) (t : Fin 2048) :
    val_main_v26 (F := Ideal) x0 x1 x3 (ix3 b h t) = (0 : EReal) + ∑ s : Fin 2048, (val_main_v25 (F := Ideal) x0 x1 x3 (ix4 b h t s) : EReal) := by
  rw [val_main_v26_apply, val_main_cst_3_apply]
  refine congr (congrArg _ ofBits_zero) (Finset.sum_congr rfl fun k _ => ?_)
  exact congrArg _ (funext fun a => Fin.ext (by match a with | ⟨0, _⟩ => rfl | ⟨1, _⟩ => rfl | ⟨2, _⟩ => rfl | ⟨3, _⟩ => rfl))

theorem v29_at (b : Fin 16) (h : Fin 8) (t s : Fin 2048) :
    val_main_v29 (F := Ideal) x0 x1 x3 (ix4 b h t s)
      = Ideal.div (val_main_v25 (F := Ideal) x0 x1 x3 (ix4 b h t s)) (val_main_v26 (F := Ideal) x0 x1 x3 (ix3 b h t)) := by
  have e : idx_main_v27 (idx_main_v28 (ix4 b h t s)) = ix3 b h t :=
    funext fun a => Fin.ext (by match a with | ⟨0, _⟩ => rfl | ⟨1, _⟩ => rfl | ⟨2, _⟩ => rfl)
  rw [val_main_v29_apply, val_main_v28_apply, val_main_v27_apply, e]
  generalize val_main_v25 (F := Ideal) x0 x1 x3 (ix4 b h t s) = y
  generalize val_main_v26 (F := Ideal) x0 x1 x3 (ix3 b h t) = z
  exact rfl

theorem v33_at (b : Fin 16) (h : Fin 8) (t : Fin 2048) (d : Fin 64) :
    val_main_v33 (F := Ideal) x0 x1 x2 x3 (ix2 ⟨2048 * b.val + t.val, by omega⟩ ⟨64 * h.val + d.val, by omega⟩)
      = ∑ s, x2 (ix4 b s h d) * val_main_v29 (F := Ideal) x0 x1 x3 (ix4 b h t s) := by
  have eb : (⟨(2048 * b.val + t.val) / 2048, by omega⟩ : Fin 16) = b := Fin.ext (by show _ / _ = _; omega)
  have et : (⟨(2048 * b.val + t.val) % 2048, by omega⟩ : Fin 2048) = t := Fin.ext (by show _ % _ = _; omega)
  have eh : (⟨(64 * h.val + d.val) / 64, by omega⟩ : Fin 8) = h := Fin.ext (by show _ / _ = _; omega)
  have ed : (⟨(64 * h.val + d.val) % 64, by omega⟩ : Fin 64) = d := Fin.ext (by show _ % _ = _; omega)
  pointwise [val_main_v33, val_main_v32, val_main_v31, val_main_v30]

/-- With finite queries, keys and log gates the result is the values weighed by the keys' shares. -/
theorem result_at (q k : Fin 16 → Fin 2048 → Fin 8 → Fin 64 → ℝ) (C : Fin 16 → Fin 2048 → Fin 8 → ℝ)
    (hq : ∀ b t h d, x0 (ix4 b t h d) = (q b t h d : EReal)) (hk : ∀ b t h d, x1 (ix4 b t h d) = (k b t h d : EReal))
    (hC : ∀ b t h, val_main_v0 (F := Ideal) x3 (ix3 b t h) = (C b t h : EReal)) (b : Fin 16) (h : Fin 8) (t : Fin 2048) (d : Fin 64) :
    val_main_v33 (F := Ideal) x0 x1 x2 x3 (ix2 ⟨2048 * b.val + t.val, by omega⟩ ⟨64 * h.val + d.val, by omega⟩)
      = ∑ s : Fin 2048, ((rowWeight (fun s => ∑ x, q b t h x * k b s h x) (fun s => C b s h) t s
          / ∑ s', rowWeight (fun s => ∑ x, q b t h x * k b s h x) (fun s => C b s h) t s' : ℝ) : EReal) * x2 (ix4 b s h d) := by
  have score : (fun s : Fin 2048 => (val_main_v18 (F := Ideal) x0 x1 x3 (ix4 b h t s) : EReal))
      = rowScore (fun s => ∑ x, q b t h x * k b s h x) (fun s => C b s h) t := funext fun s => by
    rw [v18_at]
    unfold rowScore
    refine if_congr Iff.rfl ?_ rfl
    simp only [hq, hk, hC, ← EReal.coe_mul]
    rw [← coe_sum, ← EReal.coe_mul, ← EReal.coe_sub, ← EReal.coe_add]
  rw [v33_at]
  refine Finset.sum_congr rfl fun s _ => ?_
  rw [v29_at, v26_at]
  simp only [v25_at]
  rw [mul_comm, score, ← rowShare]
  simp only [← score]

end Cert.ReferenceIdeal.Fox
-- ==== Proof.Equation.lean ====
module

public import proofs.«01_k».proof.Proof.Array
public import proofs.«01_k».proof.Proof.Reference

/-! The kernel's result array is the reference's result at the same arguments. -/

@[expose] public section

set_option maxRecDepth 100000

noncomputable section

namespace Cert.KernelIdeal.Fox

open Cert.KernelIdeal Cert.KernelIdeal.Gen Cert.KernelIdeal.Value Idealize.ShloMosaic Idealize.ShloMosaic.TcCoe Idealize.SL.Sem
  Idealize.ShloMosaic.Tactic Cert.Fox

/-- A sum over the lanes of one half of a block. -/
theorem sum_half (h : Fin 2) (f : Fin 128 → EReal) :
    ∑ x : Fin 128, (if x.val / 64 = h.val then f x else 0) = ∑ d : Fin 64, f (laneOf h d) := by
  rw [← Finset.sum_filter]
  symm
  refine Finset.sum_bij (fun d _ => laneOf h d) (fun d _ => ?_) (fun d _ d' _ e => ?_) (fun x hx => ?_) (fun d _ => rfl)
  · simp only [Finset.mem_filter, Finset.mem_univ, true_and, laneOf]; omega
  · have := congrArg Fin.val e; simp only [laneOf] at this; exact Fin.ext (by omega)
  · have e := (Finset.mem_filter.mp hx).2
    exact ⟨⟨x.val % 64, by omega⟩, Finset.mem_univ _, Fin.ext (by simp only [laneOf]; omega)⟩

variable (m : (ℓ : Loc nD τ sig) → Buf (Elt Ideal) ℓ) (c : Dev nD)

/-- The queries, keys, values and log gates as launched. -/
abbrev argQ : S16x2048x8x64.Idx → EReal := m (c, Proc.tc.devRef main_arg0)
abbrev argK : S16x2048x8x64.Idx → EReal := m (c, Proc.tc.devRef main_arg1)
abbrev argV : S16x2048x8x64.Idx → EReal := m (c, Proc.tc.devRef main_arg2)
abbrev argG : S16x2048x8.Idx → EReal := m (c, Proc.tc.devRef main_arg3)

/-- The blocks a grid point reads. -/
abbrev blkQ (t : Fin cfg0.N) : S2048x128.Idx → EReal := iblk m c 0 t
abbrev blkK (t : Fin cfg0.N) : S2048x128.Idx → EReal := iblk m c 1 t
abbrev blkV (t : Fin cfg0.N) : S2048x128.Idx → EReal := iblk m c 2 t
abbrev blkG (t : Fin cfg0.N) : S8x2048.Idx → EReal := iblk m c 3 t

/-- The cumulated log gates. -/
abbrev cumG : S16x2048x8.Idx → EReal := Cert.ReferenceIdeal.Read.val_main_v0 (F := Ideal) (argG m c)

theorem rows_split (b : Fin 16) (t : Fin 2048) (h : Fin 8) (d : Fin 64) (f : S16x2048x8x64.Idx → EReal)
    (h0 : (2048 * b.val + t.val) / 2048 < 16) (h1 : (2048 * b.val + t.val) % 2048 < 2048) (h2 : (64 * h.val + d.val) / 64 < 8)
    (h3 : (64 * h.val + d.val) % 64 < 64) :
    f (ix4 ⟨(2048 * b.val + t.val) / 2048, h0⟩ ⟨(2048 * b.val + t.val) % 2048, h1⟩ ⟨(64 * h.val + d.val) / 64, h2⟩
      ⟨(64 * h.val + d.val) % 64, h3⟩) = f (ix4 b t h d) := by
  congr 1
  have e0 : (⟨(2048 * b.val + t.val) / 2048, h0⟩ : Fin 16) = b := Fin.ext (by show _ / _ = _; omega)
  have e1 : (⟨(2048 * b.val + t.val) % 2048, h1⟩ : Fin 2048) = t := Fin.ext (by show _ % _ = _; omega)
  have e2 : (⟨(64 * h.val + d.val) / 64, h2⟩ : Fin 8) = h := Fin.ext (by show _ / _ = _; omega)
  have e3 : (⟨(64 * h.val + d.val) % 64, h3⟩ : Fin 64) = d := Fin.ext (by show _ % _ = _; omega)
  rw [e0, e1, e2, e3]

theorem seq_split (b : Fin 16) (t : Fin 2048) (h : Fin 8) (f : S16x2048x8.Idx → EReal)
    (h0 : (2048 * b.val + t.val) / 2048 < 16) (h1 : (2048 * b.val + t.val) % 2048 < 2048) :
    f (ix3 ⟨(2048 * b.val + t.val) / 2048, h0⟩ ⟨(2048 * b.val + t.val) % 2048, h1⟩ h) = f (ix3 b t h) := by
  have e0 : (⟨(2048 * b.val + t.val) / 2048, h0⟩ : Fin 16) = b := Fin.ext (by show _ / _ = _; omega)
  have e1 : (⟨(2048 * b.val + t.val) % 2048, h1⟩ : Fin 2048) = t := Fin.ext (by show _ % _ = _; omega)
  rw [e0, e1]

theorem log_two : Ideal.log (Ideal.ofBits .f32 0x40000000#32) = (Real.log 2 : EReal) := by
  rw [ofBits_two, Ideal.log_coe, if_neg (by norm_num)]

theorem log_two_ne : Real.log 2 ≠ 0 := (Real.log_pos (by norm_num)).ne'

/-- The prepared queries. -/
theorem q_at (b : Fin 16) (t : Fin 2048) (h : Fin 8) (d : Fin 64) :
    V m c main_v11 (ix2 (rowOf b t) (colOf h d))
      = Ideal.div (argQ m c (ix4 b t h d) * ((1 / 8 : ℝ) : EReal)) (Real.log 2 : EReal) := by
  rw [← log_two, ← ofBits_eighth, ← rows_split b t h d (argQ m c) (by omega) (by omega) (by omega) (by omega)]
  unfold V rowOf colOf
  after_reads_at

/-- The prepared keys. -/
theorem k_at (b : Fin 16) (t : Fin 2048) (h : Fin 8) (d : Fin 64) :
    V m c main_v13 (ix2 (rowOf b t) (colOf h d)) = argK m c (ix4 b t h d) := by
  rw [← rows_split b t h d (argK m c) (by omega) (by omega) (by omega) (by omega)]
  unfold V rowOf colOf
  after_reads_at

/-- The prepared values. -/
theorem v_at (b : Fin 16) (t : Fin 2048) (h : Fin 8) (d : Fin 64) :
    V m c main_v15 (ix2 (rowOf b t) (colOf h d)) = argV m c (ix4 b t h d) := by
  rw [← rows_split b t h d (argV m c) (by omega) (by omega) (by omega) (by omega)]
  unfold V rowOf colOf
  after_reads_at

/-- The prepared cumulated gates. -/
theorem g_at (b : Fin 16) (t : Fin 2048) (h : Fin 8) :
    V m c main_v5 (ix2 h (rowOf b t))
      = Ideal.div (cumG m c (ix3 b t h))
          (Real.log 2 : EReal) := by
  rw [← log_two, ← seq_split b t h (cumG m c) (by omega) (by omega)]
  unfold V rowOf
  after_reads_at
  rfl

theorem blkQ_at (t : Fin cfg0.N) (r : Fin 2048) (h : Fin 2) (d : Fin 64) : blkQ m c t (ix2 r (laneOf h d))
    = Ideal.div (argQ m c (ix4 (seqOf (grid0.coords t)) r (headOf (grid0.coords t) h) d) * ((1 / 8 : ℝ) : EReal)) (Real.log 2 : EReal) :=
  (iblk0_at m c t r h d).trans (q_at m c _ _ _ _)
theorem blkK_at (t : Fin cfg0.N) (r : Fin 2048) (h : Fin 2) (d : Fin 64) : blkK m c t (ix2 r (laneOf h d))
    = argK m c (ix4 (seqOf (grid0.coords t)) r (headOf (grid0.coords t) h) d) :=
  (iblk1_at m c t r h d).trans (k_at m c _ _ _ _)
theorem blkV_at (t : Fin cfg0.N) (r : Fin 2048) (h : Fin 2) (d : Fin 64) : blkV m c t (ix2 r (laneOf h d))
    = argV m c (ix4 (seqOf (grid0.coords t)) r (headOf (grid0.coords t) h) d) :=
  (iblk2_at m c t r h d).trans (v_at m c _ _ _ _)

section Finite

variable (q k : Fin 16 → Fin 2048 → Fin 8 → Fin 64 → ℝ) (C : Fin 16 → Fin 2048 → Fin 8 → ℝ)
    (hq : ∀ b t h d, argQ m c (ix4 b t h d) = (q b t h d : EReal)) (hk : ∀ b t h d, argK m c (ix4 b t h d) = (k b t h d : EReal))
    (hC : ∀ b t h, cumG m c (ix3 b t h) = (C b t h : EReal))

include hq hk hC

/-- The score of a query and a key, as the kernel has it: in base two, the query's own cumulated gate left out. -/
theorem score_at (t : Fin cfg0.N) (h : Fin 2) (r s : Fin 2048) :
    score (grid0.coords t) (blkQ m c t) (blkK m c t) (blkG m c t) h r s
      = (((∑ x, q (seqOf (grid0.coords t)) r (headOf (grid0.coords t) h) x * k (seqOf (grid0.coords t)) s (headOf (grid0.coords t) h) x) * (1 / 8)
          - C (seqOf (grid0.coords t)) s (headOf (grid0.coords t) h)) / Real.log 2 : ℝ) := by
  unfold score
  have e : blkG m c t (ix2 (gRow (grid0.coords t) h) s)
      = ((C (seqOf (grid0.coords t)) s (headOf (grid0.coords t) h) / Real.log 2 : ℝ) : EReal) := by
    refine (iblk3_at m c t s (gRow (grid0.coords t) h)).trans ((g_at m c _ _ _).trans ?_)
    rw [Ideal.div_coe log_two_ne, show gRow (grid0.coords t) h = headOf (grid0.coords t) h from rfl, hC, ← EReal.coe_mul, mul_one_div]
  rw [e]
  rw [sum_half h fun x => blkQ m c t (ix2 r x) * blkK m c t (ix2 s x)]
  have e' : ∀ d : Fin 64, blkQ m c t (ix2 r (laneOf h d)) * blkK m c t (ix2 s (laneOf h d))
      = ((q (seqOf (grid0.coords t)) r (headOf (grid0.coords t) h) d * (1 / 8) * (1 / Real.log 2)
          * k (seqOf (grid0.coords t)) s (headOf (grid0.coords t) h) d : ℝ) : EReal) := fun d => by
    rw [blkQ_at, blkK_at, hq, hk, Ideal.div_coe log_two_ne, ← EReal.coe_mul, ← EReal.coe_mul, ← EReal.coe_mul]
  simp only [e']
  rw [← coe_sum, ← EReal.coe_sub]
  congr 1
  rw [sub_div, Finset.sum_mul, Finset.sum_div]
  congr 1
  exact Finset.sum_congr rfl fun x _ => by ring

theorem weight_at (t : Fin cfg0.N) (h : Fin 2) (r s : Fin 2048) :
    weight (grid0.coords t) (blkQ m c t) (blkK m c t) (blkG m c t) h r s.val
      = rowWeight (fun s => ∑ x, q (seqOf (grid0.coords t)) r (headOf (grid0.coords t) h) x * k (seqOf (grid0.coords t)) s (headOf (grid0.coords t) h) x)
          (fun s => C (seqOf (grid0.coords t)) s (headOf (grid0.coords t) h)) r s := by
  unfold weight rowWeight
  rw [show key s.val = s from Fin.ext (Nat.mod_eq_of_lt s.isLt), score_at m c q k C hq hk hC, EReal.toReal_coe]

/-- A grid point's block is the reference's result under it. -/
theorem block_at (t : Fin cfg0.N) (r : Fin 2048) (h : Fin 2) (d : Fin 64) :
    outBlk (grid0.coords t) (blkQ m c t) (blkK m c t) (blkV m c t) (blkG m c t) (ix2 r (laneOf h d))
      = Cert.ReferenceIdeal.Read.val_main_v33 (F := Ideal) (argQ m c) (argK m c) (argV m c) (argG m c)
          (ix2 (rowOf (seqOf (grid0.coords t)) r) (colOf (headOf (grid0.coords t) h) d)) := by
  rw [outBlk_apply (fun h t' s => ⟨_, score_at m c q k C hq hk hC t h t' s⟩)]
  refine Eq.trans ?_ (Cert.ReferenceIdeal.Fox.result_at (argQ m c) (argK m c) (argV m c) (argG m c) q k C hq hk hC
    (seqOf (grid0.coords t)) (headOf (grid0.coords t) h) r d).symm
  unfold entry mean
  rw [show half (laneOf h d) = h from Fin.ext (by show (64 * h.val + d.val) / 64 = _; omega)]
  rw [Finset.sum_range, Finset.sum_range]
  simp only [weight_at m c q k C hq hk hC]
  refine Finset.sum_congr rfl fun s _ => ?_
  congr 1
  rw [show key s.val = s from Fin.ext (Nat.mod_eq_of_lt s.isLt), blkV_at]

/-- The kernel's result array is the reference's result. -/
theorem array_eq : (dats m 0 c).arrAt 4 cfg0.N
    = Cert.ReferenceIdeal.Read.val_main_v33 (F := Ideal) (argQ m c) (argK m c) (argV m c) (argG m c) := by
  refine (dats m 0 c).arrAt_eq_of_covers 4 _ (by decide +kernel) fun t hf y => ?_
  blk_simp
  rw [after0_4]
  simp only [outsAt0]
  rw [out_eq]
  obtain ⟨r, l, rfl⟩ : ∃ (r : Fin 2048) (l : Fin 128), y = ix2 r l := ⟨y 0, y 1, eq_ix2 y⟩
  have el : l = laneOf ⟨l.val / 64, by omega⟩ ⟨l.val % 64, by omega⟩ := Fin.ext (by show l.val = 64 * (l.val / 64) + l.val % 64; omega)
  rw [el, emb4_at]
  exact block_at m c q k C hq hk hC t r _ _

end Finite

end Cert.KernelIdeal.Fox
-- ==== Proof.Finite.lean ====
module

public import proofs.«01_k».proof.Pre_finite
public import proofs.«01_k».proof.Proof.Gen.Pre_finite
public import proofs.«01_k».proof.Proof.Consts
public import Idealize.ShloMosaic.Lib.Pointwise

/-! The precondition says that the queries, the keys and the log gates are real numbers. -/

@[expose] public section

noncomputable section

namespace Cert.Fox

open Idealize.ShloMosaic

/-- A number whose absolute value compares less than the infinity's word is real. -/
theorem real_of_abs_lt (x : EReal)
    (h : FloatOps.cmpf (F := Ideal) .olt (FloatOps.absf (F := Ideal) (φ := .f32) x) (Ideal.ofBits .f32 0x7F800000#32) = 1#1) :
    ∃ r : ℝ, x = (r : EReal) := by
  rw [ofBits_top, Ideal.cmpf_def, Ideal.absf_def] at h
  have hb : x ≠ ⊤ ∧ x ≠ ⊥ := by
    constructor <;> rintro rfl <;> simp [Ideal.cmp] at h
  exact ⟨x.toReal, (EReal.coe_toReal hb.1 hb.2).symm⟩

open Cert.Pre_finite Cert.Pre_finite.Gen in
theorem real_of_pre (x0 x1 x2 : FVec Ideal S16x2048x8x64 .f32) (x3 : FVec Ideal S16x2048x8 .f32)
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2 = (fun _ => 1#1)) :
    (∀ i, ∃ r : ℝ, (x0 i : EReal) = (r : EReal)) ∧ (∀ i, ∃ r : ℝ, (x1 i : EReal) = (r : EReal))
      ∧ ∀ i, ∃ r : ℝ, (x3 i : EReal) = (r : EReal) :=
  ⟨fun i => real_of_abs_lt _ (congrFun h.1 i), fun i => real_of_abs_lt _ (congrFun h.2.1 i), fun i => real_of_abs_lt _ (congrFun h.2.2 i)⟩

end Cert.Fox
-- ==== Proof.lean ====
module

public import proofs.«01_k».proof.Proof.Gen.ExpertsIdeal.Launch
public import proofs.«01_k».proof.Proof.Words
public import proofs.«01_k».proof.Proof.Gen.ExpertsIdeal
public import proofs.«01_k».proof.Proof.Gen.ExpertsReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Experts
public import proofs.«01_k».proof.Proof.Gen.Pre_grouped
public import proofs.«01_k».proof.Proof.Gen.ExpertsReferenceIdeal.Read
public import proofs.«01_k».proof.Proof.Run
public import proofs.«01_k».proof.Proof.Match
public import proofs.«01_k».proof.Proof.Remember
public import proofs.«01_k».proof.Proof.Project
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Finite
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.MemoryReferenceIdeal.Read
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and leaves every counter at zero. -/
theorem frame_reference : Cert.quiescent_ReferenceIdeal (hReferenceIdeal := Cert.ReferenceIdeal.Gen.facts) := by
  intro m g _
  exact (θ_run _ _ _).mono (fun r h => ⟨fun c => (h c).2, sem_eq_zero_of_no_sems rfl _⟩) (Cert.ReferenceIdeal.Value.run m g)

/-- With finite arguments the kernel's result array is the reference's result. -/
theorem value (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) :
    (Cert.KernelIdeal.Gen.dats m 0 c).arrAt 4 Cert.KernelIdeal.cfg0.N
      = Cert.ReferenceIdeal.Read.val_main_v33 (F := Ideal) (Cert.KernelIdeal.Fox.argQ m c) (Cert.KernelIdeal.Fox.argK m c)
          (Cert.KernelIdeal.Fox.argV m c) (Cert.KernelIdeal.Fox.argG m c) := by
  obtain ⟨hq, hk, hg⟩ := Cert.Fox.real_of_pre _ _ _ _ (hpre c)
  choose q hq using hq
  choose k hk using hk
  choose C hC using Cert.ReferenceIdeal.Fox.cum_real _ hg
  exact Cert.KernelIdeal.Fox.array_eq m c (fun b t h d => q (ix4 b t h d)) (fun b t h d => k (ix4 b t h d)) (fun b t h => C (ix3 b t h))
    (fun _ _ _ _ => hq _) (fun _ _ _ _ => hk _) (fun _ _ _ => hC _)

/-- The two ideal programs compute the same function of finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 4 Cert.KernelIdeal.cfg0.N, Cert.KernelIdeal.Value.run_blocks m g, ?_⟩
  refine (θ_run _ _ _).mono (fun r h c => ⟨(h c).1.trans ?_, (h c).2⟩) (Cert.ReferenceIdeal.Value.run m' g')
  refine Eq.trans ?_ (value m hpre c).symm
  rw [Cert.ReferenceIdeal.Read.val_main_v33_eq, (hagree c).1, (hagree c).2.1, (hagree c).2.2.1, (hagree c).2.2.2]

/-- The projection's reference runs, keeps its arguments and leaves every counter at zero. -/
theorem frame_projection : Cert.quiescent_ProjectionReferenceIdeal (hProjectionReferenceIdeal := Cert.ProjectionReferenceIdeal.Gen.facts) := by
  intro m g _
  exact (θ_run _ _ _).mono (fun r h => ⟨fun c => (h c).2.2.2.2, sem_eq_zero_of_no_sems rfl _⟩) (Cert.ProjectionReferenceIdeal.Value.run m g)

/-- All the claims. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Memory.Gen.facts, Cert.MemoryIdeal.Gen.facts, Cert.MemoryReferenceIdeal.Gen.facts,
  Cert.Projection.Gen.facts, Cert.ProjectionIdeal.Gen.facts, Cert.ProjectionReferenceIdeal.Gen.facts,
  Cert.Pre_finite.Gen.facts, Cert.Pre_grouped.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  Grouped.frame_bits, Grouped.frame_ideal, Cert.Feed.frame_reference, fun m ρ _ => Cert.Feed.frame_reference m ρ trivial,
  fun m ρ _ => Cert.Memory.Gen.frame m ρ, fun m ρ _ => Cert.MemoryIdeal.Gen.frame m ρ, Cert.Store.frame_reference,
  fun m ρ _ => Cert.Projection.Gen.frame m ρ, fun m ρ _ => Cert.ProjectionIdeal.Gen.frame m ρ, frame_projection,
  IdealRules.named_const.statement Cert.KernelIdeal.κ "mask" .f32 0xF149F2CA#32 ⊥ rfl, algebraic, trivial, Cert.Feed.algebraic_experts,
  trivial, Cert.Store.algebraic_memory,
  ⟨IdealRules.named_const.statement Cert.ProjectionIdeal.κ "qscale" .f32 0x3E38AA3B#32 (((8 * (Real.log 2))⁻¹ : ℝ) : EReal) rfl,
  IdealRules.named_const.statement Cert.ProjectionIdeal.κ "log2e" .f32 0x3FB8AA3B#32 (((Real.log 2)⁻¹ : ℝ) : EReal) rfl⟩,
  Cert.Proj.algebraic_projection⟩

end Cert.Proof

end
